-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v42)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v162) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Reference (hReference := hReference) (hPre_idx_in_rows := hPre_idx_in_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_idx_in_rows.lean ====
abbrev S147456x512 : Shape := ⟨2, ![147456, 512]⟩
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S147456x512 32) (main_arg1 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 147456#32
  let main_v2 : IVec S65536 32 := broadcastInDim S65536 ![] bcast_S_S65536 main_c_0
  let main_v3 : IVec S65536 1 := cmpi .slt main_arg1 main_v2
  let main_v4 : IVec S65536 1 := andi main_v1 main_v3
  main_v4
-- ==== Kernel.lean ====
abbrev S147456x512 : Shape := ⟨2, ![147456, 512]⟩
abbrev S65536 : Shape := ⟨1, ![65536]⟩
abbrev S1x65536 : Shape := ⟨2, ![1, 65536]⟩
abbrev S65536x512 : Shape := ⟨2, ![65536, 512]⟩
abbrev S2x1x128 : Shape := ⟨3, ![2, 1, 128]⟩
abbrev S2 : Shape := ⟨1, ![2]⟩
abbrev S1x128x512 : Shape := ⟨3, ![1, 128, 512]⟩
abbrev S1 : Shape := ⟨1, ![1]⟩
abbrev S1x1x128 : Shape := ⟨3, ![1, 1, 128]⟩
abbrev S1x128 : Shape := ⟨2, ![1, 128]⟩
abbrev S_ : Shape := ⟨0, ![]⟩
abbrev S128x512 : Shape := ⟨2, ![128, 512]⟩
abbrev S128x128 : Shape := ⟨2, ![128, 128]⟩
abbrev S128 : Shape := ⟨1, ![128]⟩
abbrev S147456x128 : Shape := ⟨2, ![147456, 128]⟩

abbrev nBuf : Table → Nat
  | .hbm => 4
  | .local .scVector .vmem => 2
  | _ => 0

abbrev bufTy : (tb : Table) → Fin (nBuf tb) → BufTy
  | .hbm, ⟨0, _⟩ => ⟨S147456x512, .i32⟩
  | .hbm, ⟨1, _⟩ => ⟨S65536, .i32⟩
  | .hbm, ⟨2, _⟩ => ⟨S1x65536, .i32⟩
  | .hbm, ⟨3, _⟩ => ⟨S65536x512, .i32⟩
  | .local .scVector .vmem, ⟨0, _⟩ => ⟨S2x1x128, .i32⟩
  | .local .scVector .vmem, ⟨1, _⟩ => ⟨S1x128x512, .i32⟩
  | _, _ => ⟨S147456x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k0_off4 (arg6_r0 : BitVec 32) : Fin 3 → Nat :=
  let c2_i32_97_r0 : BitVec 32 := 2#32
  let v137_r0 : BitVec 32 := Scalar.remui arg6_r0 c2_i32_97_r0
  let c0_i32_99_r0 : BitVec 32 := 0#32
  let c0_i32_100_r0 : BitVec 32 := 0#32
  ![v137_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v58_r0 : BitVec 32 := Scalar.addi arg10_r0 v4
  let true_56_r0 : BitVec 1 := 1#1
  let c1_i32_55_r0 : BitVec 32 := 1#32
  let v64_r0 : BitVec 32 := Scalar.addi arg10_r0 c1_i32_55_r0
  let v65_r0 : BitVec 32 := Scalar.select true_56_r0 v64_r0 arg10_r0
  let c16_i32_57_r0 : BitVec 32 := 16#32
  let v66_r0 : BitVec 1 := Scalar.cmpi .eq v65_r0 c16_i32_57_r0
  let c0_i32_58_r0 : BitVec 32 := 0#32
  let v67_r0 : BitVec 32 := Scalar.select v66_r0 c0_i32_58_r0 v65_r0
  let v68_r0 : BitVec 32 := Scalar.addi v67_r0 v4
  let v74_r0 : BitVec 1 := Scalar.cmpi .ne v58_r0 v68_r0
  let c0_i32_27_r0 : BitVec 32 := 0#32
  let c1_i32_29_r0 : BitVec 32 := 1#32
  let arg5_r0 : BitVec 32 := Scf.iv c0_i32_27_r0 c1_i32_29_r0 k0_t1
  let c15_i32_63_r0 : BitVec 32 := 15#32
  let v75_r0 : BitVec 1 := Scalar.cmpi .sge arg5_r0 c15_i32_63_r0
  let true_64_r0 : BitVec 1 := 1#1
  let v76_r0 : BitVec 1 := Scalar.xori v75_r0 true_64_r0
  let v77_r0 : BitVec 1 := Scalar.andi v74_r0 v76_r0
  let true_65_r0 : BitVec 1 := 1#1
  let v78_r0 : BitVec 1 := Scalar.andi v77_r0 true_65_r0
  let v79_r0 : BitVec 32 := Scalar.extui v78_r0
  let c0_i32_66_r0 : BitVec 32 := 0#32
  let v80_r0 : BitVec 1 := Scalar.cmpi .ne v79_r0 c0_i32_66_r0
  v80_r0

def k0_off5 (i : grid0.Coords) (arg10_r0 : BitVec 32) : Fin 2 → Nat :=
  let c0_i32_101_r0 : BitVec 32 := 0#32
  let c128_i32_98_r0 : BitVec 32 := 128#32
  let true_56_r0 : BitVec 1 := 1#1
  let c1_i32_55_r0 : BitVec 32 := 1#32
  let v64_r0 : BitVec 32 := Scalar.addi arg10_r0 c1_i32_55_r0
  let v65_r0 : BitVec 32 := Scalar.select true_56_r0 v64_r0 arg10_r0
  let c16_i32_57_r0 : BitVec 32 := 16#32
  let v66_r0 : BitVec 1 := Scalar.cmpi .eq v65_r0 c16_i32_57_r0
  let c0_i32_58_r0 : BitVec 32 := 0#32
  let v67_r0 : BitVec 32 := Scalar.select v66_r0 c0_i32_58_r0 v65_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v68_r0 : BitVec 32 := Scalar.addi v67_r0 v4
  let v138_r0 : BitVec 32 := Scalar.muli c128_i32_98_r0 v68_r0
  ![0, v138_r0.toNat]
def k0_off6 (arg6_r0 : BitVec 32) : Fin 1 → Nat :=
  let c2_i32_97_r0 : BitVec 32 := 2#32
  let v137_r0 : BitVec 32 := Scalar.remui arg6_r0 c2_i32_97_r0
  ![v137_r0.toNat]
def k0_off7 (arg7_r0 : BitVec 32) : Fin 3 → Nat :=
  let c2_i32_98_r0 : BitVec 32 := 2#32
  let v138_r0 : BitVec 32 := Scalar.remui arg7_r0 c2_i32_98_r0
  let c0_i32_99_r0 : BitVec 32 := 0#32
  let c0_i32_100_r0 : BitVec 32 := 0#32
  ![v138_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v58_r0 : BitVec 32 := Scalar.addi arg10_r0 v4
  let true_52_r0 : BitVec 1 := 1#1
  let c1_i32_51_r0 : BitVec 32 := 1#32
  let v59_r0 : BitVec 32 := Scalar.subi arg10_r0 c1_i32_51_r0
  let v60_r0 : BitVec 32 := Scalar.select true_52_r0 v59_r0 arg10_r0
  let c_m1_i32_53_r0 : BitVec 32 := 4294967295#32
  let v61_r0 : BitVec 1 := Scalar.cmpi .eq v60_r0 c_m1_i32_53_r0
  let c15_i32_54_r0 : BitVec 32 := 15#32
  let v62_r0 : BitVec 32 := Scalar.select v61_r0 c15_i32_54_r0 v60_r0
  let v63_r0 : BitVec 32 := Scalar.addi v62_r0 v4
  let v89_r0 : BitVec 1 := Scalar.cmpi .ne v58_r0 v63_r0
  let c0_i32_27_r0 : BitVec 32 := 0#32
  let c1_i32_29_r0 : BitVec 32 := 1#32
  let arg5_r0 : BitVec 32 := Scf.iv c0_i32_27_r0 c1_i32_29_r0 k0_t1
  let c0_i32_49_r0 : BitVec 32 := 0#32
  let v56_r0 : BitVec 1 := Scalar.cmpi .eq arg5_r0 c0_i32_49_r0
  let v90_r0 : BitVec 1 := Scalar.ori v89_r0 v56_r0
  let c0_i32_71_r0 : BitVec 32 := 0#32
  let v91_r0 : BitVec 1 := Scalar.cmpi .sge arg5_r0 c0_i32_71_r0
  let v92_r0 : BitVec 1 := Scalar.andi v90_r0 v91_r0
  let v93_r0 : BitVec 32 := Scalar.extui v92_r0
  let c0_i32_72_r0 : BitVec 32 := 0#32
  let v94_r0 : BitVec 1 := Scalar.cmpi .ne v93_r0 c0_i32_72_r0
  v94_r0

def k0_off8 (i : grid0.Coords) (arg10_r0 : BitVec 32) : Fin 2 → Nat :=
  let c0_i32_101_r0 : BitVec 32 := 0#32
  let c128_i32_97_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v58_r0 : BitVec 32 := Scalar.addi arg10_r0 v4
  let v137_r0 : BitVec 32 := Scalar.muli c128_i32_97_r0 v58_r0
  ![0, v137_r0.toNat]
def k0_off9 (arg7_r0 : BitVec 32) : Fin 1 → Nat :=
  let c2_i32_98_r0 : BitVec 32 := 2#32
  let v138_r0 : BitVec 32 := Scalar.remui arg7_r0 c2_i32_98_r0
  ![v138_r0.toNat]
def k0_off10 (arg8_r0 : BitVec 32) : Fin 3 → Nat :=
  let c1_i32_76_r0 : BitVec 32 := 1#32
  let v102_r0 : BitVec 32 := Scalar.remui arg8_r0 c1_i32_76_r0
  let c0_i32_97_r1 : BitVec 32 := 0#32
  let c0_i32_98_r1 : BitVec 32 := 0#32
  ![v102_r0.toNat, 0, 0]

def k0_chk2 (arg8_r0 : BitVec 32) : Prop :=
  (∀ a, (k0_off10 arg8_r0) a + S1x128x512.size a ≤ S1x128x512.size a)
theorem k0_off10_inb : ∀ (arg8_r0 : BitVec 32) (k0_hw2 : k0_chk2 arg8_r0), ∀ a, (k0_off10 arg8_r0) a + S1x128x512.size a ≤ S1x128x512.size a := fun arg8_r0 k0_hw2 => k0_hw2

def k0_off11 (arg7_r0 : BitVec 32) : Fin 3 → Nat :=
  let c2_i32_75_r0 : BitVec 32 := 2#32
  let v101_r0 : BitVec 32 := Scalar.remui arg7_r0 c2_i32_75_r0
  let c0_i32_101_r1 : BitVec 32 := 0#32
  let c0_i32_102_r1 : BitVec 32 := 0#32
  ![v101_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c1_i32_97_r0 : BitVec 32 := 1#32
  let v137_r0 : BitVec 32 := Scalar.remui arg8_r0 c1_i32_97_r0
  let c0_i32_99_r5 : BitVec 32 := 0#32
  let c0_i32_100_r5 : BitVec 32 := 0#32
  ![v137_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v58_r0 : BitVec 32 := Scalar.addi arg10_r0 v4
  let true_56_r0 : BitVec 1 := 1#1
  let c1_i32_55_r0 : BitVec 32 := 1#32
  let v64_r0 : BitVec 32 := Scalar.addi arg10_r0 c1_i32_55_r0
  let v65_r0 : BitVec 32 := Scalar.select true_56_r0 v64_r0 arg10_r0
  let c16_i32_57_r0 : BitVec 32 := 16#32
  let v66_r0 : BitVec 1 := Scalar.cmpi .eq v65_r0 c16_i32_57_r0
  let c0_i32_58_r0 : BitVec 32 := 0#32
  let v67_r0 : BitVec 32 := Scalar.select v66_r0 c0_i32_58_r0 v65_r0
  let v68_r0 : BitVec 32 := Scalar.addi v67_r0 v4
  let v108_r0 : BitVec 1 := Scalar.cmpi .ne v58_r0 v68_r0
  let c0_i32_27_r0 : BitVec 32 := 0#32
  let c1_i32_29_r0 : BitVec 32 := 1#32
  let arg5_r0 : BitVec 32 := Scf.iv c0_i32_27_r0 c1_i32_29_r0 k0_t1
  let c15_i32_50_r0 : BitVec 32 := 15#32
  let v57_r0 : BitVec 1 := Scalar.cmpi .eq arg5_r0 c15_i32_50_r0
  let v109_r0 : BitVec 1 := Scalar.ori v108_r0 v57_r0
  let v110_r0 : BitVec 32 := Scalar.extui v109_r0
  let c0_i32_82_r0 : BitVec 32 := 0#32
  let v111_r0 : BitVec 1 := Scalar.cmpi .ne v110_r0 c0_i32_82_r0
  v111_r0

def k0_off13 (i : grid0.Coords) (arg10_r0 : BitVec 32) : Fin 2 → Nat :=
  let c128_i32_98_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v58_r0 : BitVec 32 := Scalar.addi arg10_r0 v4
  let v138_r0 : BitVec 32 := Scalar.muli c128_i32_98_r0 v58_r0
  let c0_i32_101_r5 : BitVec 32 := 0#32
  ![v138_r0.toNat, 0]

def k0_chk1 (i : grid0.Coords) (k0_t1 : Fin k0_t1_loop.trips) (arg6_r0 : BitVec 32) (arg7_r0 : BitVec 32) (arg8_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x512.size a ≤ S1x128x512.size a) ∧
  (∀ (k0_h5 : k0_cond5 i k0_t1 arg10_r0 = 1#1), ∀ a, (k0_off13 i arg10_r0) a + S128x512.size a ≤ S65536x512.size a)
theorem k0_off4_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h1 : k0_cond1 i k0_t1 arg10_r0 = 1#1), ∀ a, (k0_off5 i arg10_r0) a + S1x128.size a ≤ S1x65536.size a := fun i k0_t1 arg6_r0 arg7_r0 arg8_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h1 : k0_cond1 i k0_t1 arg10_r0 = 1#1), ∀ a, (k0_off6 arg6_r0) a + S1.size a ≤ S2.size a := fun i k0_t1 arg6_r0 arg7_r0 arg8_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h2 : k0_cond2 i k0_t1 arg10_r0 = 1#1), ∀ a, (k0_off8 i arg10_r0) a + S1x128.size a ≤ S1x65536.size a := fun i k0_t1 arg6_r0 arg7_r0 arg8_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h2 : k0_cond2 i k0_t1 arg10_r0 = 1#1), ∀ a, (k0_off9 arg7_r0) a + S1.size a ≤ S2.size a := fun i k0_t1 arg6_r0 arg7_r0 arg8_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h5 : k0_cond5 i k0_t1 arg10_r0 = 1#1), ∀ a, (k0_off12 arg8_r0) a + S1x128x512.size a ≤ S1x128x512.size a := fun i k0_t1 arg6_r0 arg7_r0 arg8_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg10_r0 : BitVec 32) (k0_hw1 : k0_chk1 i k0_t1 arg6_r0 arg7_r0 arg8_r0 arg10_r0), ∀ (k0_h5 : k0_cond5 i k0_t1 arg10_r0 = 1#1), ∀ a, (k0_off13 i arg10_r0) a + S128x512.size a ≤ S65536x512.size a := fun i k0_t1 arg6_r0 arg7_r0 arg8_r0 arg10_r0 k0_hw1 k0_h5 => k0_hw1.2.2.2.2.2.2.2 k0_h5

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S147456x512 : Shape := ⟨2, ![147456, 512]⟩
abbrev S65536 : Shape := ⟨1, ![65536]⟩
abbrev S_ : Shape := ⟨0, ![]⟩
abbrev S65536x1 : Shape := ⟨2, ![65536, 1]⟩
abbrev S65536x512 : Shape := ⟨2, ![65536, 512]⟩

abbrev nBuf : Space → Nat
  | .hbm => 11
  | .vmem => 0
  | .smem => 0
  | _ => 0

abbrev bufTy : (tb : Table) → Fin (tcTables nBuf tb) → BufTy
  | .hbm, ⟨0, _⟩ => ⟨S147456x512, .i32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S65536x512, .i32⟩
  | _, _ => ⟨S147456x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S147456x512 : Shape := ⟨2, ![147456, 512]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S2x32x1x2048 : Shape := ⟨4, ![2, 32, 1, 2048]⟩
abbrev S2x32x1x1024 : Shape := ⟨4, ![2, 32, 1, 1024]⟩
abbrev S147456x1024 : Shape := ⟨2, ![147456, 1024]⟩
abbrev S512x512 : Shape := ⟨2, ![512, 512]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 99
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S32, .i32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S288, .i32⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S1x32, .i32⟩
  | .hbm, ⟨42, _⟩ => ⟨S288x1, .i32⟩
  | .hbm, ⟨43, _⟩ => ⟨S288x32, .i32⟩
  | .hbm, ⟨44, _⟩ => ⟨S288x32, .i32⟩
  | .hbm, ⟨45, _⟩ => ⟨S288x32, .i1⟩
  | .hbm, ⟨46, _⟩ => ⟨S288x32, .i32⟩
  | .hbm, ⟨47, _⟩ => ⟨S_, .i32⟩
  | .hbm, ⟨48, _⟩ => ⟨S288, .i32⟩
  | .hbm, ⟨49, _⟩ => ⟨S_, .i32⟩
  | .hbm, ⟨50, _⟩ => ⟨S288, .i32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S1, .i32⟩
  | .hbm, ⟨55, _⟩ => ⟨S1, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i1⟩
  | .hbm, ⟨60, _⟩ => ⟨S1, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S1, .i1⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288, .i32⟩
  | .hbm, ⟨78, _⟩ => ⟨S_, .i32⟩
  | .hbm, ⟨79, _⟩ => ⟨S288, .i32⟩
  | .hbm, ⟨80, _⟩ => ⟨S288, .i1⟩
  | .hbm, ⟨81, _⟩ => ⟨S_, .i32⟩
  | .hbm, ⟨82, _⟩ => ⟨S288, .i32⟩
  | .hbm, ⟨83, _⟩ => ⟨S288, .i32⟩
  | .hbm, ⟨84, _⟩ => ⟨S288, .i32⟩
  | .hbm, ⟨85, _⟩ => ⟨S288x1, .i32⟩
  | .hbm, ⟨86, _⟩ => ⟨S288, .i32⟩
  | .hbm, ⟨87, _⟩ => ⟨S288, .i32⟩
  | .hbm, ⟨88, _⟩ => ⟨S288, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S288, .i32⟩
  | .hbm, ⟨93, _⟩ => ⟨S288, .i32⟩
  | .hbm, ⟨94, _⟩ => ⟨S_, .i32⟩
  | .hbm, ⟨95, _⟩ => ⟨S288, .i32⟩
  | .hbm, ⟨96, _⟩ => ⟨S2x32x1x2048, .f32⟩
  | .hbm, ⟨97, _⟩ => ⟨S2x32x1x1024, .f32⟩
  | .hbm, ⟨98, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v21 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_c_7 : Ref sig .tc := ⟨.hbm, 69, rfl⟩
abbrev main_v23 : Ref sig .tc := ⟨.hbm, 70, rfl⟩
abbrev main_v24 : Ref sig .tc := ⟨.hbm, 71, rfl⟩
abbrev main_c_8 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_9 : Ref sig .tc := ⟨.hbm, 78, rfl⟩
abbrev main_v30 : Ref sig .tc := ⟨.hbm, 79, rfl⟩
abbrev main_v31 : Ref sig .tc := ⟨.hbm, 80, rfl⟩
abbrev main_c_10 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v20 : Ref sig .tc := ⟨.smem, 0, rfl⟩
abbrev main_v22 : Ref sig .tc := ⟨.smem, 1, rfl⟩
abbrev main_v39 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_v20.idx, main_v22.idx, main_v39.idx], fun | 0 => main_v20.names | 1 => main_v22.names | 2 => main_v39.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (i : grid0.Coords) : Fin 1 → Nat :=
  let arg0 : BitVec 32 := BitVec.ofNat 32 (i 0).val
  let v21 : Index := Scalar.indexCast arg0
  ![v21.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S147456x512 : Shape := ⟨2, ![147456, 512]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S512 : Shape := ⟨1, ![512]⟩
abbrev S1x512 : Shape := ⟨2, ![1, 512]⟩
abbrev S288x512 : Shape := ⟨2, ![288, 512]⟩
abbrev S288x512x1 : Shape := ⟨3, ![288, 512, 1]⟩
abbrev S147456x512x2 : Shape := ⟨3, ![147456, 512, 2]⟩
abbrev S147456x512x1 : Shape := ⟨3, ![147456, 512, 1]⟩
abbrev S147456x1024 : Shape := ⟨2, ![147456, 1024]⟩
abbrev S288x512x1024 : Shape := ⟨3, ![288, 512, 1024]⟩
abbrev S288x4 : Shape := ⟨2, ![288, 4]⟩
abbrev S288x1x1x1024x2048 : Shape := ⟨5, ![288, 1, 1, 1024, 2048]⟩
abbrev S288x1024x2048 : Shape := ⟨3, ![288, 1024, 2048]⟩
abbrev S288x512x2048 : Shape := ⟨3, ![288, 512, 2048]⟩
abbrev S288x3 : Shape := ⟨2, ![288, 3]⟩
abbrev S288x1x1x2048 : Shape := ⟨4, ![288, 1, 1, 2048]⟩
abbrev S288x2048 : Shape := ⟨2, ![288, 2048]⟩
abbrev S288x1x2048 : Shape := ⟨3, ![288, 1, 2048]⟩
abbrev S288x1x1x1024x1024 : Shape := ⟨5, ![288, 1, 1, 1024, 1024]⟩
abbrev S288x1024x1024 : Shape := ⟨3, ![288, 1024, 1024]⟩
abbrev S288x1x1x1024 : Shape := ⟨4, ![288, 1, 1, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 293
  | .vmem => 0
  | .smem => 0
  | _ => 0

abbrev hbmTy0_0 (i : Nat) : BufTy := match i % 128 with
  | 0 => ⟨S147456x512, .i32⟩
  | 1 => ⟨S32, .i32⟩
  | 2 => ⟨S2x32x1024x2048, .f32⟩
  | 3 => ⟨S2x32x2048, .f32⟩
  | 4 => ⟨S2x32x1024x1024, .f32⟩
  | 5 => ⟨S2x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S32, .i32⟩
  | 37 => ⟨S288, .i32⟩
  | 38 => ⟨S_, .i32⟩
  | 39 => ⟨S288, .i32⟩
  | 40 => ⟨S288, .i32⟩
  | 41 => ⟨S1x32, .i32⟩
  | 42 => ⟨S288x1, .i32⟩
  | 43 => ⟨S288x32, .i32⟩
  | 44 => ⟨S288x32, .i32⟩
  | 45 => ⟨S288x32, .i1⟩
  | 46 => ⟨S288x32, .i32⟩
  | 47 => ⟨S_, .i32⟩
  | 48 => ⟨S288, .i32⟩
  | 49 => ⟨S_, .i32⟩
  | 50 => ⟨S288, .i32⟩
  | 51 => ⟨S288, .i32⟩
  | 52 => ⟨S1, .i32⟩
  | 53 => ⟨S_, .i32⟩
  | 54 => ⟨S_, .i32⟩
  | 55 => ⟨S1, .i32⟩
  | 56 => ⟨S1, .i32⟩
  | 57 => ⟨S1, .i32⟩
  | 58 => ⟨S_, .i32⟩
  | 59 => ⟨S1, .i32⟩
  | 60 => ⟨S1, .i1⟩
  | 61 => ⟨S1, .i32⟩
  | 62 => ⟨S1, .i32⟩
  | 63 => ⟨S_, .i32⟩
  | 64 => ⟨S1, .i32⟩
  | 65 => ⟨S1, .i1⟩
  | 66 => ⟨S1, .i1⟩
  | 67 => ⟨S_, .i32⟩
  | 68 => ⟨S1, .i32⟩
  | 69 => ⟨S1, .i32⟩
  | 70 => ⟨S1, .i32⟩
  | 71 => ⟨S_, .i32⟩
  | 72 => ⟨S288, .i32⟩
  | 73 => ⟨S288, .i1⟩
  | 74 => ⟨S_, .i32⟩
  | 75 => ⟨S288, .i32⟩
  | 76 => ⟨S288, .i32⟩
  | 77 => ⟨S288, .i32⟩
  | 78 => ⟨S288x1, .i32⟩
  | 79 => ⟨S288, .i32⟩
  | 80 => ⟨S_, .i32⟩
  | 81 => ⟨S288, .i32⟩
  | 82 => ⟨S288, .i1⟩
  | 83 => ⟨S_, .i32⟩
  | 84 => ⟨S288, .i32⟩
  | 85 => ⟨S288, .i32⟩
  | 86 => ⟨S288, .i32⟩
  | 87 => ⟨S288x1, .i32⟩
  | 88 => ⟨S288, .i32⟩
  | 89 => ⟨S288, .i32⟩
  | 90 => ⟨S288, .i32⟩
  | 91 => ⟨S512, .i32⟩
  | 92 => ⟨S1x512, .i32⟩
  | 93 => ⟨S288x1, .i32⟩
  | 94 => ⟨S288x512, .i32⟩
  | 95 => ⟨S288x512, .i32⟩
  | 96 => ⟨S288x512, .i1⟩
  | 97 => ⟨S288, .i32⟩
  | 98 => ⟨S288, .i32⟩
  | 99 => ⟨S288, .i1⟩
  | 100 => ⟨S288x512x1, .i1⟩
  | 101 => ⟨S147456x512x2, .bf16⟩
  | 102 => ⟨S147456x512x2, .f32⟩
  | 103 => ⟨S147456x512x1, .f32⟩
  | 104 => ⟨S147456x512, .f32⟩
  | 105 => ⟨S147456x512x1, .f32⟩
  | 106 => ⟨S147456x512, .f32⟩
  | 107 => ⟨S147456x1024, .f32⟩
  | 108 => ⟨S288x512x1024, .f32⟩
  | 109 => ⟨S_, .f32⟩
  | 110 => ⟨S_, .f32⟩
  | 111 => ⟨S288x512x1024, .i1⟩
  | 112 => ⟨S288x512x1024, .f32⟩
  | 113 => ⟨S288x512x1024, .f32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S288, .i32⟩
  | 124 => ⟨S288, .i1⟩
  | 125 => ⟨S_, .i32⟩
  | 126 => ⟨S288, .i32⟩
  | 127 => ⟨S288, .i32⟩
  | _ => ⟨S147456x512, .i32⟩

abbrev hbmTy0_1 (i : Nat) : BufTy := match i % 128 with
  | 0 => ⟨S288, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S288x1, .i32⟩
  | 18 => ⟨S288x1, .i32⟩
  | 19 => ⟨S288x1, .i32⟩
  | 20 => ⟨S288x1, .i32⟩
  | 21 => ⟨S288x4, .i32⟩
  | 22 => ⟨S288x1x1x1024x2048, .f32⟩
  | 23 => ⟨S288x1024x2048, .f32⟩
  | 24 => ⟨S288x512x2048, .f32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S288, .i32⟩
  | 35 => ⟨S288, .i1⟩
  | 36 => ⟨S_, .i32⟩
  | 37 => ⟨S288, .i32⟩
  | 38 => ⟨S288, .i32⟩
  | 39 => ⟨S288, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S288x1, .i32⟩
  | 49 => ⟨S288x1, .i32⟩
  | 50 => ⟨S288x1, .i32⟩
  | 51 => ⟨S288x3, .i32⟩
  | 52 => ⟨S288x1x1x2048, .f32⟩
  | 53 => ⟨S288x2048, .f32⟩
  | 54 => ⟨S288x1x2048, .f32⟩
  | 55 => ⟨S288x512x2048, .f32⟩
  | 56 => ⟨S288x512x2048, .f32⟩
  | 57 => ⟨S288x512x1024, .f32⟩
  | 58 => ⟨S288x512x1024, .f32⟩
  | 59 => ⟨S_, .f32⟩
  | 60 => ⟨S288x512x1024, .f32⟩
  | 61 => ⟨S288x512x1024, .f32⟩
  | 62 => ⟨S_, .f32⟩
  | 63 => ⟨S_, .f32⟩
  | 64 => ⟨S_, .f32⟩
  | 65 => ⟨S288x512x1024, .f32⟩
  | 66 => ⟨S288x512x1024, .f32⟩
  | 67 => ⟨S_, .f32⟩
  | 68 => ⟨S288x512x1024, .f32⟩
  | 69 => ⟨S288x512x1024, .f32⟩
  | 70 => ⟨S_, .f32⟩
  | 71 => ⟨S288x512x1024, .f32⟩
  | 72 => ⟨S288x512x1024, .f32⟩
  | 73 => ⟨S288x512x1024, .f32⟩
  | 74 => ⟨S288x512x1024, .f32⟩
  | 75 => ⟨S_, .f32⟩
  | 76 => ⟨S288x512x1024, .f32⟩
  | 77 => ⟨S288x512x1024, .f32⟩
  | 78 => ⟨S_, .f32⟩
  | 79 => ⟨S288x512x1024, .f32⟩
  | 80 => ⟨S288x512x1024, .f32⟩
  | 81 => ⟨S288x512x1024, .f32⟩
  | 82 => ⟨S_, .f32⟩
  | 83 => ⟨S288x512x1024, .f32⟩
  | 84 => ⟨S288x512x1024, .f32⟩
  | 85 => ⟨S288x512x1024, .f32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S288, .i32⟩
  | 96 => ⟨S288, .i1⟩
  | 97 => ⟨S_, .i32⟩
  | 98 => ⟨S288, .i32⟩
  | 99 => ⟨S288, .i32⟩
  | 100 => ⟨S288, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S288x1, .i32⟩
  | 118 => ⟨S288x1, .i32⟩
  | 119 => ⟨S288x1, .i32⟩
  | 120 => ⟨S288x1, .i32⟩
  | 121 => ⟨S288x4, .i32⟩
  | 122 => ⟨S288x1x1x1024x1024, .f32⟩
  | 123 => ⟨S288x1024x1024, .f32⟩
  | 124 => ⟨S288x512x1024, .f32⟩
  | 125 => ⟨S_, .i32⟩
  | 126 => ⟨S_, .i32⟩
  | 127 => ⟨S_, .i1⟩
  | _ => ⟨S147456x512, .i32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S288, .i32⟩
  | 7 => ⟨S288, .i1⟩
  | 8 => ⟨S_, .i32⟩
  | 9 => ⟨S288, .i32⟩
  | 10 => ⟨S288, .i32⟩
  | 11 => ⟨S288, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S288x1, .i32⟩
  | 21 => ⟨S288x1, .i32⟩
  | 22 => ⟨S288x1, .i32⟩
  | 23 => ⟨S288x3, .i32⟩
  | 24 => ⟨S288x1x1x1024, .f32⟩
  | 25 => ⟨S288x1024, .f32⟩
  | 26 => ⟨S288x1x1024, .f32⟩
  | 27 => ⟨S288x512x1024, .f32⟩
  | 28 => ⟨S288x512x1024, .f32⟩
  | 29 => ⟨S288x1x1, .i1⟩
  | 30 => ⟨S_, .f32⟩
  | 31 => ⟨S_, .f32⟩
  | 32 => ⟨S288x512x1024, .i1⟩
  | 33 => ⟨S288x512x1024, .f32⟩
  | 34 => ⟨S288x512x1024, .f32⟩
  | 35 => ⟨S147456x1024, .f32⟩
  | 36 => ⟨S147456x1024, .bf16⟩
  | _ => ⟨S147456x512, .i32⟩

abbrev hbmTy (i : Nat) : BufTy := match i / 128 with
  | 0 => hbmTy0_0 i
  | 1 => hbmTy0_1 i
  | 2 => hbmTy0_2 i
  | _ => ⟨S147456x512, .i32⟩

abbrev bufTy : (tb : Table) → Fin (tcTables nBuf tb) → BufTy
  | .hbm, ⟨i, _⟩ => hbmTy i
  | _, _ => ⟨S147456x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v22 : Ref sig .tc := ⟨.hbm, 70, rfl⟩
abbrev main_c_7 : Ref sig .tc := ⟨.hbm, 71, rfl⟩
abbrev main_v23 : Ref sig .tc := ⟨.hbm, 72, rfl⟩
abbrev main_v24 : Ref sig .tc := ⟨.hbm, 73, rfl⟩
abbrev main_c_8 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_9 : Ref sig .tc := ⟨.hbm, 80, rfl⟩
abbrev main_v30 : Ref sig .tc := ⟨.hbm, 81, rfl⟩
abbrev main_v31 : Ref sig .tc := ⟨.hbm, 82, rfl⟩
abbrev main_c_10 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v57 : Ref sig .tc := ⟨.hbm, 113, rfl⟩
abbrev main_c_11 : Ref sig .tc := ⟨.hbm, 114, rfl⟩
abbrev main_c_12 : Ref sig .tc := ⟨.hbm, 115, rfl⟩
abbrev main_v58 : Ref sig .tc := ⟨.hbm, 116, rfl⟩
abbrev main_c_13 : Ref sig .tc := ⟨.hbm, 117, rfl⟩
abbrev main_c_14 : Ref sig .tc := ⟨.hbm, 118, rfl⟩
abbrev main_v59 : Ref sig .tc := ⟨.hbm, 119, rfl⟩
abbrev main_c_15 : Ref sig .tc := ⟨.hbm, 120, rfl⟩
abbrev main_v60 : Ref sig .tc := ⟨.hbm, 121, rfl⟩
abbrev main_c_16 : Ref sig .tc := ⟨.hbm, 122, rfl⟩
abbrev main_v61 : Ref sig .tc := ⟨.hbm, 123, rfl⟩
abbrev main_v62 : Ref sig .tc := ⟨.hbm, 124, rfl⟩
abbrev main_c_17 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_c_18 : Ref sig .tc := ⟨.hbm, 129, rfl⟩
abbrev main_c_19 : Ref sig .tc := ⟨.hbm, 130, rfl⟩
abbrev main_v66 : Ref sig .tc := ⟨.hbm, 131, rfl⟩
abbrev main_c_20 : Ref sig .tc := ⟨.hbm, 132, rfl⟩
abbrev main_c_21 : Ref sig .tc := ⟨.hbm, 133, rfl⟩
abbrev main_v67 : Ref sig .tc := ⟨.hbm, 134, rfl⟩
abbrev main_c_22 : Ref sig .tc := ⟨.hbm, 135, rfl⟩
abbrev main_v68 : Ref sig .tc := ⟨.hbm, 136, rfl⟩
abbrev main_c_23 : Ref sig .tc := ⟨.hbm, 137, rfl⟩
abbrev main_c_24 : Ref sig .tc := ⟨.hbm, 138, rfl⟩
abbrev main_v69 : Ref sig .tc := ⟨.hbm, 139, rfl⟩
abbrev main_c_25 : Ref sig .tc := ⟨.hbm, 140, rfl⟩
abbrev main_c_26 : Ref sig .tc := ⟨.hbm, 141, rfl⟩
abbrev main_v70 : Ref sig .tc := ⟨.hbm, 142, rfl⟩
abbrev main_c_27 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_c_28 : Ref sig .tc := ⟨.hbm, 153, rfl⟩
abbrev main_c_29 : Ref sig .tc := ⟨.hbm, 154, rfl⟩
abbrev main_v80 : Ref sig .tc := ⟨.hbm, 155, rfl⟩
abbrev main_c_30 : Ref sig .tc := ⟨.hbm, 156, rfl⟩
abbrev main_c_31 : Ref sig .tc := ⟨.hbm, 157, rfl⟩
abbrev main_v81 : Ref sig .tc := ⟨.hbm, 158, rfl⟩
abbrev main_c_32 : Ref sig .tc := ⟨.hbm, 159, rfl⟩
abbrev main_v82 : Ref sig .tc := ⟨.hbm, 160, rfl⟩
abbrev main_c_33 : Ref sig .tc := ⟨.hbm, 161, rfl⟩
abbrev main_v83 : Ref sig .tc := ⟨.hbm, 162, rfl⟩
abbrev main_v84 : Ref sig .tc := ⟨.hbm, 163, rfl⟩
abbrev main_c_34 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_c_35 : Ref sig .tc := ⟨.hbm, 168, rfl⟩
abbrev main_c_36 : Ref sig .tc := ⟨.hbm, 169, rfl⟩
abbrev main_v88 : Ref sig .tc := ⟨.hbm, 170, rfl⟩
abbrev main_c_37 : Ref sig .tc := ⟨.hbm, 171, rfl⟩
abbrev main_c_38 : Ref sig .tc := ⟨.hbm, 172, rfl⟩
abbrev main_v89 : Ref sig .tc := ⟨.hbm, 173, rfl⟩
abbrev main_c_39 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_cst_40 : Ref sig .tc := ⟨.hbm, 187, rfl⟩
abbrev main_v102 : Ref sig .tc := ⟨.hbm, 188, rfl⟩
abbrev main_v103 : Ref sig .tc := ⟨.hbm, 189, rfl⟩
abbrev main_cst_41 : Ref sig .tc := ⟨.hbm, 190, rfl⟩
abbrev main_cst_42 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_v104 : Ref sig .tc := ⟨.hbm, 197, rfl⟩
abbrev main_cst_43 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_cst_44 : Ref sig .tc := ⟨.hbm, 203, rfl⟩
abbrev main_v109 : Ref sig .tc := ⟨.hbm, 204, rfl⟩
abbrev main_v110 : Ref sig .tc := ⟨.hbm, 205, rfl⟩
abbrev main_cst_45 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_cst_46 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_c_47 : Ref sig .tc := ⟨.hbm, 214, rfl⟩
abbrev main_c_48 : Ref sig .tc := ⟨.hbm, 215, rfl⟩
abbrev main_v117 : Ref sig .tc := ⟨.hbm, 216, rfl⟩
abbrev main_c_49 : Ref sig .tc := ⟨.hbm, 217, rfl⟩
abbrev main_c_50 : Ref sig .tc := ⟨.hbm, 218, rfl⟩
abbrev main_v118 : Ref sig .tc := ⟨.hbm, 219, rfl⟩
abbrev main_c_51 : Ref sig .tc := ⟨.hbm, 220, rfl⟩
abbrev main_v119 : Ref sig .tc := ⟨.hbm, 221, rfl⟩
abbrev main_c_52 : Ref sig .tc := ⟨.hbm, 222, rfl⟩
abbrev main_v120 : Ref sig .tc := ⟨.hbm, 223, rfl⟩
abbrev main_v121 : Ref sig .tc := ⟨.hbm, 224, rfl⟩
abbrev main_c_53 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_c_54 : Ref sig .tc := ⟨.hbm, 229, rfl⟩
abbrev main_c_55 : Ref sig .tc := ⟨.hbm, 230, rfl⟩
abbrev main_v125 : Ref sig .tc := ⟨.hbm, 231, rfl⟩
abbrev main_c_56 : Ref sig .tc := ⟨.hbm, 232, rfl⟩
abbrev main_c_57 : Ref sig .tc := ⟨.hbm, 233, rfl⟩
abbrev main_v126 : Ref sig .tc := ⟨.hbm, 234, rfl⟩
abbrev main_c_58 : Ref sig .tc := ⟨.hbm, 235, rfl⟩
abbrev main_v127 : Ref sig .tc := ⟨.hbm, 236, rfl⟩
abbrev main_c_59 : Ref sig .tc := ⟨.hbm, 237, rfl⟩
abbrev main_c_60 : Ref sig .tc := ⟨.hbm, 238, rfl⟩
abbrev main_v128 : Ref sig .tc := ⟨.hbm, 239, rfl⟩
abbrev main_c_61 : Ref sig .tc := ⟨.hbm, 240, rfl⟩
abbrev main_c_62 : Ref sig .tc := ⟨.hbm, 241, rfl⟩
abbrev main_v129 : Ref sig .tc := ⟨.hbm, 242, rfl⟩
abbrev main_c_63 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_c_64 : Ref sig .tc := ⟨.hbm, 253, rfl⟩
abbrev main_c_65 : Ref sig .tc := ⟨.hbm, 254, rfl⟩
abbrev main_v139 : Ref sig .tc := ⟨.hbm, 255, rfl⟩
abbrev main_c_66 : Ref sig .tc := ⟨.hbm, 256, rfl⟩
abbrev main_c_67 : Ref sig .tc := ⟨.hbm, 257, rfl⟩
abbrev main_v140 : Ref sig .tc := ⟨.hbm, 258, rfl⟩
abbrev main_c_68 : Ref sig .tc := ⟨.hbm, 259, rfl⟩
abbrev main_v141 : Ref sig .tc := ⟨.hbm, 260, rfl⟩
abbrev main_c_69 : Ref sig .tc := ⟨.hbm, 261, rfl⟩
abbrev main_v142 : Ref sig .tc := ⟨.hbm, 262, rfl⟩
abbrev main_v143 : Ref sig .tc := ⟨.hbm, 263, rfl⟩
abbrev main_c_70 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_c_71 : Ref sig .tc := ⟨.hbm, 268, rfl⟩
abbrev main_c_72 : Ref sig .tc := ⟨.hbm, 269, rfl⟩
abbrev main_v147 : Ref sig .tc := ⟨.hbm, 270, rfl⟩
abbrev main_c_73 : Ref sig .tc := ⟨.hbm, 271, rfl⟩
abbrev main_c_74 : Ref sig .tc := ⟨.hbm, 272, rfl⟩
abbrev main_v148 : Ref sig .tc := ⟨.hbm, 273, rfl⟩
abbrev main_c_75 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_cst_76 : Ref sig .tc := ⟨.hbm, 286, rfl⟩
abbrev main_call5_v0 : Ref sig .tc := ⟨.hbm, 287, rfl⟩
abbrev main_call5_v1 : Ref sig .tc := ⟨.hbm, 288, rfl⟩
abbrev main_call5_v2 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩

abbrev nD : Nat := 1
abbrev τ : Topo := Topo.v7x

variable {F : FTy → Type} [FloatOps F]
-- ==== Kernel3.lean ====
abbrev S65536x512 : Shape := ⟨2, ![65536, 512]⟩
abbrev S32768x128 : Shape := ⟨2, ![32768, 128]⟩
abbrev S32768x1024 : Shape := ⟨2, ![32768, 1024]⟩
abbrev S1024 : Shape := ⟨1, ![1024]⟩
abbrev S1x1024 : Shape := ⟨2, ![1, 1024]⟩
abbrev S1024x512 : Shape := ⟨2, ![1024, 512]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 12
  | .vmem => 32
  | .smem => 0
  | _ => 0

abbrev bufTy : (tb : Table) → Fin (tcTables nBuf tb) → BufTy
  | .hbm, ⟨0, _⟩ => ⟨S65536x512, .i32⟩
  | .hbm, ⟨1, _⟩ => ⟨S65536x512, .i32⟩
  | .hbm, ⟨2, _⟩ => ⟨S32768x128, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S1024x512, .i32⟩
  | .local _ .vmem, ⟨1, _⟩ => ⟨S1024x512, .i32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S1024x512, .i32⟩
  | .local _ .vmem, ⟨7, _⟩ => ⟨S1024x512, .i32⟩
  | .local _ .vmem, ⟨8, _⟩ => ⟨S1024x128, .f32⟩
  | .local _ .vmem, ⟨9, _⟩ => ⟨S1024x128, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x512, .i32⟩
  | .local _ .vmem, ⟨17, _⟩ => ⟨S1024x512, .i32⟩
  | .local _ .vmem, ⟨18, _⟩ => ⟨S1024x512, .i32⟩
  | .local _ .vmem, ⟨19, _⟩ => ⟨S1024x512, .i32⟩
  | .local _ .vmem, ⟨20, _⟩ => ⟨S1024x512, .i32⟩
  | .local _ .vmem, ⟨21, _⟩ => ⟨S1024x512, .i32⟩
  | .local _ .vmem, ⟨22, _⟩ => ⟨S1024x512, .i32⟩
  | .local _ .vmem, ⟨23, _⟩ => ⟨S1024x512, .i32⟩
  | .local _ .vmem, ⟨24, _⟩ => ⟨S1024x128, .f32⟩
  | .local _ .vmem, ⟨25, _⟩ => ⟨S1024x128, .f32⟩
  | .local _ .vmem, ⟨26, _⟩ => ⟨S1024x1024, .f32⟩
  | .local _ .vmem, ⟨27, _⟩ => ⟨S1024x1024, .f32⟩
  | .local _ .vmem, ⟨28, _⟩ => ⟨S1x1024, .f32⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S65536x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage1_0 : Fin 2 → Memref sig .tc .vmem S1024x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference3Ideal.lean ====
abbrev S65536x512 : Shape := ⟨2, ![65536, 512]⟩
abbrev S32768x128 : Shape := ⟨2, ![32768, 128]⟩
abbrev S32768x1024 : Shape := ⟨2, ![32768, 1024]⟩
abbrev S1024 : Shape := ⟨1, ![1024]⟩
abbrev S32768x4 : Shape := ⟨2, ![32768, 4]⟩
abbrev S65536x512x2 : Shape := ⟨3, ![65536, 512, 2]⟩
abbrev S65536x512x1 : Shape := ⟨3, ![65536, 512, 1]⟩
abbrev S65536x1024 : Shape := ⟨2, ![65536, 1024]⟩
abbrev S4x16384x1024 : Shape := ⟨3, ![4, 16384, 1024]⟩
abbrev S4x32768x1024 : Shape := ⟨3, ![4, 32768, 1024]⟩
abbrev S4x32768 : Shape := ⟨2, ![4, 32768]⟩
abbrev S4x32768x1 : Shape := ⟨3, ![4, 32768, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S65536x512, .i32⟩
  | .hbm, ⟨1, _⟩ => ⟨S65536x512, .i32⟩
  | .hbm, ⟨2, _⟩ => ⟨S32768x128, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S32768x4, .f32⟩
  | .hbm, ⟨7, _⟩ => ⟨S65536x512x2, .bf16⟩
  | .hbm, ⟨8, _⟩ => ⟨S65536x512x2, .f32⟩
  | .hbm, ⟨9, _⟩ => ⟨S65536x512x1, .f32⟩
  | .hbm, ⟨10, _⟩ => ⟨S65536x512, .f32⟩
  | .hbm, ⟨11, _⟩ => ⟨S65536x512x1, .f32⟩
  | .hbm, ⟨12, _⟩ => ⟨S65536x512, .f32⟩
  | .hbm, ⟨13, _⟩ => ⟨S65536x1024, .f32⟩
  | .hbm, ⟨14, _⟩ => ⟨S4x16384x1024, .f32⟩
  | .hbm, ⟨15, _⟩ => ⟨S65536x512x2, .bf16⟩
  | .hbm, ⟨16, _⟩ => ⟨S65536x512x2, .f32⟩
  | .hbm, ⟨17, _⟩ => ⟨S65536x512x1, .f32⟩
  | .hbm, ⟨18, _⟩ => ⟨S65536x512, .f32⟩
  | .hbm, ⟨19, _⟩ => ⟨S65536x512x1, .f32⟩
  | .hbm, ⟨20, _⟩ => ⟨S65536x512, .f32⟩
  | .hbm, ⟨21, _⟩ => ⟨S65536x1024, .f32⟩
  | .hbm, ⟨22, _⟩ => ⟨S4x16384x1024, .f32⟩
  | .hbm, ⟨23, _⟩ => ⟨S4x32768x1024, .f32⟩
  | .hbm, ⟨24, _⟩ => ⟨S4x32768, .f32⟩
  | .hbm, ⟨25, _⟩ => ⟨S4x32768x1, .f32⟩
  | .hbm, ⟨26, _⟩ => ⟨S4x32768x1024, .f32⟩
  | .hbm, ⟨27, _⟩ => ⟨S4x32768x1024, .f32⟩
  | .hbm, ⟨28, _⟩ => ⟨S_, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S65536x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x8728 : Shape := ⟨2, ![1024, 8728]⟩
abbrev S1024x1024 : Shape := ⟨2, ![1024, 1024]⟩
abbrev S512x1024 : Shape := ⟨2, ![512, 1024]⟩
abbrev S1024 : Shape := ⟨1, ![1024]⟩
abbrev S1024x32 : Shape := ⟨2, ![1024, 32]⟩
abbrev S32 : Shape := ⟨1, ![32]⟩
abbrev S1024x3072 : Shape := ⟨2, ![1024, 3072]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S32768x128 : Shape := ⟨2, ![32768, 128]⟩
abbrev S512x512 : Shape := ⟨2, ![512, 512]⟩
abbrev S512x128 : Shape := ⟨2, ![512, 128]⟩
abbrev S1024x256 : Shape := ⟨2, ![1024, 256]⟩
abbrev S512 : Shape := ⟨1, ![512]⟩
abbrev S512x1 : Shape := ⟨2, ![512, 1]⟩
abbrev S128 : Shape := ⟨1, ![128]⟩

abbrev nBuf : Space → Nat
  | .hbm => 38
  | .vmem => 26
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S1024x8728, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S1024x3072, .f32⟩
  | .hbm, ⟨14, _⟩ => ⟨S1024x3072, .bf16⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1024x1024, .bf16⟩
  | .hbm, ⟨29, _⟩ => ⟨S512x1024, .bf16⟩
  | .hbm, ⟨30, _⟩ => ⟨S512x1024, .bf16⟩
  | .hbm, ⟨31, _⟩ => ⟨S1024x1024, .bf16⟩
  | .hbm, ⟨32, _⟩ => ⟨S1x1024, .f32⟩
  | .hbm, ⟨33, _⟩ => ⟨S1x1024, .f32⟩
  | .hbm, ⟨34, _⟩ => ⟨S32768x1024, .f32⟩
  | .hbm, ⟨35, _⟩ => ⟨S32768x1024, .bf16⟩
  | .hbm, ⟨36, _⟩ => ⟨S32768x128, .f32⟩
  | .hbm, ⟨37, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1024x3072, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .f32⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S1x128, .f32⟩
  | .local _ .vmem, ⟨24, _⟩ => ⟨S512x1024, .f32⟩
  | .local _ .vmem, ⟨25, _⟩ => ⟨S1x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_c_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_v16_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference4Ideal.lean ====
abbrev S32768x1024 : Shape := ⟨2, ![32768, 1024]⟩
abbrev S32768x512 : Shape := ⟨2, ![32768, 512]⟩
abbrev S1024x8728 : Shape := ⟨2, ![1024, 8728]⟩
abbrev S1024x1024 : Shape := ⟨2, ![1024, 1024]⟩
abbrev S512x1024 : Shape := ⟨2, ![512, 1024]⟩
abbrev S1024 : Shape := ⟨1, ![1024]⟩
abbrev S1024x32 : Shape := ⟨2, ![1024, 32]⟩
abbrev S32 : Shape := ⟨1, ![32]⟩
abbrev S1024x3072 : Shape := ⟨2, ![1024, 3072]⟩
abbrev S32768x3072 : Shape := ⟨2, ![32768, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S1024x8728, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S1024x3072, .f32⟩
  | .hbm, ⟨14, _⟩ => ⟨S32768x3072, .f32⟩
  | .hbm, ⟨15, _⟩ => ⟨S32768x3072, .f32⟩
  | .hbm, ⟨16, _⟩ => ⟨S32768x3072, .f32⟩
  | .hbm, ⟨17, _⟩ => ⟨S_, .f32⟩
  | .hbm, ⟨18, _⟩ => ⟨S32768x3072, .f32⟩
  | .hbm, ⟨19, _⟩ => ⟨S32768x3072, .f32⟩
  | .hbm, ⟨20, _⟩ => ⟨S_, .f32⟩
  | .hbm, ⟨21, _⟩ => ⟨S32768x3072, .f32⟩
  | .hbm, ⟨22, _⟩ => ⟨S32768x3072, .f32⟩
  | .hbm, ⟨23, _⟩ => ⟨S32768x1024, .f32⟩
  | .hbm, ⟨24, _⟩ => ⟨S32768x1024, .f32⟩
  | .hbm, ⟨25, _⟩ => ⟨S32768x512, .f32⟩
  | .hbm, ⟨26, _⟩ => ⟨S32768x1024, .f32⟩
  | .hbm, ⟨27, _⟩ => ⟨S32768x512, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | .hbm, ⟨69, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Words.lean ====
/-
  The gather's carried words in closed form. A tile runs sixteen trips; before trip `k` the five carried words are
  functions of `k` alone, and every slice offset, condition and check the trip computes from them is a closed form of
  `k` and the tile's coordinates. The facts are decided over the 2 x 16 tiles and the sixteen trips.
-/
module

public import proofs.«01_k».proof.Proof.Gen.KernelIdeal
public import proofs.«01_k».proof.Proof.Gen.KernelIdeal.Skeleton
public import Idealize.ShloMosaic.Lib.Tactic

@[expose] public section

noncomputable section

namespace Cert.Proof.Words

open Cert.KernelIdeal Cert.KernelIdeal.Gen
open Idealize.ShloMosaic

/-- The coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The first block of 128 rows that tile `(a, b)` gathers. -/
abbrev base (a : Fin 2) (b : Fin 16) : ℕ := 256 * a.val + 16 * b.val

abbrev w6 (k : ℕ) : BitVec 32 := BitVec.ofNat 32 (min (k + 1) 16)
abbrev w7 (k : ℕ) : BitVec 32 := BitVec.ofNat 32 k
abbrev w9 (k : ℕ) : BitVec 32 := BitVec.ofNat 32 (k - 1)
abbrev w10 (k : ℕ) : BitVec 32 := BitVec.ofNat 32 (k % 16)
abbrev w4 (a : Fin 2) (b : Fin 16) : BitVec 32 := BitVec.ofNat 32 (base a b)

theorem trips_eq : k0_t1_loop.trips = 16 := by decide

theorem chk3 : ∀ k : Fin k0_t1_loop.trips, k0_chk3 (w7 k) := by decide +kernel
theorem chk2 : ∀ k : Fin k0_t1_loop.trips, k0_chk2 (w7 k) := by decide +kernel
theorem chk1 : ∀ (a : Fin 2) (b : Fin 16) (k : Fin k0_t1_loop.trips), k0_chk1 (coordsV a b) k (w6 k) (w7 k) (w7 k) (w10 k) := by decide +kernel

theorem cond1 : ∀ (a : Fin 2) (b : Fin 16) (k : Fin k0_t1_loop.trips), k0_cond1 (coordsV a b) k (w10 k) = 1#1 ↔ k.val < 15 := by decide +kernel
theorem cond2 : ∀ (a : Fin 2) (b : Fin 16) (k : Fin k0_t1_loop.trips), k0_cond2 (coordsV a b) k (w10 k) = 1#1 := by decide +kernel
theorem cond5 : ∀ (a : Fin 2) (b : Fin 16) (k : Fin k0_t1_loop.trips), k0_cond5 (coordsV a b) k (w10 k) = 1#1 := by decide +kernel

theorem off1 : k0_off1 = ![0, 0, 0] := by decide +kernel
theorem off3 : k0_off3 = ![0] := by decide +kernel
theorem off2 : ∀ (a : Fin 2) (b : Fin 16), k0_off2 (coordsV a b) = ![0, 128 * base a b] := by decide +kernel
theorem off4 : ∀ k : Fin k0_t1_loop.trips, k.val < 15 → k0_off4 (w6 k) = ![(k.val + 1) % 2, 0, 0] := by decide +kernel
theorem off5 : ∀ (a : Fin 2) (b : Fin 16) (k : Fin k0_t1_loop.trips), k.val < 15 → k0_off5 (coordsV a b) (w10 k) = ![0, 128 * (base a b + (k.val + 1))] := by decide +kernel
theorem off6 : ∀ k : Fin k0_t1_loop.trips, k.val < 15 → k0_off6 (w6 k) = ![(k.val + 1) % 2] := by decide +kernel
theorem off7 : ∀ k : Fin k0_t1_loop.trips, k0_off7 (w7 k) = ![k.val % 2, 0, 0] := by decide +kernel
theorem off8 : ∀ (a : Fin 2) (b : Fin 16) (k : Fin k0_t1_loop.trips), k0_off8 (coordsV a b) (w10 k) = ![0, 128 * (base a b + k.val)] := by decide +kernel
theorem off9 : ∀ k : Fin k0_t1_loop.trips, k0_off9 (w7 k) = ![k.val % 2] := by decide +kernel
theorem off10 : ∀ k : Fin k0_t1_loop.trips, k0_off10 (w7 k) = ![0, 0, 0] := by decide +kernel
theorem off11 : ∀ k : Fin k0_t1_loop.trips, k0_off11 (w7 k) = ![k.val % 2, 0, 0] := by decide +kernel
theorem off12 : ∀ k : Fin k0_t1_loop.trips, k0_off12 (w7 k) = ![0, 0, 0] := by decide +kernel
theorem off13 : ∀ (a : Fin 2) (b : Fin 16) (k : Fin k0_t1_loop.trips), k0_off13 (coordsV a b) (w10 k) = ![128 * (base a b + k.val), 0] := by decide +kernel

end Cert.Proof.Words

end
-- ==== Proof.Base.lean ====
/-
  The gather's arrays as a tile addresses them, and where each slice's elements lie: the two index slots, the blocks of
  128 row numbers, the 128-lane slabs of the table and of the row buffer, the blocks of 128 result rows.
-/
module

public import proofs.«01_k».proof.Defs
public import proofs.«01_k».proof.Proof.Words
public import Idealize.ShloMosaic.Lib.SparseCore.Quiescent
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.Gather

open Cert.KernelIdeal Cert.KernelIdeal.Gen Cert.Proof.Words

open Idealize.ShloMosaic
open Idealize.ShloMosaic.SparseCore (S V T)

variable {F : FTy → Type}

abbrev tV : Memref sig .scVector .hbm S147456x512 .i32 := Memref.whole main_arg0_scv
abbrev iV : Memref sig .scVector .hbm S1x65536 .i32 := Memref.whole main_v0_scv
abbrev oV : Memref sig .scVector .hbm S65536x512 .i32 := Memref.whole main_v1_scv
abbrev sV : Memref sig .scVector .vmem S2x1x128 .i32 := Memref.whole cc0_scoped0
abbrev rV : Memref sig .scVector .vmem S1x128x512 .i32 := Memref.whole cc0_scoped2

/-! ## Indices -/

abbrev six (s : Fin 2) (j : Fin 128) : S2x1x128.Idx := fun
  | 0 => s | 1 => (0 : Fin 1) | 2 => j | ⟨_ + 3, h⟩ => absurd h (Nat.not_lt.2 (Nat.le_add_left _ _))
abbrev iix (j : Fin 65536) : S1x65536.Idx := Shape.pair (d := ![1, 65536]) (0 : Fin 1) j
abbrev tix (r : Fin 147456) (l : Fin 512) : S147456x512.Idx := Shape.pair (d := ![147456, 512]) r l
abbrev oix (r : Fin 65536) (l : Fin 512) : S65536x512.Idx := Shape.pair (d := ![65536, 512]) r l

/-- The table row a word names: the word itself below the table's height. -/
def rowOf (w : BitVec 32) : Fin 147456 := ⟨min w.toNat 147455, by omega⟩

/-- The gathered array: row `x 0` is the table's row that list entry `x 0` names. -/
def gval (tb : S147456x512.Idx → Elt F .i32) (ib : S1x65536.Idx → Elt F .i32) : S65536x512.Idx → Elt F .i32 :=
  fun x => tb (tix (rowOf (ib (iix (x 0)))) (x 1))

/-! ## The slices, at closed offsets -/

theorem slot_inb (s : Fin 2) : ∀ a, (![s.val, 0, 0] : Fin 3 → ℕ) a + S1x1x128.size a ≤ S2x1x128.size a := by
  revert s; decide
theorem cell_inb (s : Fin 2) : ∀ a, (![s.val] : Fin 1 → ℕ) a + S1.size a ≤ S2.size a := by revert s; decide
theorem blk_inb (n : Fin 512) : ∀ a, (![0, 128 * n.val] : Fin 2 → ℕ) a + S1x128.size a ≤ S1x65536.size a := by
  have := n.isLt
  refine Fin.forall_fin_two.mpr ⟨show 0 + 1 ≤ 1 by omega, ?_⟩
  show 128 * n.val + 128 ≤ 65536
  omega
theorem out_inb (n : Fin 512) : ∀ a, (![128 * n.val, 0] : Fin 2 → ℕ) a + S128x512.size a ≤ S65536x512.size a := by
  have := n.isLt
  refine Fin.forall_fin_two.mpr ⟨?_, show 0 + 512 ≤ 512 by omega⟩
  show 128 * n.val + 128 ≤ 65536
  omega
theorem rb_inb : ∀ a, (![0, 0, 0] : Fin 3 → ℕ) a + S1x128x512.size a ≤ S1x128x512.size a := by decide

abbrev slotV (off : Fin 3 → ℕ) (h : ∀ a, off a + S1x1x128.size a ≤ S2x1x128.size a) : Memref sig .scVector .vmem S1x128 .i32 :=
  ((sV).slice (Rect.unit (s := S2x1x128) off S1x1x128.size h) (fun _ => rfl)).squeeze S1x128 squeezes_S1x1x128_S1x128
abbrev cellV (off : Fin 1 → ℕ) (h : ∀ a, off a + S1.size a ≤ S2.size a) : DmaSem sig :=
  ((cc0_scoped1.slice (Rect.unit (s := S2) off S1.size h)).squeeze S_ squeezes_S1_S_).sem
abbrev blkV (off : Fin 2 → ℕ) (h : ∀ a, off a + S1x128.size a ≤ S1x65536.size a) : Memref sig .scVector .hbm S1x128 .i32 :=
  (iV).slice (Rect.unit (s := S1x65536) off S1x128.size h) (fun _ => rfl)
abbrev outV (off : Fin 2 → ℕ) (h : ∀ a, off a + S128x512.size a ≤ S65536x512.size a) : Memref sig .scVector .hbm S128x512 .i32 :=
  (oV).slice (Rect.unit (s := S65536x512) off S128x512.size h) (fun _ => rfl)
abbrev rbV (off : Fin 3 → ℕ) (h : ∀ a, off a + S1x128x512.size a ≤ S1x128x512.size a) : Memref sig .scVector .vmem S128x512 .i32 :=
  ((rV).slice (Rect.unit (s := S1x128x512) off S1x128x512.size h) (fun _ => rfl)).squeeze S128x512 squeezes_S1x128x512_S128x512
abbrev laneV (off : Fin 3 → ℕ) (h : ∀ a, off a + S1x128x512.size a ≤ S1x128x512.size a) (o : ℕ)
    (h' : ∀ a, (![0, o] : Fin 2 → ℕ) a + S128x128.size a ≤ S128x512.size a) : Memref sig .scVector .vmem S128x128 .i32 :=
  (rbV off h).slice (Rect.unit (s := S128x512) ![0, o] S128x128.size h') (fun _ => rfl)
abbrev slabV (o : ℕ) (h : ∀ a, (![0, o] : Fin 2 → ℕ) a + S147456x128.size a ≤ S147456x512.size a) : Memref sig .scVector .hbm S147456x128 .i32 :=
  (tV).slice (Rect.unit (s := S147456x512) ![0, o] S147456x128.size h) (fun _ => rfl)
abbrev listV (off : Fin 3 → ℕ) (h : ∀ a, off a + S1x1x128.size a ≤ S2x1x128.size a)
    (h' : ∀ a, (![0, 0] : Fin 2 → ℕ) a + S1x128.size a ≤ S1x128.size a) : Memref sig .scVector .vmem S128 .i32 :=
  ((slotV off h).slice (Rect.unit (s := S1x128) ![0, 0] S1x128.size h') (fun _ => rfl)).squeeze S128 squeezes_S1x128_S128

abbrev slotM (s : Fin 2) := slotV ![s.val, 0, 0] (slot_inb s)
abbrev cellM (s : Fin 2) := cellV ![s.val] (cell_inb s)
abbrev blkM (n : Fin 512) := blkV ![0, 128 * n.val] (blk_inb n)
abbrev outM (n : Fin 512) := outV ![128 * n.val, 0] (out_inb n)
abbrev rbM := rbV ![0, 0, 0] rb_inb

/-! ## Where the slices' elements lie -/

theorem out_emb (n : Fin 512) (x : S128x512.Idx) :
    (outM n).view.emb x = oix ⟨128 * n.val + (x 0).val, by have := n.isLt; have : (x 0).val < 128 := (x 0).isLt; omega⟩ (x 1) := by
  funext a; apply Fin.ext
  match a with
  | 0 => show 128 * n.val + 1 * (x 0).val = _; simp [oix, Shape.pair]
  | 1 => show 0 + 1 * (x 1).val = _; simp [oix, Shape.pair]

theorem blk_emb (n : Fin 512) (x : S1x128.Idx) :
    (blkM n).view.emb x = iix ⟨128 * n.val + (x 1).val, by have := n.isLt; have : (x 1).val < 128 := (x 1).isLt; omega⟩ := by
  funext a; apply Fin.ext
  have h0 : (x 0).val < 1 := (x 0).isLt
  match a with
  | 0 => show 0 + 1 * (x 0).val = _; simp [iix, Shape.pair]; omega
  | 1 => show 128 * n.val + 1 * (x 1).val = _; simp [iix, Shape.pair]

theorem slab_emb (o : ℕ) (h) (x : S147456x128.Idx) :
    (slabV o h).view.emb x = tix (x 0) ⟨o + (x 1).val, by
      have h1 : o + 128 ≤ 512 := h 1
      have : (x 1).val < 128 := (x 1).isLt; omega⟩ := by
  funext a; apply Fin.ext
  match a with
  | 0 => show 0 + 1 * (x 0).val = _; simp [tix, Shape.pair]
  | 1 => show o + 1 * (x 1).val = _; simp [tix, Shape.pair]

theorem list_emb (s : Fin 2) (h') (y : S128.Idx) :
    (listV ![s.val, 0, 0] (slot_inb s) h').view.emb y = (slotM s).view.emb (Shape.pair (d := ![1, 128]) (0 : Fin 1) (y 0)) := by
  show (slotM s).view.emb ((Rect.unit (s := S1x128) ![0, 0] S1x128.size h').emb (Shape.reshapeEquiv _ y)) = _
  congr 1
  rw [Shape.reshapeEquiv_cons_one]
  funext a; apply Fin.ext
  match a with
  | 0 => rfl
  | 1 => show 0 + 1 * (y 0).val = _; simp [Shape.pair]

end Cert.Proof.Gather

end
-- ==== Proof.Steps.lean ====
/-
  The steps of a tile's trip: a fetch of 128 row numbers into an index slot, its wait, the indirect gather of one
  128-lane slab of the named rows, the copy of the gathered rows out to their block of the result.
-/
module

public import proofs.«01_k».proof.Proof.Base

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
abbrev UU : Type := UH × Counters

local notation "𝕄" => MT nD τ sig (HIx 1) (Elt F) ℕ UU ℕ

variable [FloatOps F]
variable (d : Dev nD) (a : Fin 2) (b : Fin 16)

abbrev cL (a : Fin 2) : Fin τ.nSC := (show Fin (grid0.bound 0) from a).castLE hcore0
abbrev jL (b : Fin 16) : Fin τ.nSub := (show Fin (grid0.bound 1) from b).castLE hsub0
/-- Tile `(a, b)` of device `d`. -/
abbrev thr : Thread nD τ := V d (cL a) (jL b)

variable (O : CellTallies nD τ sig (HIx 1)) (W : Waits sig (HIx 1))

/-- What the tile owes, with waits of its own recorded beyond `W`. -/
def Ow : sProp 𝕄 := iprop(∃ W', ⌜∀ p ∈ W', p ∈ W ∨ p.2 = none⌝ ∗ owes (thr d a b) O W')
abbrev Mw : sProp 𝕄 := Transfers.MayWaits (thr d a b) (default : HIx 1) O

abbrev Wp {α : Type} (p : Prog (TpuEff nD τ sig (Elt F) Λ₀ (thr d a b).2) α) (Q : α → sProp 𝕄) : sProp 𝕄 :=
  wp frame (wpE (defs₀ (F := F)) 𝒱₀ (thr d a b) none) Set.univ p Q

/-- A wait for one transfer in flight. -/
theorem wp_wait {s s' : Shape} {sp sp' : Space} {e e' : EltTy} (sem : DmaSem sig)
    (src : Memref sig .scVector sp' s' e') (dst : Memref sig .scVector sp s e) {hsrc : src.view.WordExact} {hdst : dst.view.WordExact}
    {N : ℕ} (hN : dst.view.dmaCredit = N) (R : sProp 𝕄) {Q : PUnit → sProp 𝕄} :
    iprop(Transfers.Flight countersEmb (thr d a b) (.dma sem) (default : HIx 1) N R ∗ Mw (F := F) d a b O ∗ Ow d a b O W)
      ⊢ iprop((iprop(R ∗ semVal (thr d a b, .dma sem) 0 ∗ Ow d a b O W) -∗ Q ⟨⟩)
          -∗ Wp d a b (Prog.lift (.waitDma2 sem src dst hsrc hdst)) Q) := by
  unfold Ow
  iintro ⟨Hf, Hmw, %W', %hW', HO⟩ Hk
  iapply (Transfers.wp_waitLocalO countersEmb 𝒱₀ (thr d a b) none (default : HIx 1) hN) $$ [Hf HO Hmw]
  · isplitl [Hf]; · iexact Hf
    isplitl [HO]; · iexact HO
    iapply (Transfers.MayWaits.elim (SemLoc.dma sem)) $$ Hmw
  iintro ⟨HR, Hv, HO⟩
  rw [wp_ret]; imodintro
  iapply Hk
  isplitl [HR]; · iexact HR
  isplitl [Hv]; · iexact Hv
  iexists _; isplitr
  swap; · iexact HO
  ipureintro; intro p hp
  rcases Finset.mem_insert.mp hp with hp | hp
  · exact .inr (hp ▸ rfl)
  · exact hW' p hp

/-! ## The index slots -/

variable (ib : S1x65536.Idx → Elt F .i32) (qs : Fin 2 → PosShare TreeShare)

/-- Slot `s`, idle: at any contents, its cell at zero, and the share of the row numbers its fetches read by. -/
def SlotFree (s : Fin 2) : sProp 𝕄 :=
  iprop((∃ f, (slotM s).view.loc (thr d a b) ↦[(slotM s).view.set]{fullShare} f)
    ∗ semVal (thr d a b, SemLoc.dma (cellM s)) 0 ∗ ((iV).view.loc (thr d a b) ↦{qs s} ib))

/-- Slot `s` with a fetch of block `n` in flight. -/
def SlotFly (s : Fin 2) (n : Fin 512) : sProp 𝕄 :=
  iprop(∃ f, Transfers.Flight countersEmb (thr d a b) (.dma (cellM s)) (default : HIx 1) (slotM s).view.dmaCredit
      iprop(((slotM s).view.loc (thr d a b) ↦[(slotM s).view.set]{fullShare}
          ((slotM s).view.write (Elt F) f ((blkM n).view.read (Elt F) ib) Finset.univ))
        ∗ ((blkM n).view.loc (thr d a b) ↦[(blkM n).view.set]{qs s} ib))
    ∗ ((blkM n).view.loc (thr d a b) ↦[Finset.univ \ (blkM n).view.set]{qs s} ib))

/-- The words of slot `s` at contents `f` are block `n`'s. -/
def Holds (s : Fin 2) (n : Fin 512) (f : Buf (Elt F) ((slotM s).view.loc (thr d a b))) : Prop :=
  (slotM s).view.read (Elt F) f = (blkM n).view.read (Elt F) ib

/-- Slot `s` holding block `n`. -/
def SlotFull (s : Fin 2) (n : Fin 512) : sProp 𝕄 :=
  iprop((∃ f, ⌜Holds d a b ib s n f⌝ ∗ (slotM s).view.loc (thr d a b) ↦[(slotM s).view.set]{fullShare} f)
    ∗ semVal (thr d a b, SemLoc.dma (cellM s)) 0 ∗ ((iV).view.loc (thr d a b) ↦{qs s} ib))

theorem slot_forget (s : Fin 2) (n : Fin 512) : SlotFull d a b ib qs s n ⊢ SlotFree (F := F) d a b ib qs s := by
  unfold SlotFull SlotFree
  iintro ⟨⟨%f, -, Hf⟩, H⟩
  isplitl [Hf]; · iexists f; iexact Hf
  iexact H

theorem wp_fetch (s : Fin 2) (n : Fin 512) {o1 : Fin 3 → ℕ} {h1} {o2 : Fin 1 → ℕ} {h2} {o3 : Fin 2 → ℕ} {h3}
    (e1 : o1 = ![s.val, 0, 0]) (e2 : o2 = ![s.val]) (e3 : o3 = ![0, 128 * n.val])
    {hsrc : (blkV o3 h3).view.WordExact} {hdst : (slotV o1 h1).view.WordExact}
    {hsem : DmaTarget.Typed (nD := nD) (sig := sig) (p := (thr d a b).2) .hbm (.dma (cellV o2 h2)) (.here (slotV o1 h1))} {Q : PUnit → sProp 𝕄} :
    SlotFree d a b ib qs s
      ⊢ iprop((SlotFly d a b ib qs s n -∗ Q ⟨⟩)
          -∗ Wp d a b (Prog.lift (.enqueueDma (blkV o3 h3) (.here (slotV o1 h1)) (.dma (cellV o2 h2)) hsrc hdst hsem)) Q) := by
  subst e1 e2 e3
  unfold SlotFree SlotFly
  iintro ⟨⟨%f, Hs⟩, Hv, Hi⟩ Hk
  ihave Hi' := (pointsTo_split_subset (ℓ := (iV).view.loc (thr d a b)) (q := qs s) (f := ib) (S := Finset.univ) (Finset.subset_univ (blkM n).view.set)).1 $$ Hi
  icases Hi' with ⟨Hi, Hr⟩
  iapply (Transfers.wp_dmaLocal countersEmb 𝒱₀ (thr d a b) none (default : HIx 1) (slotM s).view.dmaCredit rfl
    (View.dmaCredit_pos _ (show 0 < S1x128.numel by decide)) (Finset.Subset.refl _)) $$ [Hi Hs Hv]
  · isplitl [Hi]; · iexact Hi
    isplitl [Hs]; · iexact Hs
    iexact Hv
  iintro Hf
  rw [wp_ret]; imodintro
  iapply Hk
  iexists f
  isplitl [Hf]; · iexact Hf
  iexact Hr

theorem wp_fetched (s : Fin 2) (n : Fin 512) {o1 : Fin 3 → ℕ} {h1} {o2 : Fin 1 → ℕ} {h2} {o3 : Fin 2 → ℕ} {h3}
    (e1 : o1 = ![s.val, 0, 0]) (e2 : o2 = ![s.val]) (e3 : o3 = ![0, 128 * n.val])
    {hsrc : (blkV o3 h3).view.WordExact} {hdst : (slotV o1 h1).view.WordExact} {Q : PUnit → sProp 𝕄} :
    iprop(SlotFly d a b ib qs s n ∗ Mw (F := F) d a b O ∗ Ow d a b O W)
      ⊢ iprop((iprop(SlotFull d a b ib qs s n ∗ Ow d a b O W) -∗ Q ⟨⟩)
          -∗ Wp d a b (Prog.lift (.waitDma2 (cellV o2 h2) (blkV o3 h3) (slotV o1 h1) hsrc hdst)) Q) := by
  subst e1 e2 e3
  unfold SlotFly SlotFull
  iintro ⟨⟨%f, Hf, Hr⟩, Hmw, HO⟩ Hk
  iapply (wp_wait d a b O W (cellM s) (blkM n) (slotM s) rfl _) $$ [Hf Hmw HO]
  · isplitl [Hf]; · iexact Hf
    isplitl [Hmw]; · iexact Hmw
    iexact HO
  iintro ⟨⟨Hs, Hi⟩, Hv, HO⟩
  iapply Hk
  ihave Hi' := (pointsTo_split_subset (ℓ := (iV).view.loc (thr d a b)) (q := qs s) (f := ib) (S := Finset.univ) (Finset.subset_univ (blkM n).view.set)).2 $$ [Hi Hr]
  · isplitl [Hi] <;> iassumption
  isplitr [HO]
  · isplitl [Hs]
    · iexists _; isplitr
      swap; · iexact Hs
      ipureintro; exact View.read_write_univ _ _
    isplitl [Hv]; · iexact Hv
    iexact Hi'
  iexact HO

end Cert.Proof.Gather

end
-- ==== Proof.Move.lean ====
/-
  The indirect gather of one 128-lane slab and the copy of a finished block to the result.
-/
module

public import proofs.«01_k».proof.Proof.Steps

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (a : Fin 2) (b : Fin 16)
variable (O : CellTallies nD τ sig (HIx 1)) (W : Waits sig (HIx 1))
variable (tb : S147456x512.Idx → Elt F .i32) (ib : S1x65536.Idx → Elt F .i32) (qt : PosShare TreeShare)

/-- Row `r` of block `n` of the result. -/
abbrev orow (n : Fin 512) (r : Fin 128) : Fin 65536 := ⟨128 * n.val + r.val, by omega⟩

/-- The first `o` lanes of the row buffer hold block `n`'s rows. -/
def RFact (n : Fin 512) (o : ℕ) (g : Buf (Elt F) ((rV).view.loc (thr d a b))) : Prop :=
  ∀ x : S128x512.Idx, (x 1).val < o → (rbM).view.read (Elt F) g x = gval tb ib (oix (orow n (x 0)) (x 1))

/-- The row buffer, its first `o` lanes gathered. -/
def Rows (n : Fin 512) (o : ℕ) : sProp 𝕄 :=
  iprop(∃ g, ⌜RFact d a b tb ib n o g⌝ ∗ (rV).view.loc (thr d a b) ↦{fullShare} g)

/-- Index slot `s` at block `n`'s words. -/
def Words (s : Fin 2) (n : Fin 512) : sProp 𝕄 :=
  iprop(∃ f, ⌜Holds d a b ib s n f⌝ ∗ (slotM s).view.loc (thr d a b) ↦[(slotM s).view.set]{fullShare} f)

theorem list_subset (s : Fin 2) (h') : (listV ![s.val, 0, 0] (slot_inb s) h').view.set ⊆ (slotM s).view.set := by
  refine subset_trans (b := ((slotM s).view.slice (Rect.unit (s := S1x128) ![0, 0] S1x128.size h')).set) (le_of_eq ?_) (View.set_slice_subset _ _)
  exact View.set_reshape _ _

theorem list_read (s : Fin 2) (n : Fin 512) (f : Buf (Elt F) ((slotM s).view.loc (thr d a b))) (hf : Holds d a b ib s n f) (h') (y : S128.Idx) :
    (listV ![s.val, 0, 0] (slot_inb s) h').view.read (Elt F) f y = ib (iix (orow n (y 0))) := by
  rw [View.read_apply, list_emb]
  refine (View.read_apply (v := (slotM s).view) f _).symm.trans ?_
  rw [hf, View.read_apply, blk_emb]
  rfl

abbrev LaneInb (o : ℕ) : Prop := ∀ a, (![0, o] : Fin 2 → ℕ) a + S128x128.size a ≤ S128x512.size a
abbrev SlabInb (o : ℕ) : Prop := ∀ a, (![0, o] : Fin 2 → ℕ) a + S147456x128.size a ≤ S147456x512.size a
abbrev ListInb : Prop := ∀ a, (![0, 0] : Fin 2 → ℕ) a + S1x128.size a ≤ S1x128.size a

/-- A gather of lanes `o … o + 127` in flight: what it will deliver, and what stays with the tile. -/
def GFly (s : Fin 2) (n : Fin 512) (o : ℕ) (h1 : LaneInb o) (h2 : SlabInb o) (h3 : ListInb) (sem : DmaSem sig) : sProp 𝕄 :=
  iprop(∃ g f, ⌜RFact d a b tb ib n (o + 128) g⌝ ∗ ⌜Holds d a b ib s n f⌝
    ∗ Transfers.Flight countersEmb (thr d a b) (.dma sem) (default : HIx 1) (laneV ![0, 0, 0] rb_inb o h1).view.dmaCredit
        iprop(((laneV ![0, 0, 0] rb_inb o h1).view.loc (thr d a b) ↦[(laneV ![0, 0, 0] rb_inb o h1).view.set]{fullShare} g)
          ∗ ((slabV o h2).view.loc (thr d a b) ↦[(slabV o h2).view.set]{qt} tb)
          ∗ ((listV ![s.val, 0, 0] (slot_inb s) h3).view.loc (thr d a b) ↦[(listV ![s.val, 0, 0] (slot_inb s) h3).view.set]{fullShare} f))
    ∗ ((slabV o h2).view.loc (thr d a b) ↦[Finset.univ \ (slabV o h2).view.set]{qt} tb)
    ∗ ((laneV ![0, 0, 0] rb_inb o h1).view.loc (thr d a b) ↦[Finset.univ \ (laneV ![0, 0, 0] rb_inb o h1).view.set]{fullShare} g)
    ∗ ((listV ![s.val, 0, 0] (slot_inb s) h3).view.loc (thr d a b) ↦[(slotM s).view.set \ (listV ![s.val, 0, 0] (slot_inb s) h3).view.set]{fullShare} f))

/-- What the gather of lanes `o … o + 127` leaves in the row buffer. -/
theorem rfact_step (s : Fin 2) (n : Fin 512) (o : ℕ) (h1 : LaneInb o) (h2 : SlabInb o) (h3 : ListInb) (f) (hf : Holds d a b ib s n f)
    (hn : S128.numel = S128x128.size gathers_S147456x128_S128x128.axis')
    (hin : ∀ x, ((listV ![s.val, 0, 0] (slot_inb s) h3).view.read (Elt F) f x).toNat < S147456x128.size gathers_S147456x128_S128x128.axis)
    (g) (hg : RFact d a b tb ib n o g) :
    RFact d a b tb ib n (o + 128)
      ((laneV ![0, 0, 0] rb_inb o h1).view.write (Elt F) g
        (SparseCore.gatherPayload gathers_S147456x128_S128x128 ((slabV o h2).view.read (Elt F) tb)
          (SparseCore.rows ((listV ![s.val, 0, 0] (slot_inb s) h3).view.read (Elt F) f) hn hin)) Finset.univ) := by
  intro x hx
  have ho : o + 128 ≤ 512 := h1 1
  by_cases hlo : (x 1).val < o
  · refine (View.read_slice_write_of_not_mem (v := (rbM).view) _ g _ _ ?_).trans (hg x hlo)
    rw [Rect.map_emb_univ, Rect.mem_set_unit]
    intro hall
    have := (hall 1).1
    exact absurd hlo (Nat.not_lt.mpr this)
  · have hx1 : (x 1).val - o < 128 := by omega
    have hemb : (Rect.unit (s := S128x512) ![0, o] S128x128.size h1).emb (Shape.pair (d := ![128, 128]) (x 0) (⟨(x 1).val - o, hx1⟩ : Fin 128)) = x := by
      funext c; apply Fin.ext
      match c with
      | 0 => show 0 + 1 * (x 0).val = _; simp
      | 1 => show o + 1 * ((x 1).val - o) = _; omega
    rw [← hemb]
    refine (View.read_slice_write_emb (v := (rbM).view) _ g _ (Finset.mem_univ _)).trans ?_
    rw [hemb]
    unfold SparseCore.gatherPayload
    rw [View.read_apply, slab_emb]
    unfold gval
    refine (cast_eq _ _).trans (congrArg tb ?_)
    have hy : ∀ y : S128.Idx, (listV ![s.val, 0, 0] (slot_inb s) h3).view.read (Elt F) f y = ib (iix (orow n (y 0))) :=
      list_read d a b ib s n f hf h3
    funext c; apply Fin.ext
    match c with
    | 0 =>
      show ((listV ![s.val, 0, 0] (slot_inb s) h3).view.read (Elt F) f (S128.rowMajor.symm (Fin.cast hn.symm (x 0)))).toNat = min (ib (iix (orow n (x 0)))).toNat 147455
      have hk : (S128.rowMajor.symm (Fin.cast hn.symm (x 0))) 0 = x 0 := by
        apply Fin.ext
        have := Shape.rowMajor_val_one (d := ![128]) (S128.rowMajor.symm (Fin.cast hn.symm (x 0)))
        rw [← this]
        show (S128.rowMajor (S128.rowMajor.symm (Fin.cast hn.symm (x 0)))).val = _
        rw [Equiv.apply_symm_apply]; rfl
      have hb := hin (S128.rowMajor.symm (Fin.cast hn.symm (x 0)))
      rw [hy, hk] at hb ⊢
      have hb' : (ib (iix (orow n (x 0)))).toNat < 147456 := hb
      omega
    | 1 => show o + ((x 1).val - o) = (x 1).val; omega

theorem wp_gather (s : Fin 2) (n : Fin 512) (o : ℕ) (hib : ∀ j, (ib j).toNat < 147456) (sem : DmaSem sig)
    {o1 : Fin 3 → ℕ} {k1} {o2 : Fin 3 → ℕ} {k2} (e1 : o1 = ![0, 0, 0]) (e2 : o2 = ![s.val, 0, 0])
    {h1 : LaneInb o} {h2 : SlabInb o} {h3 : ListInb} {hn : S128.numel = S128x128.size gathers_S147456x128_S128x128.axis'}
    {hp : (thr d a b).2.kind = .scVector} {hsrc : (slabV o h2).view.WordExact} {he : EltTy.i32.bits = 32} {hsp : Space.hbm = .hbm ∨ Space.hbm = .shared}
    {hr : S147456x128.StreamRows 0} {Q : PUnit → sProp 𝕄} :
    iprop(((tV).view.loc (thr d a b) ↦{qt} tb) ∗ Rows d a b tb ib n o ∗ Words d a b ib s n ∗ semVal (thr d a b, SemLoc.dma sem) 0)
      ⊢ iprop((GFly d a b tb ib qt s n o h1 h2 h3 sem -∗ Q ⟨⟩)
          -∗ Wp d a b (SparseCore.enqueueIndirectGather hp (slabV o h2) (laneV o1 k1 o h1) gathers_S147456x128_S128x128 (listV o2 k2 h3) hn sem hsrc he hsp hr) Q) := by
  subst e1 e2
  unfold Rows Words GFly
  iintro ⟨Ht, ⟨%g, %hg, Hg⟩, ⟨%f, %hf, Hf⟩, Hv⟩ Hk
  have hin : ∀ x, ((listV ![s.val, 0, 0] (slot_inb s) h3).view.read (Elt F) f x).toNat < S147456x128.size gathers_S147456x128_S128x128.axis := by
    intro x
    rw [list_read d a b ib s n f hf h3 x]
    exact hib _
  ihave Ht' := (pointsTo_split_subset (ℓ := (tV).view.loc (thr d a b)) (q := qt) (f := tb) (S := Finset.univ) (Finset.subset_univ (slabV o h2).view.set)).1 $$ Ht
  icases Ht' with ⟨Ht, Htr⟩
  ihave Hg' := (pointsTo_split_subset (ℓ := (rV).view.loc (thr d a b)) (q := fullShare) (f := g) (S := Finset.univ) (Finset.subset_univ (laneV ![0, 0, 0] rb_inb o h1).view.set)).1 $$ Hg
  icases Hg' with ⟨Hg, Hgr⟩
  ihave Hf' := (pointsTo_split_subset (ℓ := (sV).view.loc (thr d a b)) (q := fullShare) (f := f) (list_subset s h3)).1 $$ Hf
  icases Hf' with ⟨Hf, Hfr⟩
  iapply (SparseCore.wp_indirectGatherLocal countersEmb 𝒱₀ (thr d a b) none (hg := gathers_S147456x128_S128x128) (hp := hp) (hn := hn) (he := he) (hsp := hsp) (hr := hr) (hsrc := hsrc) (default : HIx 1)
    (laneV ![0, 0, 0] rb_inb o h1).view.dmaCredit
    (SparseCore.sum_rowCredit_eq_dmaCredit (laneV ![0, 0, 0] rb_inb o h1) _ (fun _ => rfl)) (by decide) hin) $$ [Ht Hg Hf Hv]
  · isplitl [Ht]; · iexact Ht
    isplitl [Hg]; · iexact Hg
    isplitl [Hf]; · iexact Hf
    iexact Hv
  iintro Hfl
  rw [wp_ret]; imodintro
  iapply Hk
  iexists _, f
  isplitr; · ipureintro; exact rfact_step d a b tb ib s n o h1 h2 h3 f hf hn hin g hg
  isplitr; · ipureintro; exact hf
  isplitl [Hfl]; · iexact Hfl
  isplitl [Htr]; · iexact Htr
  isplitl [Hgr]
  · rw [← SparseCore.pointsTo_rest_write (thr d a b) (v := (laneV ![0, 0, 0] rb_inb o h1).view) g]; iexact Hgr
  iexact Hfr

theorem wp_gathered (s : Fin 2) (n : Fin 512) (o : ℕ) (sem : DmaSem sig)
    {o1 : Fin 3 → ℕ} {k1} (e1 : o1 = ![0, 0, 0]) {h1 : LaneInb o} {h2 : SlabInb o} {h3 : ListInb}
    {hsrc : (slabV o h2).view.WordExact} {hdst : (laneV o1 k1 o h1).view.WordExact} {Q : PUnit → sProp 𝕄} :
    iprop(GFly d a b tb ib qt s n o h1 h2 h3 sem ∗ Mw (F := F) d a b O ∗ Ow d a b O W)
      ⊢ iprop((iprop(((tV).view.loc (thr d a b) ↦{qt} tb) ∗ Rows d a b tb ib n (o + 128) ∗ Words d a b ib s n
                ∗ semVal (thr d a b, SemLoc.dma sem) 0 ∗ Ow d a b O W) -∗ Q ⟨⟩)
          -∗ Wp d a b (SparseCore.waitIndirectGather sem (slabV o h2) (laneV o1 k1 o h1) hsrc hdst) Q) := by
  subst e1
  unfold Rows Words GFly
  iintro ⟨⟨%g, %f, %hg, %hf, Hfl, Htr, Hgr, Hfr⟩, Hmw, HO⟩ Hk
  iapply (wp_wait d a b O W sem (slabV o h2) (laneV ![0, 0, 0] rb_inb o h1) rfl _) $$ [Hfl Hmw HO]
  · isplitl [Hfl]; · iexact Hfl
    isplitl [Hmw]; · iexact Hmw
    iexact HO
  iintro ⟨⟨Hg, Ht, Hf⟩, Hv, HO⟩
  iapply Hk
  ihave Ht' := (pointsTo_split_subset (ℓ := (tV).view.loc (thr d a b)) (q := qt) (f := tb) (S := Finset.univ) (Finset.subset_univ (slabV o h2).view.set)).2 $$ [Ht Htr]
  · isplitl [Ht] <;> iassumption
  ihave Hg' := (pointsTo_split_subset (ℓ := (rV).view.loc (thr d a b)) (q := fullShare) (f := g) (S := Finset.univ) (Finset.subset_univ (laneV ![0, 0, 0] rb_inb o h1).view.set)).2 $$ [Hg Hgr]
  · isplitl [Hg] <;> iassumption
  ihave Hf' := (pointsTo_split_subset (ℓ := (sV).view.loc (thr d a b)) (q := fullShare) (f := f) (list_subset s h3)).2 $$ [Hf Hfr]
  · isplitl [Hf] <;> iassumption
  isplitl [Ht']; · iexact Ht'
  isplitl [Hg']
  · iexists g; isplitr
    · ipureintro; exact hg
    · iexact Hg'
  isplitl [Hf']
  · iexists f; isplitr
    · ipureintro; exact hf
    · iexact Hf'
  isplitl [Hv]; · iexact Hv
  iexact HO

/-! ## The copy out -/

/-- The rows of the result that tile `(a, b)` writes. -/
def opart (a : Fin 2) (b : Fin 16) : Finset S65536x512.Idx := Finset.univ.filter fun x => (x 0).val / 2048 = 16 * a.val + b.val

/-- The first `k` blocks of the tile's part hold the gathered rows. -/
def OFact (k : ℕ) (g : S65536x512.Idx → Elt F .i32) : Prop :=
  ∀ x : S65536x512.Idx, 128 * base a b ≤ (x 0).val → (x 0).val < 128 * (base a b + k) → g x = gval tb ib x

def OPart (k : ℕ) : sProp 𝕄 :=
  iprop(∃ g, ⌜OFact a b tb ib k g⌝ ∗ (oV).view.loc (thr d a b) ↦[opart a b]{fullShare} g)

/-- Block `k` of the tile. -/
abbrev nb (a : Fin 2) (b : Fin 16) (k : ℕ) : Fin 512 := ⟨(base a b + k) % 512, Nat.mod_lt _ (by decide)⟩

theorem nb_val (k : ℕ) (hk : k < 16) : (nb a b k).val = base a b + k := by
  have := a.isLt; have := b.isLt
  show (base a b + k) % 512 = _
  unfold base
  omega

theorem out_subset (k : ℕ) (hk : k < 16) : (outM (nb a b k)).view.set ⊆ opart a b := by
  intro i hi
  obtain ⟨x, -, rfl⟩ := Finset.mem_map.mp hi
  rw [out_emb]
  have hx : (x 0).val < 128 := (x 0).isLt
  have := nb_val a b k hk
  simp only [opart, Finset.mem_filter, Finset.mem_univ, true_and]
  show (128 * (nb a b k).val + (x 0).val) / 2048 = _
  rw [this]; unfold base
  omega

def CFly (k : ℕ) (sem : DmaSem sig) : sProp 𝕄 :=
  iprop(∃ g o, ⌜OFact a b tb ib (k + 1) o⌝
    ∗ Transfers.Flight countersEmb (thr d a b) (.dma sem) (default : HIx 1) (outM (nb a b k)).view.dmaCredit
        iprop(((outM (nb a b k)).view.loc (thr d a b) ↦[opart a b]{fullShare} o)
          ∗ ((rbM).view.loc (thr d a b) ↦[(rbM).view.set]{fullShare} g))
    ∗ ((rbM).view.loc (thr d a b) ↦[Finset.univ \ (rbM).view.set]{fullShare} g))

theorem ofact_step (k : ℕ) (hk : k < 16) (g) (hg : RFact d a b tb ib (nb a b k) 512 g) (o : S65536x512.Idx → Elt F .i32) (ho : OFact a b tb ib k o) :
    OFact a b tb ib (k + 1) ((outM (nb a b k)).view.write (Elt F) o ((rbM).view.read (Elt F) g) Finset.univ) := by
  intro x hx1 hx2
  have hv := nb_val a b k hk
  by_cases hlo : (x 0).val < 128 * (base a b + k)
  · refine (View.write_of_not_mem _ _ _ ?_).trans (ho x hx1 hlo)
    rw [View.setOn_univ]
    intro hm
    obtain ⟨y, -, hy⟩ := Finset.mem_map.mp hm
    rw [out_emb] at hy
    have h0 : 128 * (nb a b k).val + (y 0).val = (x 0).val := congrArg (fun z : S65536x512.Idx => (z 0).val) hy
    omega
  · have hr : (x 0).val - 128 * (base a b + k) < 128 := by omega
    have hemb : (outM (nb a b k)).view.emb (Shape.pair (d := ![128, 512]) (⟨(x 0).val - 128 * (base a b + k), hr⟩ : Fin 128) (x 1)) = x := by
      rw [out_emb]
      funext c; apply Fin.ext
      match c with
      | 0 => show 128 * (nb a b k).val + ((x 0).val - 128 * (base a b + k)) = (x 0).val; omega
      | 1 => rfl
    refine (congrArg _ hemb.symm).trans ?_
    rw [View.write_emb_of_mem _ _ (Finset.mem_univ _), hg _ (show _ < 512 from (x 1).isLt)]
    refine (cast_eq _ _).trans (congrArg (gval tb ib) ?_)
    rw [← out_emb]; exact hemb

theorem wp_out (k : ℕ) (hk : k < 16) (sem : DmaSem sig)
    {o1 : Fin 3 → ℕ} {k1} {o2 : Fin 2 → ℕ} {k2} (e1 : o1 = ![0, 0, 0]) (e2 : o2 = ![128 * (base a b + k), 0])
    {hsrc : (rbV o1 k1).view.WordExact} {hdst : (outV o2 k2).view.WordExact}
    {hsem : DmaTarget.Typed (nD := nD) (sig := sig) (p := (thr d a b).2) .vmem (.dma sem) (.here (outV o2 k2))} {Q : PUnit → sProp 𝕄} :
    iprop(Rows d a b tb ib (nb a b k) 512 ∗ OPart d a b tb ib k ∗ semVal (thr d a b, SemLoc.dma sem) 0)
      ⊢ iprop((CFly d a b tb ib k sem -∗ Q ⟨⟩)
          -∗ Wp d a b (Prog.lift (.enqueueDma (rbV o1 k1) (.here (outV o2 k2)) (.dma sem) hsrc hdst hsem)) Q) := by
  rw [← nb_val a b k hk] at e2
  subst e1 e2
  unfold Rows OPart CFly
  iintro ⟨⟨%g, %hg, Hg⟩, ⟨%o, %ho, Ho⟩, Hv⟩ Hk
  ihave Hg' := (pointsTo_split_subset (ℓ := (rV).view.loc (thr d a b)) (q := fullShare) (f := g) (S := Finset.univ) (Finset.subset_univ (rbM).view.set)).1 $$ Hg
  icases Hg' with ⟨Hg, Hgr⟩
  iapply (Transfers.wp_dmaLocal countersEmb 𝒱₀ (thr d a b) none (default : HIx 1) (outM (nb a b k)).view.dmaCredit rfl
    (View.dmaCredit_pos _ (show 0 < S128x512.numel by decide)) (out_subset a b k hk)) $$ [Hg Ho Hv]
  · isplitl [Hg]; · iexact Hg
    isplitl [Ho]; · iexact Ho
    iexact Hv
  iintro Hf
  rw [wp_ret]; imodintro
  iapply Hk
  iexists g, _
  isplitr; · ipureintro; exact ofact_step d a b tb ib k hk g hg o ho
  isplitl [Hf]; · iexact Hf
  iexact Hgr

theorem wp_outed (k : ℕ) (hk : k < 16) (sem : DmaSem sig)
    {o1 : Fin 3 → ℕ} {k1} {o2 : Fin 2 → ℕ} {k2} (e1 : o1 = ![0, 0, 0]) (e2 : o2 = ![128 * (base a b + k), 0])
    {hsrc : (rbV o1 k1).view.WordExact} {hdst : (outV o2 k2).view.WordExact} {Q : PUnit → sProp 𝕄} :
    iprop(CFly d a b tb ib k sem ∗ Mw (F := F) d a b O ∗ Ow d a b O W)
      ⊢ iprop((iprop((∃ g, (rV).view.loc (thr d a b) ↦{fullShare} g) ∗ OPart d a b tb ib (k + 1) ∗ semVal (thr d a b, SemLoc.dma sem) 0
                ∗ Ow d a b O W) -∗ Q ⟨⟩)
          -∗ Wp d a b (Prog.lift (.waitDma2 sem (rbV o1 k1) (outV o2 k2) hsrc hdst)) Q) := by
  rw [← nb_val a b k hk] at e2
  subst e1 e2
  unfold OPart CFly
  iintro ⟨⟨%g, %o, %ho, Hf, Hgr⟩, Hmw, HO⟩ Hk
  iapply (wp_wait d a b O W sem (rbM) (outM (nb a b k)) rfl _) $$ [Hf Hmw HO]
  · isplitl [Hf]; · iexact Hf
    isplitl [Hmw]; · iexact Hmw
    iexact HO
  iintro ⟨⟨Ho, Hg⟩, Hv, HO⟩
  iapply Hk
  ihave Hg' := (pointsTo_split_subset (ℓ := (rV).view.loc (thr d a b)) (q := fullShare) (f := g) (S := Finset.univ) (Finset.subset_univ (rbM).view.set)).2 $$ [Hg Hgr]
  · isplitl [Hg] <;> iassumption
  isplitl [Hg']; · iexists g; iexact Hg'
  isplitl [Ho]
  · iexists o; isplitr
    · ipureintro; exact ho
    · iexact Ho
  isplitl [Hv]; · iexact Hv
  iexact HO

end Cert.Proof.Gather

end
-- ==== Proof.Trip.lean ====
/-
  One trip of a tile's loop, part by part: the next block's row numbers fetched into the other slot, this block's wait,
  the four slabs gathered, the block copied out.
-/
module

public import proofs.«01_k».proof.Proof.Move

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (a : Fin 2) (b : Fin 16)
variable (O : CellTallies nD τ sig (HIx 1)) (W : Waits sig (HIx 1))
variable (tb : S147456x512.Idx → Elt F .i32) (ib : S1x65536.Idx → Elt F .i32) (qt : PosShare TreeShare) (qs : Fin 2 → PosShare TreeShare)
variable (k : Fin k0_t1_loop.trips)

theorem klt : k.val < 16 := trips_eq ▸ k.isLt

/-- The slot of trip `k`. -/
abbrev par (k : ℕ) : Fin 2 := ⟨k % 2, Nat.mod_lt _ (by decide)⟩

theorem par_two (k : ℕ) : par (k + 1 + 1) = par k := Fin.ext (show (k + 1 + 1) % 2 = k % 2 by omega)

/-- The slot the next trip uses: fetching its block, or idle when there is no next trip. -/
def Other (k : ℕ) : sProp 𝕄 :=
  if k < 15 then SlotFly d a b ib qs (par (k + 1)) (nb a b (k + 1)) else SlotFree d a b ib qs (par (k + 1))

/-- A program that starts with `p` runs `p` first. -/
theorem wp_step {α β : Type} {p : Prog (TpuEff nD τ sig (Elt F) Λ₀ (thr d a b).2) α} {k : α → Prog (TpuEff nD τ sig (Elt F) Λ₀ (thr d a b).2) β} {Q : β → sProp 𝕄} :
    Wp d a b p (fun x => Wp d a b (k x) Q) ⊢ Wp d a b (p >>= k) Q := Entails.of_eq (wp_bind _ _ _ p k Q).symm

/-- A program that is over is at its end. -/
theorem wp_done {α : Type} {x : α} {Q : α → sProp 𝕄} : Q x ⊢ Wp d a b (pure x) Q := by
  unfold Wp; rw [wp_pure]; iintro H; imodintro; iexact H

/-- A check that holds. -/
theorem wp_check {P : Prop} {dec : Decidable P} (h : P) {Q : PLift P → sProp 𝕄} : Q ⟨h⟩ ⊢ Wp d a b (Prog.lift (.assume P dec)) Q := by
  unfold Wp
  iintro H
  iapply (wp_assume 𝒱₀ (thr d a b) none Set.univ h)
  rw [wp_ret]; imodintro; iexact H

abbrev sem0 (s : DmaSems sig S_) : sProp 𝕄 := semVal (thr d a b, SemLoc.dma s.sem) 0

/-! The words a trip computes from the carried ones. -/

abbrev u5 : BitVec 32 := Scf.iv 0#32 1#32 k
abbrev u56 : BitVec 1 := Scalar.cmpi .eq (u5 k) 0#32
abbrev u57 : BitVec 1 := Scalar.cmpi .eq (u5 k) 15#32
abbrev u58 : BitVec 32 := Scalar.addi (w10 k.val) (w4 a b)
abbrev u60 : BitVec 32 := Scalar.select 1#1 (Scalar.subi (w10 k.val) 1#32) (w10 k.val)
abbrev u63 : BitVec 32 := Scalar.addi (Scalar.select (Scalar.cmpi .eq (u60 k) 4294967295#32) 15#32 (u60 k)) (w4 a b)
abbrev u65 : BitVec 32 := Scalar.select 1#1 (Scalar.addi (w10 k.val) 1#32) (w10 k.val)
abbrev u68 : BitVec 32 := Scalar.addi (Scalar.select (Scalar.cmpi .eq (u65 k) 16#32) 0#32 (u65 k)) (w4 a b)
abbrev u77 : BitVec 1 := Scalar.andi (Scalar.cmpi .ne (u58 a b k) (u68 a b k)) (Scalar.xori (Scalar.cmpi .sge (u5 k) 15#32) 1#1)
abbrev u83 : BitVec 32 := Scalar.select (Scalar.andi (u77 a b k) 1#1) (Scalar.addi (w6 k.val) 1#32) (w6 k.val)
abbrev u109 : BitVec 1 := Scalar.ori (Scalar.cmpi .ne (u58 a b k) (u68 a b k)) (u57 k)
abbrev u123 : BitVec 1 := Scalar.andi (Scalar.cmpi .ne (u58 a b k) (u63 a b k)) (Scalar.xori (u56 k) 1#1)

theorem carried : ∀ (a : Fin 2) (b : Fin 16) (k : Fin k0_t1_loop.trips),
    (u83 a b k, Scalar.select (u109 a b k) (Scalar.addi (w7 k.val) 1#32) (w7 k.val),
      Scalar.select (Scalar.andi (u109 a b k) 1#1) (Scalar.addi (w7 k.val) 1#32) (w7 k.val),
      Scalar.select (Scalar.andi (u123 a b k) 1#1) (Scalar.addi (w9 k.val) 1#32) (w9 k.val),
      Scalar.select (Scalar.cmpi .eq (u65 k) 16#32) 0#32 (u65 k))
      = (w6 (k.val + 1), w7 (k.val + 1), w7 (k.val + 1), w9 (k.val + 1), w10 (k.val + 1)) := by decide +kernel

set_option maxHeartbeats 4000000 in
theorem part1 {Q : _ → sProp 𝕄} :
    SlotFree d a b ib qs (par (k.val + 1))
      ⊢ iprop((Other d a b ib qs k.val -∗ Q ⟨chk3 k, chk2 k, chk1 a b k, u5 k, u56 k, u57 k, u58 a b k, u63 a b k, u68 a b k, u83 a b k⟩)
          -∗ Wp d a b (k0_part1 (coordsV a b) tV (Memref.isWhole_whole _) iV (Memref.isWhole_whole _) oV (Memref.isWhole_whole _) sV (Memref.isWhole_whole _) cc0_scoped1 rV (Memref.isWhole_whole _) cc0_scoped3 cc0_scoped4 cc0_scoped5 cc0_scoped6 cc0_scoped7 cc0_scoped8
            (w4 a b) 0#32 1#32 k (w6 k.val) (w7 k.val) (w7 k.val) (w10 k.val)) Q) := by
  rw [k0_part1_eq_skeleton]; unfold k0_part1_skel
  iintro Hs Hk
  iapply (wp_step d a b)
  iapply (wp_check d a b (chk3 k))
  iapply (wp_step d a b)
  iapply (wp_check d a b (chk2 k))
  iapply (wp_step d a b)
  iapply (wp_check d a b (chk1 a b k))
  by_cases hk : k.val < 15
  · rw [dif_pos ((cond1 a b k).mpr hk)]
    simp only [Other, if_pos hk]
    have hb : (nb a b (k.val + 1)).val = base a b + (k.val + 1) := nb_val a b _ (by omega)
    iapply (wp_step d a b)
    iapply (wp_fetch d a b ib qs (par (k.val + 1)) (nb a b (k.val + 1)) (off4 k hk) (off6 k hk) ((off5 a b k hk).trans (by rw [hb]))) $$ Hs
    iintro Hf
    iapply (wp_done d a b)
    iapply Hk; iexact Hf
  · rw [dif_neg (fun h => hk ((cond1 a b k).mp h))]
    simp only [Other, if_neg hk]
    iapply (wp_done d a b)
    iapply Hk; iexact Hs

/-- What the gathers hold between parts. -/
def Mid (o : ℕ) : sProp 𝕄 :=
  iprop(((tV).view.loc (thr d a b) ↦{qt} tb) ∗ Rows d a b tb ib (nb a b k.val) o ∗ Words d a b ib (par k.val) (nb a b k.val) ∗ Ow d a b O W)

set_option maxHeartbeats 4000000 in
theorem part2 (hib : ∀ j, (ib j).toNat < 147456) {v1 : BitVec 1} {v2 v3 v4 : BitVec 32} {Q : PUnit → sProp 𝕄} :
    iprop(SlotFly d a b ib qs (par k.val) (nb a b k.val) ∗ Mw (F := F) d a b O ∗ Ow d a b O W ∗ ((tV).view.loc (thr d a b) ↦{qt} tb)
        ∗ Rows d a b tb ib (nb a b k.val) 0 ∗ sem0 d a b cc0_scoped4)
      ⊢ iprop((iprop(Mid d a b O W tb ib qt k 128 ∗ semVal (thr d a b, SemLoc.dma (cellM (par k.val))) 0 ∗ ((iV).view.loc (thr d a b) ↦{qs (par k.val)} ib)
            ∗ sem0 d a b cc0_scoped4) -∗ Q ⟨⟩)
          -∗ Wp d a b (k0_part2 (coordsV a b) tV (Memref.isWhole_whole _) iV (Memref.isWhole_whole _) oV (Memref.isWhole_whole _) sV (Memref.isWhole_whole _) cc0_scoped1 rV (Memref.isWhole_whole _) cc0_scoped3 cc0_scoped4 cc0_scoped5 cc0_scoped6 cc0_scoped7 cc0_scoped8
            k (w6 k.val) (w7 k.val) (w7 k.val) (w10 k.val) (chk3 k) (chk2 k) (chk1 a b k) v2 v1 v3 v4) Q) := by
  rw [k0_part2_eq_skeleton]; unfold k0_part2_skel
  simp only [Wp, dif_pos (cond2 a b k), ite_self, Mid]
  iintro ⟨Hs, #Hmw, HO, Ht, Hr, Hv⟩ Hk
  have hb : (nb a b k.val).val = base a b + k.val := nb_val a b _ (klt k)
  iapply (wp_step d a b)
  iapply (wp_fetched d a b O W ib qs (par k.val) (nb a b k.val) (off7 k) (off9 k) ((off8 a b k).trans (by rw [hb]))) $$ [Hs HO]
  · isplitl [Hs]; · iexact Hs
    isplitr; · iexact Hmw
    iexact HO
  iintro ⟨Hs, HO⟩
  unfold SlotFull
  icases Hs with ⟨Hw, Hc, Hi⟩
  iapply (wp_step d a b)
  iapply (wp_gather d a b tb ib qt (par k.val) (nb a b k.val) 0 hib cc0_scoped4.sem (off10 k) (off11 k)) $$ [Ht Hr Hw Hv]
  · isplitl [Ht]; · iexact Ht
    isplitl [Hr]; · iexact Hr
    isplitl [Hw]; · unfold Words; iexact Hw
    iexact Hv
  iintro Hg
  iapply (wp_step d a b)
  iapply (wp_gathered d a b O W tb ib qt (par k.val) (nb a b k.val) 0 cc0_scoped4.sem (off10 k)) $$ [Hg HO]
  · isplitl [Hg]; · iexact Hg
    isplitr; · iexact Hmw
    iexact HO
  iintro ⟨Ht, Hr, Hw, Hv, HO⟩
  iapply (wp_done d a b)
  iapply Hk
  isplitl [Ht Hr Hw HO]
  · isplitl [Ht]; · iexact Ht
    isplitl [Hr]; · iexact Hr
    isplitl [Hw]; · iexact Hw
    iexact HO
  isplitl [Hc]; · iexact Hc
  isplitl [Hi]; · iexact Hi
  iexact Hv

abbrev fly (o : ℕ) (h1 : LaneInb o) (h2 : SlabInb o) (h3 : ListInb) (s : DmaSems sig S_) : sProp 𝕄 :=
  GFly d a b tb ib qt (par k.val) (nb a b k.val) o h1 h2 h3 s.sem

set_option maxHeartbeats 4000000 in
theorem part3 (hib : ∀ j, (ib j).toNat < 147456) {Q : PUnit → sProp 𝕄} :
    iprop(Mid d a b O W tb ib qt k 128 ∗ Mw (F := F) d a b O ∗ sem0 d a b cc0_scoped5 ∗ sem0 d a b cc0_scoped6)
      ⊢ iprop((iprop(fly d a b tb ib qt k 256 inb_S128x512_S128x128_0_256 inb_S147456x512_S147456x128_0_256 inb_S1x128_S1x128_0_0 cc0_scoped6
              ∗ Ow d a b O W ∗ sem0 d a b cc0_scoped5) -∗ Q ⟨⟩)
          -∗ Wp d a b (k0_part3 (coordsV a b) tV (Memref.isWhole_whole _) iV (Memref.isWhole_whole _) oV (Memref.isWhole_whole _) sV (Memref.isWhole_whole _) cc0_scoped1 rV (Memref.isWhole_whole _) cc0_scoped3 cc0_scoped4 cc0_scoped5 cc0_scoped6 cc0_scoped7 cc0_scoped8
            (w7 k.val) (w7 k.val) (chk3 k) (chk2 k)) Q) := by
  rw [k0_part3_eq_skeleton]; unfold k0_part3_skel
  simp only [Wp, Mid]
  iintro ⟨⟨Ht, Hr, Hw, HO⟩, #Hmw, Hv, Hv'⟩ Hk
  iapply (wp_step d a b)
  iapply (wp_gather d a b tb ib qt (par k.val) (nb a b k.val) 128 hib cc0_scoped5.sem (off10 k) (off11 k)) $$ [Ht Hr Hw Hv]
  · isplitl [Ht]; · iexact Ht
    isplitl [Hr]; · iexact Hr
    isplitl [Hw]; · iexact Hw
    iexact Hv
  iintro Hg
  iapply (wp_step d a b)
  iapply (wp_gathered d a b O W tb ib qt (par k.val) (nb a b k.val) 128 cc0_scoped5.sem (off10 k)) $$ [Hg HO]
  · isplitl [Hg]; · iexact Hg
    isplitr; · iexact Hmw
    iexact HO
  iintro ⟨Ht, Hr, Hw, Hv, HO⟩
  iapply (wp_step d a b)
  iapply (wp_gather d a b tb ib qt (par k.val) (nb a b k.val) 256 hib cc0_scoped6.sem (off10 k) (off11 k)) $$ [Ht Hr Hw Hv']
  · isplitl [Ht]; · iexact Ht
    isplitl [Hr]; · iexact Hr
    isplitl [Hw]; · iexact Hw
    iexact Hv'
  iintro Hg
  iapply (wp_done d a b)
  iapply Hk
  isplitl [Hg]; · iexact Hg
  isplitl [HO]; · iexact HO
  iexact Hv

set_option maxHeartbeats 4000000 in
theorem part4 (hib : ∀ j, (ib j).toNat < 147456) {Q : BitVec 1 → sProp 𝕄} :
    iprop(fly d a b tb ib qt k 256 inb_S128x512_S128x128_0_256 inb_S147456x512_S147456x128_0_256 inb_S1x128_S1x128_0_0 cc0_scoped6
        ∗ Ow d a b O W ∗ Mw (F := F) d a b O ∗ sem0 d a b cc0_scoped7)
      ⊢ iprop((iprop(Mid d a b O W tb ib qt k 512 ∗ sem0 d a b cc0_scoped6 ∗ sem0 d a b cc0_scoped7) -∗ Q (u109 a b k))
          -∗ Wp d a b (k0_part4 (coordsV a b) tV (Memref.isWhole_whole _) iV (Memref.isWhole_whole _) oV (Memref.isWhole_whole _) sV (Memref.isWhole_whole _) cc0_scoped1 rV (Memref.isWhole_whole _) cc0_scoped3 cc0_scoped4 cc0_scoped5 cc0_scoped6 cc0_scoped7 cc0_scoped8
            (w7 k.val) (w7 k.val) (chk3 k) (chk2 k) (u57 k) (u58 a b k) (u68 a b k)) Q) := by
  rw [k0_part4_eq_skeleton]; unfold k0_part4_skel
  simp only [Wp, Mid, ite_self]
  iintro ⟨Hg, HO, #Hmw, Hv'⟩ Hk
  iapply (wp_step d a b)
  iapply (wp_gathered d a b O W tb ib qt (par k.val) (nb a b k.val) 256 cc0_scoped6.sem (off10 k)) $$ [Hg HO]
  · isplitl [Hg]; · iexact Hg
    isplitr; · iexact Hmw
    iexact HO
  iintro ⟨Ht, Hr, Hw, Hv, HO⟩
  iapply (wp_step d a b)
  iapply (wp_gather d a b tb ib qt (par k.val) (nb a b k.val) 384 hib cc0_scoped7.sem (off10 k) (off11 k)) $$ [Ht Hr Hw Hv']
  · isplitl [Ht]; · iexact Ht
    isplitl [Hr]; · iexact Hr
    isplitl [Hw]; · iexact Hw
    iexact Hv'
  iintro Hg
  iapply (wp_step d a b)
  iapply (wp_gathered d a b O W tb ib qt (par k.val) (nb a b k.val) 384 cc0_scoped7.sem (off10 k)) $$ [Hg HO]
  · isplitl [Hg]; · iexact Hg
    isplitr; · iexact Hmw
    iexact HO
  iintro ⟨Ht, Hr, Hw, Hv', HO⟩
  iapply (wp_done d a b)
  iapply Hk
  isplitl [Ht Hr Hw HO]
  · isplitl [Ht]; · iexact Ht
    isplitl [Hr]; · iexact Hr
    isplitl [Hw]; · iexact Hw
    iexact HO
  isplitl [Hv]; · iexact Hv
  iexact Hv'

/-! The loop's invariant. -/

/-- The two slots of row numbers before trip `k`: its own block on the way, the other slot idle. -/
def Slots (k : ℕ) : sProp 𝕄 :=
  iprop((if k < 16 then SlotFly d a b ib qs (par k) (nb a b k) else SlotFree d a b ib qs (par k)) ∗ SlotFree d a b ib qs (par (k + 1)))

def Inv (k : ℕ) (acc : BitVec 32 × BitVec 32 × BitVec 32 × BitVec 32 × BitVec 32) : sProp 𝕄 :=
  iprop(⌜acc = (w6 k, w7 k, w7 k, w9 k, w10 k)⌝ ∗ Mw (F := F) d a b O ∗ ((tV).view.loc (thr d a b) ↦{qt} tb) ∗ Slots d a b ib qs k
    ∗ (∃ g, (rV).view.loc (thr d a b) ↦{fullShare} g) ∗ OPart d a b tb ib k ∗ Ow d a b O W
    ∗ sem0 d a b cc0_scoped4 ∗ sem0 d a b cc0_scoped5 ∗ sem0 d a b cc0_scoped6 ∗ sem0 d a b cc0_scoped7 ∗ sem0 d a b cc0_scoped8)

theorem slots_next :
    iprop(Other d a b ib qs k.val ∗ SlotFree d a b ib qs (par k.val)) ⊢ Slots d a b ib qs (k.val + 1) := by
  unfold Slots Other
  rw [par_two]
  by_cases hk : k.val < 15
  · rw [if_pos hk, if_pos (show k.val + 1 < 16 by omega)]
  · rw [if_neg hk, if_neg (show ¬ k.val + 1 < 16 by omega)]

theorem rows_start (n : Fin 512) : iprop(∃ g, (rV).view.loc (thr d a b) ↦{fullShare} g) ⊢ Rows d a b tb ib n 0 := by
  unfold Rows
  iintro ⟨%g, Hg⟩
  iexists g
  isplitr
  · ipureintro; intro x hx; exact absurd hx (Nat.not_lt_zero _)
  iexact Hg

set_option maxHeartbeats 8000000 in
theorem trip (hib : ∀ j, (ib j).toNat < 147456) (acc : BitVec 32 × BitVec 32 × BitVec 32 × BitVec 32 × BitVec 32) :
    Inv d a b O W tb ib qt qs k.val acc
      ⊢ Wp d a b (k0_t1_body (coordsV a b) tV (Memref.isWhole_whole _) iV (Memref.isWhole_whole _) oV (Memref.isWhole_whole _) sV (Memref.isWhole_whole _) cc0_scoped1 rV (Memref.isWhole_whole _) cc0_scoped3 cc0_scoped4 cc0_scoped5 cc0_scoped6 cc0_scoped7 cc0_scoped8
            (w4 a b) k acc) (Inv d a b O W tb ib qt qs (k.val + 1)) := by
  have hb : (nb a b k.val).val = base a b + k.val := nb_val a b _ (klt k)
  conv => lhs; unfold Inv
  iintro ⟨%hacc, #Hmw, Ht, Hs, Hr, Ho, HO, Hv4, Hv5, Hv6, Hv7, Hv8⟩
  subst hacc
  unfold k0_t1_body Slots
  simp only [Wp, dif_pos (cond5 a b k), ite_self, if_pos (klt k)]
  icases Hs with ⟨Hs, Hs'⟩
  iapply (wp_step d a b)
  iapply (part1 d a b ib qs k) $$ Hs'
  iintro Hs'
  iapply (wp_step d a b)
  ihave Hr := (rows_start d a b tb ib (nb a b k.val)) $$ Hr
  iapply (part2 d a b O W tb ib qt qs k hib) $$ [Hs HO Ht Hr Hv4]
  · isplitl [Hs]; · iexact Hs
    isplitr; · iexact Hmw
    isplitl [HO]; · iexact HO
    isplitl [Ht]; · iexact Ht
    isplitl [Hr]; · iexact Hr
    iexact Hv4
  iintro ⟨Hm, Hc, Hi, Hv4⟩
  iapply (wp_step d a b)
  iapply (part3 d a b O W tb ib qt k hib) $$ [Hm Hv5 Hv6]
  · isplitl [Hm]; · iexact Hm
    isplitr; · iexact Hmw
    isplitl [Hv5]; · iexact Hv5
    iexact Hv6
  iintro ⟨Hg, HO, Hv5⟩
  iapply (wp_step d a b)
  iapply (part4 d a b O W tb ib qt k hib) $$ [Hg HO Hv7]
  · isplitl [Hg]; · iexact Hg
    isplitl [HO]; · iexact HO
    isplitr; · iexact Hmw
    iexact Hv7
  iintro ⟨Hm, Hv6, Hv7⟩
  unfold Mid
  icases Hm with ⟨Ht, Hr, Hw, HO⟩
  iapply (wp_step d a b)
  iapply (wp_out d a b tb ib k.val (klt k) cc0_scoped8.sem (off12 k) (off13 a b k)) $$ [Hr Ho Hv8]
  · isplitl [Hr]; · iexact Hr
    isplitl [Ho]; · iexact Ho
    iexact Hv8
  iintro Hf
  iapply (wp_step d a b)
  iapply (wp_outed d a b O W tb ib k.val (klt k) cc0_scoped8.sem (off12 k) (off13 a b k)) $$ [Hf HO]
  · isplitl [Hf]; · iexact Hf
    isplitr; · iexact Hmw
    iexact HO
  iintro ⟨Hr, Ho, Hv8, HO⟩
  iapply (wp_done d a b)
  unfold Inv
  isplitr
  · ipureintro; exact carried a b k
  isplitr; · iexact Hmw
  isplitl [Ht]; · iexact Ht
  isplitl [Hs' Hw Hc Hi]
  · iapply (slots_next d a b ib qs k)
    isplitl [Hs']; · iexact Hs'
    iapply (slot_forget d a b ib qs (par k.val) (nb a b k.val))
    unfold SlotFull
    isplitl [Hw]; · unfold Words; iexact Hw
    isplitl [Hc]; · iexact Hc
    iexact Hi
  isplitl [Hr]; · iexact Hr
  isplitl [Ho]; · iexact Ho
  isplitl [HO]; · iexact HO
  isplitl [Hv4]; · iexact Hv4
  isplitl [Hv5]; · iexact Hv5
  isplitl [Hv6]; · iexact Hv6
  isplitl [Hv7]; · iexact Hv7
  iexact Hv8

end Cert.Proof.Gather

end
-- ==== Proof.Tile.lean ====
/-
  A tile's task: its two index slots and row buffer taken out of its own storage, the first fetch, the sixteen trips, and
  the tile's part of the result left at the gathered rows.
-/
module

public import proofs.«01_k».proof.Proof.Trip
public import Idealize.ShloMosaic.Lib.ShareLeaves

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)

local notation "𝕄" => MT nD τ sig (HIx 1) (Elt F) ℕ UU ℕ

variable [FloatOps F]
variable (d : Dev nD) (a : Fin 2) (b : Fin 16)
variable (O : CellTallies nD τ sig (HIx 1)) (W : Waits sig (HIx 1))
variable (tb : S147456x512.Idx → Elt F .i32) (ib : S1x65536.Idx → Elt F .i32) (qt : PosShare TreeShare)

theorem v4_eq : ∀ (a : Fin 2) (b : Fin 16),
    Scalar.muli (Scalar.addi (Scalar.addi 0#32 (Scalar.muli (BitVec.ofNat 32 (coordsV a b 1).val) 1#32)) (Scalar.muli (BitVec.ofNat 32 (coordsV a b 0).val) 16#32)) 16#32
      = w4 a b := by decide +kernel

set_option maxHeartbeats 4000000 in
/-- The first fetch. -/
theorem part5 (qs : Fin 2 → PosShare TreeShare) {Q : BitVec 32 → sProp 𝕄} :
    SlotFree d a b ib qs 0
      ⊢ iprop((SlotFly d a b ib qs 0 (nb a b 0) -∗ Q (w4 a b))
          -∗ Wp d a b (k0_part5 (coordsV a b) tV (Memref.isWhole_whole _) iV (Memref.isWhole_whole _) oV (Memref.isWhole_whole _) sV (Memref.isWhole_whole _) cc0_scoped1 rV (Memref.isWhole_whole _) cc0_scoped3 cc0_scoped4 cc0_scoped5 cc0_scoped6 cc0_scoped7 cc0_scoped8) Q) := by
  rw [k0_part5_eq_skeleton]; unfold k0_part5_skel
  iintro Hs Hk
  have hb : (nb a b 0).val = base a b + 0 := nb_val a b _ (by omega)
  iapply (wp_step d a b)
  iapply (wp_fetch d a b ib qs 0 (nb a b 0) off1 off3 ((off2 a b).trans (by rw [hb]; rfl))) $$ Hs
  iintro Hf
  iapply (wp_done d a b)
  rw [v4_eq]
  iapply Hk; iexact Hf

/-! ## The tile's own storage -/

theorem slot_row (s : Fin 2) (i : S2x1x128.Idx) (h : i ∈ (slotM s).view.set) : (i 0).val = s.val := by
  have h' : i ∈ (((sV).slice (Rect.unit (s := S2x1x128) ![s.val, 0, 0] S1x1x128.size (slot_inb s)) (fun _ => rfl)).view).set := by
    rw [← View.set_reshape _ squeezes_S1x1x128_S1x128.numel_eq]; exact h
  obtain ⟨x, -, rfl⟩ := Finset.mem_map.mp h'
  have hx : (x 0).val < 1 := (x 0).isLt
  show s.val + 1 * (x 0).val = s.val
  omega

theorem slot_off : (slotM 1).view.set ⊆ Finset.univ \ (slotM 0).view.set := by
  intro i hi
  refine Finset.mem_sdiff.mpr ⟨Finset.mem_univ _, fun h0 => ?_⟩
  have h1 := slot_row 1 i hi
  have h2 := slot_row 0 i h0
  rw [h1] at h2
  exact absurd h2 (by decide)

/-- The index buffer is its two slots and what is left. -/
theorem slots_split (f : Buf (Elt F) ((sV).view.loc (thr d a b))) :
    ((sV).view.loc (thr d a b) ↦{fullShare} f : sProp 𝕄)
      ⊢ iprop(((slotM 0).view.loc (thr d a b) ↦[(slotM 0).view.set]{fullShare} f) ∗ ((slotM 1).view.loc (thr d a b) ↦[(slotM 1).view.set]{fullShare} f)
        ∗ ((sV).view.loc (thr d a b) ↦[(Finset.univ \ (slotM 0).view.set) \ (slotM 1).view.set]{fullShare} f)) := by
  iintro H
  ihave H := (pointsTo_split_subset (ℓ := (sV).view.loc (thr d a b)) (q := fullShare) (f := f) (S := Finset.univ) (Finset.subset_univ (slotM 0).view.set)).1 $$ H
  icases H with ⟨H0, H⟩
  ihave H := (pointsTo_split_subset (ℓ := (sV).view.loc (thr d a b)) (q := fullShare) (f := f) (S := Finset.univ \ (slotM 0).view.set) slot_off).1 $$ H
  icases H with ⟨H1, H⟩
  isplitl [H0]; · iexact H0
  isplitl [H1]; · iexact H1
  iexact H

theorem slots_join (f f0 f1 : Buf (Elt F) ((sV).view.loc (thr d a b))) :
    iprop(((slotM 0).view.loc (thr d a b) ↦[(slotM 0).view.set]{fullShare} f0) ∗ ((slotM 1).view.loc (thr d a b) ↦[(slotM 1).view.set]{fullShare} f1)
        ∗ ((sV).view.loc (thr d a b) ↦[(Finset.univ \ (slotM 0).view.set) \ (slotM 1).view.set]{fullShare} f))
      ⊢ (iprop(∃ g, (sV).view.loc (thr d a b) ↦{fullShare} g) : sProp 𝕄) := by
  iintro ⟨H0, H1, H⟩
  ihave H := (pointsTo_join_subset (ℓ := (sV).view.loc (thr d a b)) (q := fullShare) (g := f1) (f := f) (S := Finset.univ \ (slotM 0).view.set) slot_off) $$ [H1 H]
  · isplitl [H1] <;> iassumption
  ihave H := (pointsTo_join_subset (ℓ := (sV).view.loc (thr d a b)) (q := fullShare) (g := f0) (S := Finset.univ) (Finset.subset_univ (slotM 0).view.set)) $$ [H0 H]
  · isplitl [H0] <;> iassumption
  iexists _; iexact H

abbrev cell (d : Dev nD) (a : Fin 2) (b : Fin 16) (s : DmaSem sig) : GSem nD τ sig := (thr d a b, .dma s)

/-- The seven counters of the tile that its task uses. -/
def tcells : Finset (GSem nD τ sig) :=
  {cell d a b (cellM 0), cell d a b (cellM 1), cell d a b cc0_scoped4.sem, cell d a b cc0_scoped5.sem, cell d a b cc0_scoped6.sem, cell d a b cc0_scoped7.sem, cell d a b cc0_scoped8.sem}

omit [FloatOps F] in
theorem cell_ne {s s' : DmaSem sig} (h : s ≠ s') : cell d a b s ≠ cell d a b s' := by
  intro e; exact h (by injection e with _ e; injection e)

theorem tcells_own : tcells d a b ⊆ ownCells (thr d a b) := by
  intro g hg
  simp only [tcells, Finset.mem_insert, Finset.mem_singleton] at hg
  rcases hg with rfl | rfl | rfl | rfl | rfl | rfl | rfl <;>
    exact mem_ownCells.mpr ⟨rfl, by first | (show (SemLoc.dma (cellM 0) : SemLoc sig).isScoped .scVector = true; decide) | (show (SemLoc.dma (cellM 1) : SemLoc sig).isScoped .scVector = true; decide) | (show SemLoc.isScoped .scVector _ = true; decide) | decide⟩

theorem ownSems0_V :
    (ownSems0 (thr d a b) : sProp 𝕄)
      = iprop((semVal (cell d a b (cellM 0)) 0 ∗ semVal (cell d a b (cellM 1)) 0 ∗ sem0 d a b cc0_scoped4 ∗ sem0 d a b cc0_scoped5 ∗ sem0 d a b cc0_scoped6
            ∗ sem0 d a b cc0_scoped7 ∗ sem0 d a b cc0_scoped8)
          ∗ bigSep (ownCells (thr d a b) \ tcells d a b) fun g => semVal g 0) := by
  unfold SparseCore.Cfg.ownSems0
  have hn : ∀ s s' : DmaSem sig, s ≠ s' → cell d a b s ≠ cell d a b s' := fun _ _ => cell_ne d a b
  rw [bigSep_sdiff_split (tcells_own d a b)]
  unfold tcells
  rw [SparseCore.bigSep_insert' (by simp only [Finset.mem_insert, Finset.mem_singleton, not_or]; refine ⟨?_, ?_, ?_, ?_, ?_, ?_⟩ <;> exact hn _ _ (by decide)),
    SparseCore.bigSep_insert' (by simp only [Finset.mem_insert, Finset.mem_singleton, not_or]; refine ⟨?_, ?_, ?_, ?_, ?_⟩ <;> exact hn _ _ (by decide)),
    SparseCore.bigSep_insert' (by simp only [Finset.mem_insert, Finset.mem_singleton, not_or]; refine ⟨?_, ?_, ?_, ?_⟩ <;> exact hn _ _ (by decide)),
    SparseCore.bigSep_insert' (by simp only [Finset.mem_insert, Finset.mem_singleton, not_or]; refine ⟨?_, ?_, ?_⟩ <;> exact hn _ _ (by decide)),
    SparseCore.bigSep_insert' (by simp only [Finset.mem_insert, Finset.mem_singleton, not_or]; refine ⟨?_, ?_⟩ <;> exact hn _ _ (by decide)),
    SparseCore.bigSep_insert' (by simp only [Finset.mem_singleton]; exact hn _ _ (by decide)), bigSep_singleton]
  rfl

theorem ownBufs_V :
    (ownBufs (thr d a b) : sProp 𝕄)
      = iprop((∃ f, (sV).view.loc (thr d a b) ↦{fullShare} f) ∗ (∃ f, (rV).view.loc (thr d a b) ↦{fullShare} f)
          ∗ bigSep (((ownRefs (τ := τ) (.scVector (cL a) (jL b))).erase ((Proc.scVector (cL a) (jL b)).devRef cc0_scoped0)).erase
              ((Proc.scVector (cL a) (jL b)).devRef cc0_scoped2))
              fun r => iprop(∃ f, ((d, r) : Loc nD τ sig) ↦{fullShare} f)) := by
  unfold SparseCore.Cfg.ownBufs
  refine (SparseCore.bigSep_erase' (SparseCore.Cfg.mem_ownRefs_of_owner (p := Proc.scVector (cL a) (jL b))
    (b := (Proc.scVector (cL a) (jL b)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cL a) (jL b)) (b := (Proc.scVector (cL a) (jL b)).devRef cc0_scoped2) rfl⟩)]

/-! ## The task -/

abbrev tPts (q : PosShare TreeShare) : sProp 𝕄 := (tV).view.loc (thr d a b) ↦{q} tb
abbrev iPts (q : PosShare TreeShare) : sProp 𝕄 := (iV).view.loc (thr d a b) ↦{q} ib
abbrev oPts (f : S65536x512.Idx → Elt F .i32) : sProp 𝕄 := (oV).view.loc (thr d a b) ↦[opart a b]{fullShare} f

/-- The two halves of the tile's share of the row numbers, one per slot. -/
abbrev half (q : PosShare TreeShare) (s : Fin 2) : PosShare TreeShare := if s = 0 then q.left else q.right

theorem opart_start (ob : S65536x512.Idx → Elt F .i32) : oPts d a b ob ⊢ OPart d a b tb ib 0 := by
  unfold OPart
  iintro H
  iexists ob
  isplitr
  · ipureintro; intro x h1 h2; omega
  iexact H

theorem opart_end : OPart d a b tb ib 16 ⊢ oPts d a b (gval tb ib) := by
  unfold OPart
  iintro ⟨%g, %hg, H⟩
  have h : ∀ x ∈ opart a b, g x = gval tb ib x := by
    intro x hx
    have h := (Finset.mem_filter.mp hx).2
    refine hg x ?_ ?_ <;> unfold base <;> omega
  iapply (Entails.of_eq (pointsTo_congr (ℓ := (oV).view.loc (thr d a b)) (q := fullShare) h)); iexact H

set_option maxHeartbeats 4000000 in
theorem tile_body (hF : (K (F := F)).Facts) (hib : ∀ j, (ib j).toNat < 147456) (ob : S65536x512.Idx → Elt F .i32) (hO : ∀ g, O g none = 0) :
    iprop(levAts (K (F := F)).L (K (F := F)).lev ∗ emp
        ∗ (tPts d a b tb qt ∗ iPts d a b ib qt ∗ oPts d a b ob)
        ∗ scopedBufs (thr d a b) ∗ scopedSems0 (thr d a b) ∗ owes (thr d a b) O W)
      ⊢ Wp d a b (cc0_sc_gather (coordsV a b) tV (Memref.isWhole_whole _) iV (Memref.isWhole_whole _) oV (Memref.isWhole_whole _) sV (Memref.isWhole_whole _) cc0_scoped1 rV (Memref.isWhole_whole _) cc0_scoped3 cc0_scoped4 cc0_scoped5 cc0_scoped6 cc0_scoped7 cc0_scoped8)
          fun _ => iprop((tPts d a b tb qt ∗ iPts d a b ib qt ∗ oPts d a b (gval tb ib))
            ∗ scopedBufs (thr d a b) ∗ scopedSems0 (thr d a b) ∗ Ow d a b O W) := by
  rw [cc0_sc_gather_eq_skeleton]; unfold cc0_sc_gather_skel
  rw [(K (F := F)).scopedBufs_V hF d (cL a) (jL b), SparseCore.Cfg.scopedSems0_V (Val := Elt F) d (cL a) (jL b), ownSems0_V, ownBufs_V]
  iintro ⟨#Hlv, -, ⟨Ht, Hi, Ho⟩, ⟨⟨%fs, Hs⟩, Hr, Hbufs⟩, ⟨⟨Hc0, Hc1, Hv4, Hv5, Hv6, Hv7, Hv8⟩, Hsems⟩, HO⟩
  ihave Hmw := (show levAts (K (F := F)).L (K (F := F)).lev ⊢ Mw (F := F) d a b O from
    (K (F := F)).mayWaits_none (thr := thr d a b) hO) $$ Hlv
  ihave Hs := (slots_split d a b fs) $$ Hs
  icases Hs with ⟨Hs0, Hs1, Hsr⟩
  ihave Hi := (pointsTo_share (ℓ := (iV).view.loc (thr d a b)) (I := Finset.univ) (f := ib) (PosShare.mem_left_op_right qt)).1 $$ Hi
  icases Hi with ⟨Hi0, Hi1⟩
  iapply (wp_step d a b)
  iapply (part5 d a b ib (half qt)) $$ [Hs0 Hc0 Hi0]
  · unfold SlotFree
    isplitl [Hs0]; · iexists fs; iexact Hs0
    isplitl [Hc0]; · iexact Hc0
    iexact Hi0
  iintro Hf
  iapply (wp_step d a b)
  iapply (Scf.wp_for frame (wpE (defs₀ (F := F)) 𝒱₀ (thr d a b) none) Set.univ _ _ _ k0_t1_ok _ _
    (Inv d a b O W tb ib qt (half qt)) (fun k acc => trip d a b O W tb ib qt (half qt) k hib acc))
  isplitl [Hmw Ht Hf Hs1 Hc1 Hi1 Hr Ho HO Hv4 Hv5 Hv6 Hv7 Hv8]
  · unfold Inv
    isplitr; · ipureintro; rfl
    isplitl [Hmw]; · iexact Hmw
    isplitl [Ht]; · iexact Ht
    isplitl [Hf Hs1 Hc1 Hi1]
    · unfold Slots
      rw [if_pos (by decide)]
      isplitl [Hf]; · iexact Hf
      unfold SlotFree
      isplitl [Hs1]; · iexists fs; iexact Hs1
      isplitl [Hc1]; · iexact Hc1
      iexact Hi1
    isplitl [Hr]; · iexact Hr
    isplitl [Ho]; · iapply (opart_start d a b tb ib ob); iexact Ho
    isplitl [HO]
    · unfold Ow; iexists W; isplitr
      · ipureintro; exact fun p hp => .inl hp
      iexact HO
    isplitl [Hv4]; · iexact Hv4
    isplitl [Hv5]; · iexact Hv5
    isplitl [Hv6]; · iexact Hv6
    isplitl [Hv7]; · iexact Hv7
    iexact Hv8
  iintro %acc H
  rw [show Scf.trips k0_t1_loop.lb k0_t1_loop.ub k0_t1_loop.st = 16 from trips_eq]
  unfold Inv Slots SlotFree
  rw [if_neg (by decide)]
  icases H with ⟨-, -, Ht, ⟨⟨⟨%f0, Hs0⟩, Hc0, Hi0⟩, ⟨⟨%f1, Hs1⟩, Hc1, Hi1⟩⟩, Hr, Ho, HO, Hv4, Hv5, Hv6, Hv7, Hv8⟩
  iapply (wp_done d a b)
  isplitl [Ht Hi0 Hi1 Ho]
  · isplitl [Ht]; · iexact Ht
    isplitl [Hi0 Hi1]
    · iapply (pointsTo_share (ℓ := (iV).view.loc (thr d a b)) (I := Finset.univ) (f := ib) (PosShare.mem_left_op_right qt)).2
      isplitl [Hi0]; · iexact Hi0
      iexact Hi1
    iapply (opart_end d a b tb ib); iexact Ho
  isplitl [Hs0 Hs1 Hsr Hr Hbufs]
  · isplitl [Hs0 Hs1 Hsr]
    · iapply (slots_join d a b fs f0 f1)
      isplitl [Hs0]; · iexact Hs0
      isplitl [Hs1]; · iexact Hs1
      iexact Hsr
    isplitl [Hr]; · iexact Hr
    iexact Hbufs
  isplitr [HO]
  · isplitr [Hsems]
    · isplitl [Hc0]; · iexact Hc0
      isplitl [Hc1]; · iexact Hc1
      isplitl [Hv4]; · iexact Hv4
      isplitl [Hv5]; · iexact Hv5
      isplitl [Hv6]; · iexact Hv6
      isplitl [Hv7]; · iexact Hv7
      iexact Hv8
    iexact Hsems
  iexact HO

end Cert.Proof.Gather

end
-- ==== Proof.Launch.lean ====
/-
  The gather's launch: the table and the row numbers dealt in thirty-two shares and the result in thirty-two parts, one
  of each per tile; @main's reshape and its one call; the run.
-/
module

public import proofs.«01_k».proof.Proof.Tile
public import Idealize.ShloMosaic.Lib.SparseCore.Quiescent

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev tLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

variable [FloatOps F]

/-! ## @main's reshape -/

abbrev t' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opR : HloOp τ sig (Elt F) := StableHlo.reshape main_arg1 main_v0 (rfl : (.i32 : EltTy) = .i32) shapeCasts_S65536_S1x65536

/-- The TensorCore's arrays: the table, the list, the list as one row, the result. -/
abbrev S4 : Finset (DevRef τ sig) := {t', x', i', o'}

def V0 (d : Dev nD) : Valuation τ sig (Elt F) := fun b => m (d, b)

/-- The table and the list's one row, as the kernel finds them. -/
abbrev tbl (d : Dev nD) : S147456x512.Idx → Elt F .i32 := m (tLoc d)
abbrev lst (d : Dev nD) : S65536.Idx → Elt F .i32 := m (xLoc d)
def row (d : Dev nD) : S1x65536.Idx → Elt F .i32 := shapeCast S1x65536 (lst m d) shapeCasts_S65536_S1x65536

/-- The list's entry `j`. -/
abbrev lix (j : Fin 65536) : S65536.Idx := fun | 0 => j | ⟨_ + 1, h⟩ => absurd h (Nat.not_lt.2 (Nat.le_add_left _ _))

theorem row_at (d : Dev nD) (j : Fin 65536) : row m d (iix j) = lst m d (lix j) := by
  unfold row shapeCast
  congr 1
  have h : iix j = Shape.reshapeEquiv (s := S1x65536) (s' := S65536) shapeCasts_S65536_S1x65536.symm (lix j) := by
    rw [Shape.reshapeEquiv_cons_one]
    funext a; apply Fin.ext
    match a with
    | 0 => rfl
    | 1 => rfl
  rw [h, Shape.reshapeEquiv_reshapeEquiv, Shape.reshapeEquiv_self]

theorem held_S4 (d : Dev nD) (W : Valuation τ sig (Elt F)) :
    (held (T d) S4 W : sProp 𝕄) = iprop((tLoc d ↦{fullShare} W t') ∗ (xLoc d ↦{fullShare} W x') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((tLoc d ↦{fullShare} W main_arg0) ∗ (xLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({x', i'} : Finset (DevRef τ sig)) ⊆ S4 by decide

theorem held_V1 (d : Dev nD) :
    (held (T d) S4 ((opR (F := F)).result (V0 m d)) : sProp 𝕄)
      = iprop((tLoc d ↦{fullShare} m (tLoc d)) ∗ (xLoc d ↦{fullShare} m (xLoc d)) ∗ (iLoc d ↦{fullShare} row m d) ∗ oLoc d ↦{fullShare} m (oLoc d)) := by
  rw [held_S4,
    (opR (F := F)).result_of_not_mem (V0 m d) (b := t') (show t' ∉ ({i'} : Finset (DevRef τ sig)) by decide),
    (opR (F := F)).result_of_not_mem (V0 m d) (b := x') (show x' ∉ ({i'} : Finset (DevRef τ sig)) by decide),
    (opR (F := F)).result_of_not_mem (V0 m d) (b := o') (show o' ∉ ({i'} : Finset (DevRef τ sig)) by decide),
    show (opR (F := F)).result (V0 m d) i' = row m d from StableHlo.reshape_result _ _ _ _ _ _ _]
  rfl

/-! ## The deal -/

/-- Tile `(a, b)`'s share of what the tiles read together. -/
abbrev qsh (a : Fin 2) (b : Fin 16) : PosShare TreeShare := ShareLeaves.leaf 4 (ShareLeaves.leaf 1 fullShare a) b

/-- What tile `(a, b)` takes, its part of the result at `f`. -/
abbrev tilePts (d : Dev nD) (f : S65536x512.Idx → Elt F .i32) (a : Fin 2) (b : Fin 16) : sProp 𝕄 :=
  iprop(tPts d a b (tbl m d) (qsh a b) ∗ iPts d a b (row m d) (qsh a b) ∗ oPts d a b f)

/-- What SparseCore `a`'s sixteen tiles take. -/
abbrev corePts (d : Dev nD) (f : S65536x512.Idx → Elt F .i32) (a : Fin 2) : sProp 𝕄 := bigSep Finset.univ fun b : Fin 16 => tilePts m d f a b

theorem shares {ℓ : Loc nD τ sig} (f : Buf (Elt F) ℓ) :
    (ℓ ↦{fullShare} f : sProp 𝕄) = bigSep Finset.univ fun a : Fin 2 => bigSep Finset.univ fun b : Fin 16 => ℓ ↦{qsh a b} f := by
  refine (ShareLeaves.pointsTo_leaves Finset.univ f 1 fullShare).trans (bigSep_congr fun a _ => ?_)
  exact ShareLeaves.pointsTo_leaves Finset.univ f 4 _

theorem oparts_disjoint : ∀ p ∈ (Finset.univ : Finset (Fin 2 × Fin 16)), ∀ q ∈ (Finset.univ : Finset (Fin 2 × Fin 16)), p ≠ q →
    Disjoint (opart p.1 p.2) (opart q.1 q.2) := by
  intro p _ q _ h
  refine Finset.disjoint_left.mpr fun x hp hq => h ?_
  have h1 := (Finset.mem_filter.mp hp).2
  have h2 := (Finset.mem_filter.mp hq).2
  have := p.2.isLt; have := q.2.isLt
  refine Prod.ext (Fin.ext ?_) (Fin.ext ?_) <;> omega

theorem oparts_cover : (Finset.univ : Finset (Fin 2 × Fin 16)).biUnion (fun p => opart p.1 p.2) = Finset.univ := by
  ext x
  simp only [Finset.mem_biUnion, Finset.mem_univ, true_and, iff_true]
  have hx : (x 0).val < 65536 := (x 0).isLt
  refine ⟨(⟨(x 0).val / 32768, by omega⟩, ⟨(x 0).val / 2048 % 16, by omega⟩), Finset.mem_filter.mpr ⟨Finset.mem_univ _, ?_⟩⟩
  show (x 0).val / 2048 = 16 * ((x 0).val / 32768) + (x 0).val / 2048 % 16
  omega

theorem parts (d : Dev nD) (f : Buf (Elt F) (oLoc d)) :
    (oLoc d ↦{fullShare} f : sProp 𝕄) = bigSep Finset.univ fun a : Fin 2 => bigSep Finset.univ fun b : Fin 16 => oLoc d ↦[opart a b]{fullShare} f := by
  refine Eq.trans ?_ (bigSep_univ_prod (fun p : Fin 2 × Fin 16 => (oLoc d ↦[opart p.1 p.2]{fullShare} f : sProp 𝕄)))
  refine Eq.trans ?_ (pointsTo_biUnion Finset.univ (ℓ := oLoc d) (fun p : Fin 2 × Fin 16 => opart p.1 p.2) oparts_disjoint)
  rw [oparts_cover]

/-- The three arrays whole are the thirty-two tiles' pieces. -/
theorem deal (d : Dev nD) (f : Buf (Elt F) (oLoc d)) :
    (bigSep Finset.univ fun a : Fin 2 => corePts m d f a)
      = (iprop((tLoc d ↦{fullShare} m (tLoc d)) ∗ (iLoc d ↦{fullShare} row m d) ∗ oLoc d ↦{fullShare} f) : sProp 𝕄) := by
  rw [shares (ℓ := tLoc d) (m (tLoc d)), shares (ℓ := iLoc d) (row m d), parts d f, ← bigSep_sep', ← bigSep_sep']
  refine bigSep_congr fun a _ => ?_
  rw [← bigSep_sep', ← bigSep_sep']

/-! ## What the handshakes carry -/

/-- The result's contents at the end. -/
abbrev gat (d : Dev nD) : S65536x512.Idx → Elt F .i32 := gval (tbl m d) (row m d)

def P : (K (F := F)).Pay (nD := nD) (Val := Elt F) (Name := ℕ) (U := UU) where
  st := fun q d c => match q with | 0 => corePts m d (m (oLoc d)) (Fin.cast nCore_zero c)
  dn := fun q d c => match q with | 0 => corePts m d (gat m d) (Fin.cast nCore_zero c)
  go := fun q d c i => match q with | 0 => tilePts m d (m (oLoc d)) (Fin.cast nCore_zero c) (Fin.cast nSub_zero i)
  td := fun q d c i => match q with | 0 => tilePts m d (gat m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePts m d (m (oLoc d)) (Fin.cast nCore_zero c)))
  dn q d c := match q with
    | 0 => (inferInstance : BI.Storable (upEmb : UEmb _ 𝕄) (corePts m d (gat m d) (Fin.cast nCore_zero c)))
  go q d c i := match q with
    | 0 => (inferInstance : BI.Storable (upEmb : UEmb _ 𝕄) (tilePts m d (m (oLoc d)) (Fin.cast nCore_zero c) (Fin.cast nSub_zero i)))
  td q d c i := match q with
    | 0 => (inferInstance : BI.Storable (upEmb : UEmb _ 𝕄) (tilePts m d (gat m d) (Fin.cast nCore_zero c) (Fin.cast nSub_zero i)))

/-- What the proof asks of the launch memory: every listed row is one of the table's. -/
def PreOK : Prop := ∀ (d : Dev nD) (j : S65536.Idx), (lst m d j).toNat < 147456

theorem row_lt (hpre : PreOK m) (d : Dev nD) (j : S1x65536.Idx) : (row m d j).toNat < 147456 := hpre d _

/-! ## The tiles' obligation -/

theorem defs₀_vector (c : Fin τ.nSC) (s : Fin τ.nSub) :
    defs₀ (F := F) (.scVector c s) 0 ()
      = SparseCore.onTile hcore0 hsub0 (fun c s => cc0_sc_gather (coordsV c s)
          tV (Memref.isWhole_whole _) iV (Memref.isWhole_whole _) oV (Memref.isWhole_whole _)
          sV (Memref.isWhole_whole _) cc0_scoped1 rV (Memref.isWhole_whole _) cc0_scoped3 cc0_scoped4 cc0_scoped5 cc0_scoped6 cc0_scoped7 cc0_scoped8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (Fin.cast nCore_zero c) (Fin.cast nSub_zero i) O W (tbl m d) (row m d) (qsh (Fin.cast nCore_zero c) (Fin.cast nSub_zero i))
    hF (row_lt m hpre d) (m (oLoc d)) hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePts m d (m (oLoc d)) (Fin.cast nCore_zero c) ⊢ |={Set.univ}=> iprop(
      (bigSep Finset.univ fun i : Fin ((K (F := F)).nSub 0) => tilePts m d (m (oLoc d)) (Fin.cast nCore_zero c) (Fin.cast nSub_zero i))
      ∗ ((bigSep Finset.univ fun i : Fin ((K (F := F)).nSub 0) => tilePts m d (gat m d) (Fin.cast nCore_zero c) (Fin.cast nSub_zero i))
          -∗ corePts m d (gat m d) (Fin.cast nCore_zero c)))
  rw [bigSep_tasks (F := F) (fun i => tilePts m d (m (oLoc d)) (Fin.cast nCore_zero c) i),
    bigSep_tasks (F := F) (fun i => tilePts m d (gat m d) (Fin.cast nCore_zero c) i)]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem st0_eq (d : Dev nD) : (bigSep Finset.univ fun c : Fin ((K (F := F)).nCore 0) => (P m).st 0 d c)
    = iprop((tLoc d ↦{fullShare} m (tLoc d)) ∗ (iLoc d ↦{fullShare} row m d) ∗ oLoc d ↦{fullShare} m (oLoc d)) :=
  (bigSep_cores (F := F) (fun a => corePts m d (m (oLoc d)) a)).trans (deal m d (m (oLoc d)))
theorem dn0_eq (d : Dev nD) : (bigSep Finset.univ fun c : Fin ((K (F := F)).nCore 0) => (P m).dn 0 d c)
    = iprop((tLoc d ↦{fullShare} m (tLoc d)) ∗ (iLoc d ↦{fullShare} row m d) ∗ oLoc d ↦{fullShare} gat m d) :=
  (bigSep_cores (F := F) (fun a => corePts m d (gat m d) a)).trans (deal m d (gat m d))

abbrev FIN (d : Dev nD) : sProp 𝕄 :=
  iprop((tLoc d ↦{fullShare} m (tLoc d)) ∗ (xLoc d ↦{fullShare} m (xLoc d)) ∗ oLoc d ↦{fullShare} gat m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Ht, Hx, Hi, Ho⟩
  iapply ((K (F := F)).wp_run (D (F := F)) 𝒱 (EH := EH) (P := P m) κ d 0) $$ [Hst Ht Hx Hi Ho Hb Hts]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨Ht, -, Ho⟩
  imodintro
  isplitl [Hst]; · iexact Hst
  isplitr [Hb Hts]
  · isplitl [Ht]; · iexact Ht
    isplitl [Hx]; · iexact Hx
    iexact Ho
  isplitl [Hb] <;> iassumption

def fq (d : Dev nD) (s' : Phys nD τ sig (Elt F)) : Prop :=
  s'.mem.mem (oLoc d) = gat m d ∧ s'.mem.mem (tLoc d) = m (tLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ht, Hx, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := gat m d)) $$ [HSI Ho]
  · isplitl [HSI] <;> iassumption
  icases H with %h3
  ipureintro; exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (oLoc c) = gat m c ∧ r.2.mem (tLoc c) = m (tLoc c) ∧ r.2.mem (xLoc c) = m (xLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Rows.lean ====
/-
  The reference's run: a straight line of host operations whose last result, at rows in the table's range, is the
  gathered array.
-/
module

public import proofs.«01_k».proof.Proof.Launch
public import proofs.«01_k».proof.Proof.Gen.ReferenceIdeal
public import Idealize.ShloMosaic.Lib.StableHlo.Run
public import Idealize.ShloMosaic.Lib.Quiescent

@[expose] public section

noncomputable section

namespace Cert.Proof.Rows

open Cert.ReferenceIdeal Cert.ReferenceIdeal.Gen
open Idealize.ShloMosaic Idealize.ShloMosaic.TcCoe Idealize.ShloMosaic.StableHlo Idealize.SL.Sem

variable {F : FTy → Type} [FloatOps F]

abbrev ops : List (HloOp τ sig (Elt F)) :=
  [ nullary main_c (constantI S_ 32 0#32),
    unary main_c main_v0 (broadcastInDim S65536 ![] bcast_S_S65536),
    binary main_arg1 main_v0 main_v1 (cmpi .slt),
    nullary main_c_0 (constantI S_ 32 147456#32),
    unary main_c_0 main_v2 (broadcastInDim S65536 ![] bcast_S_S65536),
    binary main_arg1 main_v2 main_v3 addi,
    ternary main_v1 main_v3 main_arg1 main_v4 select,
    unary main_v4 main_v5 (broadcastInDim S65536x1 ![0] bcast_S65536_S65536x1_0),
    binary main_arg0 main_v5 main_v6 (fun x i => Host.gather gather_S147456x512_S65536x1_S65536x512_1_0_n_n_0_1_1512 x i) ]

theorem main_eq (c : Dev nD) : main (F := F) c = seq ops := by
  simp only [main, seq]
  rfl

/-- The result as the operations compute it. -/
def out (x : S147456x512.Idx → Elt F .i32) (i : S65536.Idx → Elt F .i32) : S65536x512.Idx → Elt F .i32 :=
  Host.gather gather_S147456x512_S65536x1_S65536x512_1_0_n_n_0_1_1512 x
    (broadcastInDim S65536x1 ![0] bcast_S65536_S65536x1_0
      (select (cmpi .slt (i : IVec S65536 32) (broadcastInDim S65536 ![] bcast_S_S65536 (constantI S_ 32 0#32)))
        (addi (i : IVec S65536 32) (broadcastInDim S65536 ![] bcast_S_S65536 (constantI S_ 32 147456#32))) (i : IVec S65536 32)))

theorem out_eq (V : Valuation τ sig (Elt F)) :
    after ops V (main_v6 : DevRef τ sig) = out (F := F) (V (main_arg0 : DevRef τ sig)) (V (main_arg1 : DevRef τ sig)) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

variable (m : (ℓ : Loc nD τ sig) → Buf (Elt F) ℓ) (ρ : Dev nD → PrngReg)

theorem run_main : θ_run (defs (F := F)) (onTc (τ := τ) (main (F := F))) ⟨m, fun _ => 0, ρ⟩ fun r =>
    (∀ c : Dev nD, r.2.mem ((c.tc : Thread nD τ).loc main_v6) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono
    (fun r h => ⟨fun c => ⟨(h c main_v6).trans (out_eq _), (h c main_arg0).trans (arg0_eq _), (h c main_arg1).trans (arg1_eq _)⟩,
      Idealize.ShloMosaic.sem_eq_zero_of_no_sems (by decide) r.2⟩)
    (run_seq (by decide) (by decide) defs main (fun _ => ops) main_eq (fun _ => ops_sub) m ρ)

/-! ## The result, element by element -/

/-- Entry `x 0` of the index column. -/
abbrev cix (x : S65536x512.Idx) : S65536x1.Idx := Shape.pair (d := ![65536, 1]) (x 0) (0 : Fin 1)

/-- The gather at an element: the operand's row at the listed number, read signed and clamped, its column. -/
theorem gather_at {α : Type} (x : S147456x512.Idx → α) (idx : IVec S65536x1 32) (y : S65536x512.Idx) :
    Host.gather gather_S147456x512_S65536x1_S65536x512_1_0_n_n_0_1_1512 x idx y
      = x (Shape.pair (d := ![147456, 512]) ⟨min (idx (cix y)).toInt.toNat 147455, lt_of_le_of_lt (Nat.min_le_right _ _) (show 147455 < 147456 by decide)⟩ (y 1)) := by
  unfold Host.gather
  congr 1
  funext a
  refine Fin.ext ?_
  have h01 : a = 0 ∨ a = 1 := by
    match a with
    | ⟨0, _⟩ => exact Or.inl rfl
    | ⟨1, _⟩ => exact Or.inr rfl
  show gather_S147456x512_S65536x1_S65536x512_1_0_n_n_0_1_1512.start y idx a + gather_S147456x512_S65536x1_S65536x512_1_0_n_n_0_1_1512.batchCoord y a
      + gather_S147456x512_S65536x1_S65536x512_1_0_n_n_0_1_1512.offCoord y a = _
  rw [GatherDims.batchCoord_eq_zero _ _ _ (by exact List.not_mem_nil)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S147456x512_S65536x1_S65536x512_1_0_n_n_0_1_1512.startIndexMap from List.mem_singleton.mpr rfl)]
    have hsi : gather_S147456x512_S65536x1_S65536x512_1_0_n_n_0_1_1512.siIdx y ⟨List.idxOf (0 : Fin 2) gather_S147456x512_S65536x1_S65536x512_1_0_n_n_0_1_1512.startIndexMap,
        List.idxOf_lt_length_iff.2 (List.mem_singleton.mpr rfl)⟩ = cix y := by
      funext b; refine Fin.ext ?_
      match b with
      | ⟨0, _⟩ => rfl
      | ⟨1, _⟩ => rfl
    rw [hsi]
    rfl
  · have hs : gather_S147456x512_S65536x1_S65536x512_1_0_n_n_0_1_1512.start y idx 1 = 0 := by
      unfold GatherDims.start
      exact dif_neg (fun h => absurd (List.mem_singleton.mp h) (by decide))
    rw [hs]
    show 0 + 0 + _ = _
    simp only [Nat.zero_add]
    rfl

/-- At rows of the table the result is the gathered array. -/
theorem out_at (x : S147456x512.Idx → Elt F .i32) (i : S65536.Idx → Elt F .i32) (hi : ∀ j, (i j : BitVec 32).toNat < 147456) (y : S65536x512.Idx) :
    out (F := F) x i y = x (Shape.pair (d := ![147456, 512]) (Gather.rowOf (i (Gather.lix (y 0)))) (y 1)) := by
  unfold out
  rw [gather_at]
  have hj : broadcastInDim S65536x1 ![0] bcast_S65536_S65536x1_0
      (select (cmpi .slt (i : IVec S65536 32) (broadcastInDim S65536 ![] bcast_S_S65536 (constantI S_ 32 0#32)))
        (addi (i : IVec S65536 32) (broadcastInDim S65536 ![] bcast_S_S65536 (constantI S_ 32 147456#32))) (i : IVec S65536 32)) (cix y)
      = i (Gather.lix (y 0)) := by
    have hx : broadcastInDim S65536x1 ![0] bcast_S65536_S65536x1_0 (fun j : S65536.Idx => j) (cix y) = Gather.lix (y 0) := by
      funext a
      match a with
      | 0 => rfl
    have h := hi (Gather.lix (y 0))
    have hn : IntOp.cmpi .slt (i (Gather.lix (y 0)) : BitVec 32) 0#32 ≠ 1#1 := by
      generalize (i (Gather.lix (y 0)) : BitVec 32) = w at h
      have e : BitVec.slt w 0#32 = false := by
        rw [BitVec.slt_eq_decide, decide_eq_false_iff_not, BitVec.toInt_eq_toNat_cond, if_pos (by omega)]
        show ¬ ((w.toNat : ℤ) < (0#32 : BitVec 32).toInt)
        have : (0#32 : BitVec 32).toInt = 0 := by decide
        omega
      show BitVec.ofBool (BitVec.slt w 0#32) ≠ 1#1
      rw [e]; decide
    show Scalar.select (IntOp.cmpi .slt (i (broadcastInDim S65536x1 ![0] bcast_S65536_S65536x1_0 (fun j : S65536.Idx => j) (cix y)) : BitVec 32) 0#32) _
      (i (broadcastInDim S65536x1 ![0] bcast_S65536_S65536x1_0 (fun j : S65536.Idx => j) (cix y))) = _
    rw [hx]
    exact if_neg hn
  rw [hj]
  have h := hi (Gather.lix (y 0))
  congr 2
  refine Fin.ext ?_
  show min (BitVec.toInt (i (Gather.lix (y 0)) : BitVec 32)).toNat 147455 = min (BitVec.toNat (i (Gather.lix (y 0)) : BitVec 32)) 147455
  rw [BitVec.toInt_eq_toNat_cond]
  split <;> omega

end Cert.Proof.Rows

end
-- ==== Proof.CombRun.lean ====
/-
  The combining call's runs: the launch over its two regions, the result array read at the end.
-/
module

public import proofs.«01_k».proof.Proof.Gen.Kernel3Ideal.Frame

@[expose] public section

set_option maxRecDepth 16384

noncomputable section

namespace Cert.Proof.Comb

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result array at the last region's contents, the argument arrays as launched and every
    counter at zero. -/
theorem run_main : θ_run defs (onTc (τ := τ) (main (F := F))) ⟨m, fun _ => 0, ρ⟩ (fun r => (∀ c : Dev nD,
      r.2.mem ((c.tc : Thread nD τ).loc main_v5) = W4 m ρ c (Pipeline.arrRef spec1 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v5 (by decide)), (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩), funext fun g => hz g (.inr (no_unscoped g.2))⟩)

end Cert.Proof.Comb

end
-- ==== Proof.Pairs.lean ====
/-
  Two bf16 values in a 32-bit word: the word with one half kept, or moved up, and zeros below denotes as f32 what the half
  denotes as bf16.
-/
module

public import Idealize.ShloMosaic.PureOps.Ideal
public import Idealize.ShloMosaic.Lib.Pointwise

@[expose] public section

noncomputable section

namespace Cert.Proof.Pairs

open Idealize.ShloMosaic

/-- A word whose low half is zero denotes as f32 what its high half denotes as bf16. -/
theorem upper (v : BitVec 32) (b : BitVec 16) (h : v.toNat = b.toNat * 65536) : Ideal.ofBits .f32 v = Ideal.ofBits .bf16 b := by
  have hb : b.toNat < 65536 := b.isLt
  have sign : v.extractLsb' (8 + 23) 1 = b.extractLsb' (8 + 7) 1 := by
    apply BitVec.eq_of_toNat_eq
    simp only [BitVec.extractLsb'_toNat, Nat.shiftRight_eq_div_pow, h]
    omega
  have exponent : (v.extractLsb' 23 8).toNat = (b.extractLsb' 7 8).toNat := by
    simp only [BitVec.extractLsb'_toNat, Nat.shiftRight_eq_div_pow, h]
    omega
  have fraction : (v.extractLsb' 0 23).toNat = (b.extractLsb' 0 7).toNat * 65536 := by
    simp only [BitVec.extractLsb'_toNat, Nat.shiftRight_eq_div_pow, h]
    omega
  show Ideal.ieee 8 23 v = Ideal.ieee 8 7 b
  unfold Ideal.ieee
  simp only [sign, exponent, fraction]
  generalize (b.extractLsb' 7 8).toNat = e
  generalize (b.extractLsb' 0 7).toNat = f
  generalize (b.extractLsb' (8 + 7) 1 == 1#1) = n
  have none : (f * 65536 = 0) = (f = 0) := propext ⟨fun h => by omega, fun h => by omega⟩
  simp only [none]
  have low : ∀ x : Int, ((2 : ℝ) ^ (x - ((7 : Nat) : Int))) = 65536 * (2 : ℝ) ^ (x - ((23 : Nat) : Int)) := by
    intro x
    rw [show x - ((7 : Nat) : Int) = 16 + (x - ((23 : Nat) : Int)) by omega, zpow_add₀ (by norm_num)]
    norm_num
  split_ifs
  all_goals try rfl
  all_goals
    refine congrArg (fun r : ℝ => (r : EReal)) ?_
    rw [low]
    push_cast
    ring

/-- A word's high half, its low half cleared. -/
theorem high (w : BitVec 32) : Ideal.ofBits .f32 (w &&& 0xFFFF0000#32) = Ideal.ofBits .bf16 (w.extractLsb' (1 * 16) 16) := by
  refine upper _ _ ?_
  have e : w &&& 0xFFFF0000#32 = (w >>> 16) <<< 16 := by
    apply BitVec.eq_of_getLsbD_eq
    intro i hi
    have mask : ∀ j : Fin 32, (0xFFFF0000#32).getLsbD j.val = decide (16 ≤ j.val) := by decide
    rw [BitVec.getLsbD_and, mask ⟨i, hi⟩, BitVec.getLsbD_shiftLeft, BitVec.getLsbD_ushiftRight]
    by_cases hl : 16 ≤ i
    · simp [hl, hi, show ¬ i < 16 by omega, show 16 + (i - 16) = i by omega]
    · simp [hl, show i < 16 by omega]
  have hw : w.toNat < 4294967296 := w.isLt
  rw [e]
  simp only [BitVec.toNat_shiftLeft, BitVec.toNat_ushiftRight, BitVec.extractLsb'_toNat, Nat.shiftRight_eq_div_pow, Nat.shiftLeft_eq]
  omega

/-- A word's low half, moved up. -/
theorem low (w : BitVec 32) : Ideal.ofBits .f32 (w <<< 16) = Ideal.ofBits .bf16 (w.extractLsb' (0 * 16) 16) := by
  refine upper _ _ ?_
  have hw : w.toNat < 4294967296 := w.isLt
  simp only [BitVec.toNat_shiftLeft, BitVec.extractLsb'_toNat, Nat.shiftRight_eq_div_pow, Nat.shiftLeft_eq]
  omega

end Cert.Proof.Pairs

end
-- ==== Proof.CombValue.lean ====
/-
  What the combining call computes at the ideal instance, row by row: the four gated rows over the residual, and the
  layer norm of the sum.
-/
module

public import proofs.«01_k».proof.Proof.Gen.Kernel3Ideal.Frame
public import proofs.«01_k».proof.Proof.Gen.Reference3Ideal.Run
public import proofs.«01_k».proof.Proof.Pairs
public import Idealize.ShloMosaic.Lib.BitcastConvert
public import Idealize.ShloMosaic.Lib.Pipeline.ValueKit
public import Idealize.ShloMosaic.Lib.Pipeline.Covers
public import Idealize.ShloMosaic.Lib.Pointwise

@[expose] public section

set_option maxRecDepth 16384

noncomputable section

namespace Cert.Proof.Comb

open Idealize.ShloMosaic Idealize.ShloMosaic.TcCoe

/-! ## The reference in stages -/

section Plain
open Cert.Reference3Ideal

/-- The rows that words of two values hold: the high halves', then the low halves'. -/
def rowsOf (a : IVec S65536x512 32) : FVec Ideal S65536x1024 .f32 :=
  concatenate S65536x1024 1 [
    ⟨S65536x512, (shapeCast _ (extractStridedSlice S65536x512x1 ![0, 0, 1] (extf .f32 (bitcastToFloat (F := Ideal) .bf16
      (Host.bitcastConvertNarrow S65536x512x2 16 a Gen.splits_S65536x512_w32_S65536x512x2_w16)) Gen.bitsLt_bf16_f32) Gen.slices_S65536x512x2_S65536x512x1_0_0_1) Gen.shapeCasts_S65536x512x1_S65536x512)⟩,
    ⟨S65536x512, (shapeCast _ (extractStridedSlice S65536x512x1 ![0, 0, 0] (extf .f32 (bitcastToFloat (F := Ideal) .bf16
      (Host.bitcastConvertNarrow S65536x512x2 16 a Gen.splits_S65536x512_w32_S65536x512x2_w16)) Gen.bitsLt_bf16_f32) Gen.slices_S65536x512x2_S65536x512x1_0_0_0) Gen.shapeCasts_S65536x512x1_S65536x512)⟩]
    Gen.concatenates_S65536x512_S65536x512_S65536x1024_d1

/-- The residual and the four gated rows. -/
def zOf (a0 a1 : FVec Ideal S65536x1024 .f32) (p : FVec Ideal S32768x128 .f32) (x : FVec Ideal S32768x1024 .f32) : FVec Ideal S32768x1024 .f32 :=
  addf (mulf (broadcastInDim S32768x1024 ![] Gen.bcast_S_S32768x1024 (constant S_ .f32 0x3FB504F3#32)) x)
    (Host.reduceAdd (mulf (broadcastInDim S4x32768x1024 ![0, 1, 2] Gen.bcast_S4x32768x1_S4x32768x1024_0_1_2
      (broadcastInDim S4x32768x1 ![0, 1] Gen.bcast_S4x32768_S4x32768x1_0_1
        (transpose S4x32768 [1, 0] (extractStridedSlice S32768x4 ![0, 4] p Gen.slices_S32768x128_S32768x4_0_4) Gen.transposes_S32768x4_S4x32768_1_0)))
      (concatenate S4x32768x1024 1 [⟨S4x16384x1024, (shapeCast _ a0 Gen.shapeCasts_S65536x1024_S4x16384x1024)⟩,
        ⟨S4x16384x1024, (shapeCast _ a1 Gen.shapeCasts_S65536x1024_S4x16384x1024)⟩] Gen.concatenates_S4x16384x1024_S4x16384x1024_S4x32768x1024_d1))
      (constant S_ .f32 0x00000000#32) Gen.reducesTo_S4x32768x1024_S32768x1024_d0 Gen.h_S_)

/-- A row's mean. -/
def meanOf (z : FVec Ideal S32768x1024 .f32) : FVec Ideal S32768x1 .f32 :=
  Host.divf (broadcastInDim S32768x1 ![0] Gen.bcast_S32768_S32768x1_0 (Host.reduceAdd z (constant S_ .f32 0x00000000#32) Gen.reducesTo_S32768x1024_S32768_d1 Gen.h_S_))
    (broadcastInDim S32768x1 ![] Gen.bcast_S_S32768x1 (constant S_ .f32 0x44800000#32))

/-- The rows about their means. -/
def cenOf (z : FVec Ideal S32768x1024 .f32) : FVec Ideal S32768x1024 .f32 :=
  subf z (broadcastInDim S32768x1024 ![0, 1] Gen.bcast_S32768x1_S32768x1024_0_1 (meanOf z))

/-- The layer norm. -/
def lnOf (z : FVec Ideal S32768x1024 .f32) (g b : FVec Ideal S1024 .f32) : FVec Ideal S32768x1024 .f32 :=
  addf (mulf (mulf (cenOf z) (broadcastInDim S32768x1024 ![0, 1] Gen.bcast_S32768x1_S32768x1024_0_1
      (Host.rsqrt (addf (meanOf (mulf (cenOf z) (cenOf z))) (broadcastInDim S32768x1 ![] Gen.bcast_S_S32768x1 (constant S_ .f32 0x3727C5AC#32))))))
    (broadcastInDim S32768x1024 ![0, 1] Gen.bcast_S1x1024_S32768x1024_0_1 (broadcastInDim S1x1024 ![1] Gen.bcast_S1024_S1x1024_1 g)))
    (broadcastInDim S32768x1024 ![0, 1] Gen.bcast_S1x1024_S32768x1024_0_1 (broadcastInDim S1x1024 ![1] Gen.bcast_S1024_S1x1024_1 b))

theorem reference_eq (m : (ℓ : Loc nD τ sig) → Buf (Elt Ideal) ℓ) (c : Dev nD) :
    Cert.Reference3Ideal.Value.res_out0 m c
      = lnOf (zOf (rowsOf (m ((c.tc : Thread nD τ).loc main_arg0))) (rowsOf (m ((c.tc : Thread nD τ).loc main_arg1))) (m ((c.tc : Thread nD τ).loc main_arg2))
          (m ((c.tc : Thread nD τ).loc main_arg3))) (m ((c.tc : Thread nD τ).loc main_arg4)) (m ((c.tc : Thread nD τ).loc main_arg5)) := by
  show Cert.Reference3Ideal.Value.res_main_v47 m c = _
  unfold Cert.Reference3Ideal.Value.res_main_v47
  rfl

end Plain

open Cert.Kernel3Ideal Cert.Kernel3Ideal.Gen

/-- The rows that a block's words hold. -/
def rowsBlk (w : IVec S1024x512 32) : FVec Ideal S1024x1024 .f32 :=
  concatenate S1024x1024 1 [⟨S1024x512, (bitcastToFloat .f32 (andi w (broadcast S1024x512 4294901760#32)) : FVec Ideal S1024x512 .f32)⟩,
    ⟨S1024x512, (bitcastToFloat .f32 (shli w (broadcast S1024x512 16#32)) : FVec Ideal S1024x512 .f32)⟩] concatenates_S1024x512_S1024x512_S1024x1024_d1

/-- Which word a half is of. -/
theorem word_of (p : Fin 65536) (k : Fin 512) (e : Fin 2) :
    Cert.Reference3Ideal.Gen.splits_S65536x512_w32_S65536x512x2_w16.drop (ix3 p k e) = ix2 p k :=
  funext fun x => match x with
    | ⟨0, _⟩ => rfl
    | ⟨1, _⟩ => rfl

/-- A block's rows are the reference's, where the words are. -/
theorem rows_eq (w : IVec S1024x512 32) (a : IVec Cert.Reference3Ideal.S65536x512 32) (r : Fin 1024) (p : Fin 65536)
    (h : ∀ k : Fin 512, w (ix2 r k) = a (ix2 p k)) (j : Fin 1024) : rowsBlk w (ix2 r j) = rowsOf a (ix2 p j) := by
  have hj := j.isLt
  pointwise [rowsBlk, rowsOf]
  by_cases hk : j.val < 512
  · rw [dif_pos hk, dif_pos hk, h]
    exact (Pairs.high _).trans (congrArg (fun i => Ideal.ofBits .bf16 (BitVec.extractLsb' 16 16 (a i))) (word_of _ _ _).symm)
  · rw [dif_neg hk, dif_neg hk, h]
    exact (Pairs.low _).trans (congrArg (fun i => Ideal.ofBits .bf16 (BitVec.extractLsb' 0 16 (a i))) (word_of _ _ _).symm)

/-- The residual and the four gated rows of a block. -/
def zBlk (v0 : FVec Ideal S1024x128 .f32) (v2 v7 v13 v19 : FVec Ideal S1024x1024 .f32) (v24 : FVec Ideal S1024x1024 .f32) : FVec Ideal S1024x1024 .f32 :=
  addf (mulf (broadcast S1024x1024 (Scalar.ofBits .f32 0x3FB504F3#32 : Ideal .f32)) v24)
    (addf (addf (addf (mulf (broadcastTo S1024x1024 (extractStridedSlice S1024x1 ![0, 4] v0 slices_S1024x128_o0_4_S1024x1) broadcasts_S1024x1_S1024x1024) v2)
      (mulf (broadcastTo S1024x1024 (extractStridedSlice S1024x1 ![0, 5] v0 slices_S1024x128_o0_5_S1024x1) broadcasts_S1024x1_S1024x1024) v7))
      (mulf (broadcastTo S1024x1024 (extractStridedSlice S1024x1 ![0, 6] v0 slices_S1024x128_o0_6_S1024x1) broadcasts_S1024x1_S1024x1024) v13))
      (mulf (broadcastTo S1024x1024 (extractStridedSlice S1024x1 ![0, 7] v0 slices_S1024x128_o0_7_S1024x1) broadcasts_S1024x1_S1024x1024) v19))

/-- A block's rows about their means. -/
def cenBlk (z : FVec Ideal S1024x1024 .f32) : FVec Ideal S1024x1024 .f32 :=
  subf z (broadcastTo S1024x1024 (divf (shapeCast S1024x1 (multiReduction .add [1] S1024 z 0x00000000#32 reduces_S1024x1024_S1024 (.inl rfl) rfl) shapeCasts_S1024_S1024x1)
    (broadcast S1024x1 (Scalar.ofBits .f32 0x44800000#32 : Ideal .f32))) broadcasts_S1024x1_S1024x1024)

/-- The layer norm of a block. -/
def lnBlk (z : FVec Ideal S1024x1024 .f32) (g b : FVec Ideal S1x1024 .f32) : FVec Ideal S1024x1024 .f32 :=
  addf (mulf (mulf (cenBlk z) (broadcastTo S1024x1024 (rsqrt (addf (divf (shapeCast S1024x1 (multiReduction .add [1] S1024 (mulf (cenBlk z) (cenBlk z)) 0x00000000#32 reduces_S1024x1024_S1024 (.inl rfl) rfl) shapeCasts_S1024_S1024x1)
      (broadcast S1024x1 (Scalar.ofBits .f32 0x44800000#32 : Ideal .f32))) (broadcast S1024x1 (Scalar.ofBits .f32 0x3727C5AC#32 : Ideal .f32)))) broadcasts_S1024x1_S1024x1024))
    (broadcastTo S1024x1024 (shapeCast S1x1024 g shapeCasts_S1x1024_S1x1024) broadcasts_S1x1024_S1024x1024))
    (broadcastTo S1024x1024 (shapeCast S1x1024 b shapeCasts_S1x1024_S1x1024) broadcasts_S1x1024_S1024x1024)

/-- A block's result, of the words, the gates, the residual, the scale and the shift. -/
def outBlk (x0 x1 x2 x3 : IVec S1024x512 32) (x4 : FVec Ideal S1024x128 .f32) (x5 : FVec Ideal S1024x1024 .f32) (x6 x7 : FVec Ideal S1x1024 .f32) : FVec Ideal S1024x1024 .f32 :=
  lnBlk (zBlk x4 (rowsBlk x0) (rowsBlk x1) (rowsBlk x2) (rowsBlk x3) x5) x6 x7

theorem pay_eq (x0 x1 x2 x3 : IVec S1024x512 32) (x4 : FVec Ideal S1024x128 .f32) (x5 : FVec Ideal S1024x1024 .f32) (x6 x7 : FVec Ideal S1x1024 .f32) :
    k0_pay1 (F := Ideal) (k0_pay2 (F := Ideal) x4 x0 x1 x2) (k0_pay3 (F := Ideal) x4) x3 (k0_pay4 (F := Ideal) x3) 16#32 x5 x6 x7 = outBlk x0 x1 x2 x3 x4 x5 x6 x7 := rfl

/-- The layer norm of a block is the reference's over the same rows. -/
theorem norm_eq (z : FVec Ideal S1024x1024 .f32) (v28 v30 : FVec Ideal S1x1024 .f32) (Z : FVec Ideal Cert.Reference3Ideal.S32768x1024 .f32)
    (g b : FVec Ideal Cert.Reference3Ideal.S1024 .f32) (i : Fin 32) (hz : ∀ (r k : Fin 1024), z (ix2 r k) = Z (ix2 ⟨i.val * 1024 + r.val, by omega⟩ k))
    (hg : ∀ k : Fin 1024, v28 (ix2 0 k) = g (ix1 k)) (hb : ∀ k : Fin 1024, v30 (ix2 0 k) = b (ix1 k)) (r j : Fin 1024) :
    lnBlk z v28 v30 (ix2 r j)
      = lnOf Z g b (ix2 ⟨i.val * 1024 + r.val, by omega⟩ j) := by
  pointwise [lnBlk, cenBlk, lnOf, cenOf, meanOf]
  simp only [hz, hg, hb, zero_add]

/-- A row of the first half of the sum. -/
theorem z_lo (a0 a1 : FVec Ideal Cert.Reference3Ideal.S65536x1024 .f32) (p : FVec Ideal Cert.Reference3Ideal.S32768x128 .f32) (x : FVec Ideal Cert.Reference3Ideal.S32768x1024 .f32)
    (q : Fin 16384) (k : Fin 1024) (u : FVec Ideal S1024x128 .f32) (y0 y1 y2 y3 : FVec Ideal S1024x1024 .f32) (w : FVec Ideal S1024x1024 .f32) (r : Fin 1024)
    (hu : ∀ l : Fin 128, u (ix2 r l) = p (ix2 ⟨q.val, by omega⟩ l)) (hw : w (ix2 r k) = x (ix2 ⟨q.val, by omega⟩ k))
    (h0 : y0 (ix2 r k) = a0 (ix2 ⟨q.val, by omega⟩ k)) (h1 : y1 (ix2 r k) = a0 (ix2 ⟨16384 + q.val, by omega⟩ k))
    (h2 : y2 (ix2 r k) = a0 (ix2 ⟨32768 + q.val, by omega⟩ k)) (h3 : y3 (ix2 r k) = a0 (ix2 ⟨49152 + q.val, by omega⟩ k)) :
    zBlk u y0 y1 y2 y3 w (ix2 r k) = zOf a0 a1 p x (ix2 ⟨q.val, by omega⟩ k) := by
  pointwise [zBlk, zOf]
  simp only [Fin.sum_univ_four, hu, hw, h0, h1, h2, h3, zero_add, Fin.isValue, Fin.val_zero, Fin.val_one, Fin.val_two, Fin.coe_ofNat_eq_mod, Nat.reduceMod, Nat.reduceMul,
    Nat.reduceAdd, Nat.zero_mul, Nat.zero_add, Nat.add_zero, Fin.reduceFinMk]

/-- A row of the second half of the sum. -/
theorem z_hi (a0 a1 : FVec Ideal Cert.Reference3Ideal.S65536x1024 .f32) (p : FVec Ideal Cert.Reference3Ideal.S32768x128 .f32) (x : FVec Ideal Cert.Reference3Ideal.S32768x1024 .f32)
    (q : Fin 16384) (k : Fin 1024) (u : FVec Ideal S1024x128 .f32) (y0 y1 y2 y3 : FVec Ideal S1024x1024 .f32) (w : FVec Ideal S1024x1024 .f32) (r : Fin 1024)
    (hu : ∀ l : Fin 128, u (ix2 r l) = p (ix2 ⟨16384 + q.val, by omega⟩ l)) (hw : w (ix2 r k) = x (ix2 ⟨16384 + q.val, by omega⟩ k))
    (h0 : y0 (ix2 r k) = a1 (ix2 ⟨q.val, by omega⟩ k)) (h1 : y1 (ix2 r k) = a1 (ix2 ⟨16384 + q.val, by omega⟩ k))
    (h2 : y2 (ix2 r k) = a1 (ix2 ⟨32768 + q.val, by omega⟩ k)) (h3 : y3 (ix2 r k) = a1 (ix2 ⟨49152 + q.val, by omega⟩ k)) :
    zBlk u y0 y1 y2 y3 w (ix2 r k) = zOf a0 a1 p x (ix2 ⟨16384 + q.val, by omega⟩ k) := by
  pointwise [zBlk, zOf]
  simp only [Fin.sum_univ_four, hu, hw, h0, h1, h2, h3, zero_add, Fin.isValue, Fin.val_zero, Fin.val_one, Fin.val_two, Fin.coe_ofNat_eq_mod, Nat.reduceMod, Nat.reduceMul,
    Nat.reduceAdd, Nat.zero_mul, Nat.zero_add, Nat.add_zero, Fin.reduceFinMk]

end Cert.Proof.Comb

end
-- ==== Proof.CombFinal.lean ====
/-
  The combining call over its two grids at the ideal instance: its result is the reference's.
-/
module

public import proofs.«01_k».proof.Proof.CombValue

@[expose] public section

set_option maxRecDepth 16384

noncomputable section

namespace Cert.Proof.Comb

open Cert.Kernel3Ideal Cert.Kernel3Ideal.Gen
open Idealize.ShloMosaic Idealize.ShloMosaic.TcCoe

/-! ## The blocks of the arrays -/

theorem zero_row (s x : Nat) : 0 * s + x = x := by omega

theorem crd0 (t : Fin cfg0.N) : (cfg0.grid.coords t 0).val = t.val := by
  have h : t.val < 16 := t.isLt
  rw [Pipeline.Grid.coords_val t 0 (S := 1) (B := 16) (show grid0.stride 0 = 1 by decide) rfl]
  omega
theorem crd1 (t : Fin cfg1.N) : (cfg1.grid.coords t 0).val = t.val := by
  have h : t.val < 16 := t.isLt
  rw [Pipeline.Grid.coords_val t 0 (S := 1) (B := 16) (show grid1.stride 0 = 1 by decide) rfl]
  omega

theorem add_word (n k : Nat) (hn : n < 64) (hk : k < 64) : (Scalar.addi (BitVec.ofNat 32 n) (BitVec.ofNat 32 k)).toNat = n + k := by
  show (BitVec.ofNat 32 n + BitVec.ofNat 32 k).toNat = n + k
  rw [BitVec.toNat_add, BitVec.toNat_ofNat, BitVec.toNat_ofNat]; omega
theorem word0 (n : Nat) (hn : n < 64) (t : Fin cfg0.N) : (Scalar.addi (BitVec.ofNat 32 n) (BitVec.ofNat 32 (cfg0.grid.coords t 0).val)).toNat = n + t.val := by
  have h : t.val < 16 := t.isLt
  rw [crd0]; exact add_word n t.val hn (by omega)
theorem word1 (n : Nat) (hn : n < 64) (t : Fin cfg1.N) : (Scalar.addi (BitVec.ofNat 32 n) (BitVec.ofNat 32 (cfg1.grid.coords t 0).val)).toNat = n + t.val := by
  have h : t.val < 16 := t.isLt
  rw [crd1]; exact add_word n t.val hn (by omega)

variable (V : (c : Dev nD) → (b : Ref sig .tc) → Buf (Elt Ideal) ((c.tc : Thread nD τ).loc b)) (c : Dev nD)

theorem index0_0 (t : Fin cfg0.N) : (cfg0.win 0).index t = ![0 + t.val, 0] :=
  congrArg (fun n : Nat => (![n, 0] : Fin 2 → Nat)) (word0 0 (by decide) t)
theorem read0_0 (t : Fin cfg0.N) (r : Fin 1024) (q : Fin 512) (p : Fin 65536) (hp : p.val = (0 + t.val) * 1024 + r.val) :
    (iblk0 V c 0 t : IVec S1024x512 32) (ix2 r q) = V c main_arg0 (ix2 p q) := by
  refine congrArg (V c main_arg0) (funext fun x => Fin.ext ?_)
  refine (Pipeline.Window.rect_emb_val (cfg0.win 0) t _ x).trans ?_
  rw [index0_0]
  match x with
  | ⟨0, _⟩ => exact hp.symm
  | ⟨1, _⟩ => exact zero_row _ _
theorem index0_1 (t : Fin cfg0.N) : (cfg0.win 1).index t = ![16 + t.val, 0] :=
  congrArg (fun n : Nat => (![n, 0] : Fin 2 → Nat)) (word0 16 (by decide) t)
theorem read0_1 (t : Fin cfg0.N) (r : Fin 1024) (q : Fin 512) (p : Fin 65536) (hp : p.val = (16 + t.val) * 1024 + r.val) :
    (iblk0 V c 1 t : IVec S1024x512 32) (ix2 r q) = V c main_arg0 (ix2 p q) := by
  refine congrArg (V c main_arg0) (funext fun x => Fin.ext ?_)
  refine (Pipeline.Window.rect_emb_val (cfg0.win 1) t _ x).trans ?_
  rw [index0_1]
  match x with
  | ⟨0, _⟩ => exact hp.symm
  | ⟨1, _⟩ => exact zero_row _ _
theorem index0_2 (t : Fin cfg0.N) : (cfg0.win 2).index t = ![32 + t.val, 0] :=
  congrArg (fun n : Nat => (![n, 0] : Fin 2 → Nat)) (word0 32 (by decide) t)
theorem read0_2 (t : Fin cfg0.N) (r : Fin 1024) (q : Fin 512) (p : Fin 65536) (hp : p.val = (32 + t.val) * 1024 + r.val) :
    (iblk0 V c 2 t : IVec S1024x512 32) (ix2 r q) = V c main_arg0 (ix2 p q) := by
  refine congrArg (V c main_arg0) (funext fun x => Fin.ext ?_)
  refine (Pipeline.Window.rect_emb_val (cfg0.win 2) t _ x).trans ?_
  rw [index0_2]
  match x with
  | ⟨0, _⟩ => exact hp.symm
  | ⟨1, _⟩ => exact zero_row _ _
theorem index0_3 (t : Fin cfg0.N) : (cfg0.win 3).index t = ![48 + t.val, 0] :=
  congrArg (fun n : Nat => (![n, 0] : Fin 2 → Nat)) (word0 48 (by decide) t)
theorem read0_3 (t : Fin cfg0.N) (r : Fin 1024) (q : Fin 512) (p : Fin 65536) (hp : p.val = (48 + t.val) * 1024 + r.val) :
    (iblk0 V c 3 t : IVec S1024x512 32) (ix2 r q) = V c main_arg0 (ix2 p q) := by
  refine congrArg (V c main_arg0) (funext fun x => Fin.ext ?_)
  refine (Pipeline.Window.rect_emb_val (cfg0.win 3) t _ x).trans ?_
  rw [index0_3]
  match x with
  | ⟨0, _⟩ => exact hp.symm
  | ⟨1, _⟩ => exact zero_row _ _
theorem index0_4 (t : Fin cfg0.N) : (cfg0.win 4).index t = ![0 + t.val, 0] :=
  congrArg (fun n : Nat => (![n, 0] : Fin 2 → Nat)) (word0 0 (by decide) t)
theorem read0_4 (t : Fin cfg0.N) (r : Fin 1024) (q : Fin 128) (p : Fin 32768) (hp : p.val = (0 + t.val) * 1024 + r.val) :
    (iblk0 V c 4 t : FVec Ideal S1024x128 .f32) (ix2 r q) = V c main_arg2 (ix2 p q) := by
  refine congrArg (V c main_arg2) (funext fun x => Fin.ext ?_)
  refine (Pipeline.Window.rect_emb_val (cfg0.win 4) t _ x).trans ?_
  rw [index0_4]
  match x with
  | ⟨0, _⟩ => exact hp.symm
  | ⟨1, _⟩ => exact zero_row _ _
theorem index0_5 (t : Fin cfg0.N) : (cfg0.win 5).index t = ![0 + t.val, 0] :=
  congrArg (fun n : Nat => (![n, 0] : Fin 2 → Nat)) (word0 0 (by decide) t)
theorem read0_5 (t : Fin cfg0.N) (r : Fin 1024) (q : Fin 1024) (p : Fin 32768) (hp : p.val = (0 + t.val) * 1024 + r.val) :
    (iblk0 V c 5 t : FVec Ideal S1024x1024 .f32) (ix2 r q) = V c main_arg3 (ix2 p q) := by
  refine congrArg (V c main_arg3) (funext fun x => Fin.ext ?_)
  refine (Pipeline.Window.rect_emb_val (cfg0.win 5) t _ x).trans ?_
  rw [index0_5]
  match x with
  | ⟨0, _⟩ => exact hp.symm
  | ⟨1, _⟩ => exact zero_row _ _
theorem read0_6 (t : Fin cfg0.N) (q : Fin 1024) :
    (iblk0 V c 6 t : FVec Ideal S1x1024 .f32) (ix2 0 q) = V c main_v0 (ix2 (0 : Fin 1) q) := by
  refine congrArg (V c main_v0) (funext fun x => Fin.ext ?_)
  refine (Pipeline.Window.rect_emb_val (cfg0.win 6) t _ x).trans ?_
  rw [show (cfg0.win 6).index t = ![0, 0] from rfl]
  match x with
  | ⟨0, _⟩ => rfl
  | ⟨1, _⟩ => exact zero_row _ _
theorem read0_7 (t : Fin cfg0.N) (q : Fin 1024) :
    (iblk0 V c 7 t : FVec Ideal S1x1024 .f32) (ix2 0 q) = V c main_v1 (ix2 (0 : Fin 1) q) := by
  refine congrArg (V c main_v1) (funext fun x => Fin.ext ?_)
  refine (Pipeline.Window.rect_emb_val (cfg0.win 7) t _ x).trans ?_
  rw [show (cfg0.win 7).index t = ![0, 0] from rfl]
  match x with
  | ⟨0, _⟩ => rfl
  | ⟨1, _⟩ => exact zero_row _ _
theorem index0_8 (t : Fin cfg0.N) : (cfg0.win 8).index t = ![0 + t.val, 0] :=
  congrArg (fun n : Nat => (![n, 0] : Fin 2 → Nat)) (word0 0 (by decide) t)
theorem emb0_8 (t : Fin cfg0.N) (r q : Fin 1024) (p : Fin 32768) (hp : p.val = (0 + t.val) * 1024 + r.val) :
    ((cfg0.win 8).blk t).view.emb (ix2 r q) = (ix2 p q : S32768x1024.Idx) := by
  refine funext fun x => Fin.ext ?_
  refine (Pipeline.Window.rect_emb_val (cfg0.win 8) t _ x).trans ?_
  rw [index0_8]
  match x with
  | ⟨0, _⟩ => exact hp.symm
  | ⟨1, _⟩ => exact zero_row _ _

theorem index1_0 (t : Fin cfg1.N) : (cfg1.win 0).index t = ![0 + t.val, 0] :=
  congrArg (fun n : Nat => (![n, 0] : Fin 2 → Nat)) (word1 0 (by decide) t)
theorem read1_0 (t : Fin cfg1.N) (r : Fin 1024) (q : Fin 512) (p : Fin 65536) (hp : p.val = (0 + t.val) * 1024 + r.val) :
    (iblk1 V c 0 t : IVec S1024x512 32) (ix2 r q) = V c main_arg1 (ix2 p q) := by
  refine congrArg (V c main_arg1) (funext fun x => Fin.ext ?_)
  refine (Pipeline.Window.rect_emb_val (cfg1.win 0) t _ x).trans ?_
  rw [index1_0]
  match x with
  | ⟨0, _⟩ => exact hp.symm
  | ⟨1, _⟩ => exact zero_row _ _
theorem index1_1 (t : Fin cfg1.N) : (cfg1.win 1).index t = ![16 + t.val, 0] :=
  congrArg (fun n : Nat => (![n, 0] : Fin 2 → Nat)) (word1 16 (by decide) t)
theorem read1_1 (t : Fin cfg1.N) (r : Fin 1024) (q : Fin 512) (p : Fin 65536) (hp : p.val = (16 + t.val) * 1024 + r.val) :
    (iblk1 V c 1 t : IVec S1024x512 32) (ix2 r q) = V c main_arg1 (ix2 p q) := by
  refine congrArg (V c main_arg1) (funext fun x => Fin.ext ?_)
  refine (Pipeline.Window.rect_emb_val (cfg1.win 1) t _ x).trans ?_
  rw [index1_1]
  match x with
  | ⟨0, _⟩ => exact hp.symm
  | ⟨1, _⟩ => exact zero_row _ _
theorem index1_2 (t : Fin cfg1.N) : (cfg1.win 2).index t = ![32 + t.val, 0] :=
  congrArg (fun n : Nat => (![n, 0] : Fin 2 → Nat)) (word1 32 (by decide) t)
theorem read1_2 (t : Fin cfg1.N) (r : Fin 1024) (q : Fin 512) (p : Fin 65536) (hp : p.val = (32 + t.val) * 1024 + r.val) :
    (iblk1 V c 2 t : IVec S1024x512 32) (ix2 r q) = V c main_arg1 (ix2 p q) := by
  refine congrArg (V c main_arg1) (funext fun x => Fin.ext ?_)
  refine (Pipeline.Window.rect_emb_val (cfg1.win 2) t _ x).trans ?_
  rw [index1_2]
  match x with
  | ⟨0, _⟩ => exact hp.symm
  | ⟨1, _⟩ => exact zero_row _ _
theorem index1_3 (t : Fin cfg1.N) : (cfg1.win 3).index t = ![48 + t.val, 0] :=
  congrArg (fun n : Nat => (![n, 0] : Fin 2 → Nat)) (word1 48 (by decide) t)
theorem read1_3 (t : Fin cfg1.N) (r : Fin 1024) (q : Fin 512) (p : Fin 65536) (hp : p.val = (48 + t.val) * 1024 + r.val) :
    (iblk1 V c 3 t : IVec S1024x512 32) (ix2 r q) = V c main_arg1 (ix2 p q) := by
  refine congrArg (V c main_arg1) (funext fun x => Fin.ext ?_)
  refine (Pipeline.Window.rect_emb_val (cfg1.win 3) t _ x).trans ?_
  rw [index1_3]
  match x with
  | ⟨0, _⟩ => exact hp.symm
  | ⟨1, _⟩ => exact zero_row _ _
theorem index1_4 (t : Fin cfg1.N) : (cfg1.win 4).index t = ![16 + t.val, 0] :=
  congrArg (fun n : Nat => (![n, 0] : Fin 2 → Nat)) (word1 16 (by decide) t)
theorem read1_4 (t : Fin cfg1.N) (r : Fin 1024) (q : Fin 128) (p : Fin 32768) (hp : p.val = (16 + t.val) * 1024 + r.val) :
    (iblk1 V c 4 t : FVec Ideal S1024x128 .f32) (ix2 r q) = V c main_arg2 (ix2 p q) := by
  refine congrArg (V c main_arg2) (funext fun x => Fin.ext ?_)
  refine (Pipeline.Window.rect_emb_val (cfg1.win 4) t _ x).trans ?_
  rw [index1_4]
  match x with
  | ⟨0, _⟩ => exact hp.symm
  | ⟨1, _⟩ => exact zero_row _ _
theorem index1_5 (t : Fin cfg1.N) : (cfg1.win 5).index t = ![16 + t.val, 0] :=
  congrArg (fun n : Nat => (![n, 0] : Fin 2 → Nat)) (word1 16 (by decide) t)
theorem read1_5 (t : Fin cfg1.N) (r : Fin 1024) (q : Fin 1024) (p : Fin 32768) (hp : p.val = (16 + t.val) * 1024 + r.val) :
    (iblk1 V c 5 t : FVec Ideal S1024x1024 .f32) (ix2 r q) = V c main_arg3 (ix2 p q) := by
  refine congrArg (V c main_arg3) (funext fun x => Fin.ext ?_)
  refine (Pipeline.Window.rect_emb_val (cfg1.win 5) t _ x).trans ?_
  rw [index1_5]
  match x with
  | ⟨0, _⟩ => exact hp.symm
  | ⟨1, _⟩ => exact zero_row _ _
theorem read1_6 (t : Fin cfg1.N) (q : Fin 1024) :
    (iblk1 V c 6 t : FVec Ideal S1x1024 .f32) (ix2 0 q) = V c main_v3 (ix2 (0 : Fin 1) q) := by
  refine congrArg (V c main_v3) (funext fun x => Fin.ext ?_)
  refine (Pipeline.Window.rect_emb_val (cfg1.win 6) t _ x).trans ?_
  rw [show (cfg1.win 6).index t = ![0, 0] from rfl]
  match x with
  | ⟨0, _⟩ => rfl
  | ⟨1, _⟩ => exact zero_row _ _
theorem read1_7 (t : Fin cfg1.N) (q : Fin 1024) :
    (iblk1 V c 7 t : FVec Ideal S1x1024 .f32) (ix2 0 q) = V c main_v4 (ix2 (0 : Fin 1) q) := by
  refine congrArg (V c main_v4) (funext fun x => Fin.ext ?_)
  refine (Pipeline.Window.rect_emb_val (cfg1.win 7) t _ x).trans ?_
  rw [show (cfg1.win 7).index t = ![0, 0] from rfl]
  match x with
  | ⟨0, _⟩ => rfl
  | ⟨1, _⟩ => exact zero_row _ _
theorem index1_8 (t : Fin cfg1.N) : (cfg1.win 8).index t = ![16 + t.val, 0] :=
  congrArg (fun n : Nat => (![n, 0] : Fin 2 → Nat)) (word1 16 (by decide) t)
theorem emb1_8 (t : Fin cfg1.N) (r q : Fin 1024) (p : Fin 32768) (hp : p.val = (16 + t.val) * 1024 + r.val) :
    ((cfg1.win 8).blk t).view.emb (ix2 r q) = (ix2 p q : S32768x1024.Idx) := by
  refine funext fun x => Fin.ext ?_
  refine (Pipeline.Window.rect_emb_val (cfg1.win 8) t _ x).trans ?_
  rw [index1_8]
  match x with
  | ⟨0, _⟩ => exact hp.symm
  | ⟨1, _⟩ => exact zero_row _ _

/-! ## What a point leaves -/

theorem out0_eq (x0 x1 x2 x3 : IVec S1024x512 32) (x4 : FVec Ideal S1024x128 .f32) (x5 : FVec Ideal S1024x1024 .f32) (x6 x7 : FVec Ideal S1x1024 .f32) :
    out0_8 (F := Ideal) x0 x1 x2 x3 x4 x5 x6 x7 = outBlk x0 x1 x2 x3 x4 x5 x6 x7 := by
  rw [← pay_eq]
  frame_out

theorem outs1_eq (t : Fin cfg1.N) :
    outsAt1 (F := Ideal) V c t = outBlk (iblk1 V c 0 t) (iblk1 V c 1 t) (iblk1 V c 2 t) (iblk1 V c 3 t) (iblk1 V c 4 t) (iblk1 V c 5 t) (iblk1 V c 6 t) (iblk1 V c 7 t) := by
  rw [← pay_eq]
  unfold outsAt1
  frame_out
  rfl

theorem covers0 : (cfg0.win 8).CoversWhere (fun β => β (0 : Fin 2) < 16) := by decide +kernel
theorem covers1 : (cfg1.win 8).CoversWhere (fun β => 16 ≤ β (0 : Fin 2)) := by decide +kernel

/-! ## The norm's scale and shift, a row each -/

theorem wide (g : FVec Ideal S1024 .f32) (k : Fin 1024) : shapeCast S1x1024 g shapeCasts_S1024_S1x1024 (ix2 (0 : Fin 1) k) = g (ix1 k) := by
  pointwise

/-! ## The call's result -/

variable (m : (ℓ : Loc nD τ sig) → Buf (Elt Ideal) ℓ) (ρ : Dev nD → PrngReg)

/-- The reference's result of the call's arguments. -/
abbrev want : FVec Ideal S32768x1024 .f32 :=
  lnOf (zOf (rowsOf (m ((c.tc : Thread nD τ).loc main_arg0))) (rowsOf (m ((c.tc : Thread nD τ).loc main_arg1))) (m ((c.tc : Thread nD τ).loc main_arg2))
    (m ((c.tc : Thread nD τ).loc main_arg3))) (m ((c.tc : Thread nD τ).loc main_arg4)) (m ((c.tc : Thread nD τ).loc main_arg5))

theorem scale0 : W1 m ρ c (Proc.devRef .tc main_v0) = shapeCast S1x1024 (m ((c.tc : Thread nD τ).loc main_arg4)) shapeCasts_S1024_S1x1024 := by
  unfold W1
  after_results_simp
  rfl
theorem shift0 : W1 m ρ c (Proc.devRef .tc main_v1) = shapeCast S1x1024 (m ((c.tc : Thread nD τ).loc main_arg5)) shapeCasts_S1024_S1x1024 := by
  unfold W1
  after_results_simp
  rfl
theorem scale1 : W3 m ρ c (Proc.devRef .tc main_v3) = shapeCast S1x1024 (m ((c.tc : Thread nD τ).loc main_arg4)) shapeCasts_S1024_S1x1024 := by
  refine Eq.trans ?_ (congrArg (fun g : FVec Ideal S1024 .f32 => shapeCast S1x1024 g shapeCasts_S1024_S1x1024) (W2_args m ρ c main_arg4 (by decide)))
  unfold W3
  after_results_simp
  rfl
theorem shift1 : W3 m ρ c (Proc.devRef .tc main_v4) = shapeCast S1x1024 (m ((c.tc : Thread nD τ).loc main_arg5)) shapeCasts_S1024_S1x1024 := by
  refine Eq.trans ?_ (congrArg (fun g : FVec Ideal S1024 .f32 => shapeCast S1x1024 g shapeCasts_S1024_S1x1024) (W2_args m ρ c main_arg5 (by decide)))
  unfold W3
  after_results_simp
  rfl
theorem kept1 : W3 m ρ c (Proc.devRef .tc main_v5) = (dat0 (V1 m ρ) c).arrAt 8 cfg0.N := by
  refine Eq.trans ?_ (W2_arr m ρ c 8)
  unfold W3
  after_results_simp
  rfl

theorem point0 (t : Fin cfg0.N) (r j : Fin 1024) (p : Fin 32768) (hp : p.val = (0 + t.val) * 1024 + r.val) :
    outBlk (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t)
      (ix2 r j) = want c m (ix2 p j) := by
  have ht : t.val < 16 := t.isLt
  have hlt : (0 + t.val) * 1024 + r.val < 32768 := by have := r.isLt; omega
  obtain rfl : p = ⟨(0 + t.val) * 1024 + r.val, hlt⟩ := Fin.ext hp
  unfold outBlk
  refine norm_eq _ _ _ _ _ _ (⟨0 + t.val, by omega⟩ : Fin 32) (fun r k => ?_) (fun k => ?_) (fun k => ?_) r j
  · have e : (⟨(0 + t.val) * 1024 + r.val, by omega⟩ : Fin 32768) = ⟨(0 + t.val) * 1024 + r.val, by omega⟩ := Fin.ext (by show (0 + t.val) * 1024 + r.val = (0 + t.val) * 1024 + r.val; omega)
    refine (z_lo _ _ _ _ (⟨(0 + t.val) * 1024 + r.val, by omega⟩ : Fin 16384) k _ _ _ _ _ _ r (fun l => ?_) ?_ ?_ ?_ ?_ ?_).trans (congrArg (fun p : Fin 32768 => zOf _ _ _ _ (ix2 p k)) e)
    · exact (read0_4 _ c t r l _ (by show (0 + t.val) * 1024 + r.val = (0 + t.val) * 1024 + r.val; omega)).trans (congrFun (W1_args m ρ c main_arg2 (by decide)) _)
    · exact (read0_5 _ c t r k _ (by show (0 + t.val) * 1024 + r.val = (0 + t.val) * 1024 + r.val; omega)).trans (congrFun (W1_args m ρ c main_arg3 (by decide)) _)
    · exact rows_eq _ _ r _ (fun l => (read0_0 _ c t r l _ (by show (0 + t.val) * 1024 + r.val = (0 + t.val) * 1024 + r.val; omega)).trans (congrFun (W1_args m ρ c main_arg0 (by decide)) _)) k
    · exact rows_eq _ _ r _ (fun l => (read0_1 _ c t r l _ (by show 16384 + ((0 + t.val) * 1024 + r.val) = (16 + t.val) * 1024 + r.val; omega)).trans (congrFun (W1_args m ρ c main_arg0 (by decide)) _)) k
    · exact rows_eq _ _ r _ (fun l => (read0_2 _ c t r l _ (by show 32768 + ((0 + t.val) * 1024 + r.val) = (32 + t.val) * 1024 + r.val; omega)).trans (congrFun (W1_args m ρ c main_arg0 (by decide)) _)) k
    · exact rows_eq _ _ r _ (fun l => (read0_3 _ c t r l _ (by show 49152 + ((0 + t.val) * 1024 + r.val) = (48 + t.val) * 1024 + r.val; omega)).trans (congrFun (W1_args m ρ c main_arg0 (by decide)) _)) k
  · exact (read0_6 _ c t k).trans ((congrFun (scale0 c m ρ) _).trans (wide _ k))
  · exact (read0_7 _ c t k).trans ((congrFun (shift0 c m ρ) _).trans (wide _ k))

theorem point1 (t : Fin cfg1.N) (r j : Fin 1024) (p : Fin 32768) (hp : p.val = (16 + t.val) * 1024 + r.val) :
    outBlk (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t)
      (ix2 r j) = want c m (ix2 p j) := by
  have ht : t.val < 16 := t.isLt
  have hlt : (16 + t.val) * 1024 + r.val < 32768 := by have := r.isLt; omega
  obtain rfl : p = ⟨(16 + t.val) * 1024 + r.val, hlt⟩ := Fin.ext hp
  unfold outBlk
  refine norm_eq _ _ _ _ _ _ (⟨16 + t.val, by omega⟩ : Fin 32) (fun r k => ?_) (fun k => ?_) (fun k => ?_) r j
  · have e : (⟨16384 + ((0 + t.val) * 1024 + r.val), by omega⟩ : Fin 32768) = ⟨(16 + t.val) * 1024 + r.val, by omega⟩ := Fin.ext (by show 16384 + ((0 + t.val) * 1024 + r.val) = (16 + t.val) * 1024 + r.val; omega)
    refine (z_hi _ _ _ _ (⟨(0 + t.val) * 1024 + r.val, by omega⟩ : Fin 16384) k _ _ _ _ _ _ r (fun l => ?_) ?_ ?_ ?_ ?_ ?_).trans (congrArg (fun p : Fin 32768 => zOf _ _ _ _ (ix2 p k)) e)
    · exact (read1_4 _ c t r l _ (by show 16384 + ((0 + t.val) * 1024 + r.val) = (16 + t.val) * 1024 + r.val; omega)).trans (congrFun (W3_args m ρ c main_arg2 (by decide)) _)
    · exact (read1_5 _ c t r k _ (by show 16384 + ((0 + t.val) * 1024 + r.val) = (16 + t.val) * 1024 + r.val; omega)).trans (congrFun (W3_args m ρ c main_arg3 (by decide)) _)
    · exact rows_eq _ _ r _ (fun l => (read1_0 _ c t r l _ (by show (0 + t.val) * 1024 + r.val = (0 + t.val) * 1024 + r.val; omega)).trans (congrFun (W3_args m ρ c main_arg1 (by decide)) _)) k
    · exact rows_eq _ _ r _ (fun l => (read1_1 _ c t r l _ (by show 16384 + ((0 + t.val) * 1024 + r.val) = (16 + t.val) * 1024 + r.val; omega)).trans (congrFun (W3_args m ρ c main_arg1 (by decide)) _)) k
    · exact rows_eq _ _ r _ (fun l => (read1_2 _ c t r l _ (by show 32768 + ((0 + t.val) * 1024 + r.val) = (32 + t.val) * 1024 + r.val; omega)).trans (congrFun (W3_args m ρ c main_arg1 (by decide)) _)) k
    · exact rows_eq _ _ r _ (fun l => (read1_3 _ c t r l _ (by show 49152 + ((0 + t.val) * 1024 + r.val) = (48 + t.val) * 1024 + r.val; omega)).trans (congrFun (W3_args m ρ c main_arg1 (by decide)) _)) k
  · exact (read1_6 _ c t k).trans ((congrFun (scale1 c m ρ) _).trans (wide _ k))
  · exact (read1_7 _ c t k).trans ((congrFun (shift1 c m ρ) _).trans (wide _ k))

theorem block0 (t : Fin cfg0.N) (y : S1024x1024.Idx) : out0_8 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) y = want c m (((cfg0.win 8).blk t).view.emb y) := by
  have ht : t.val < 16 := t.isLt
  have e : y = ix2 (y 0) (y 1) := funext fun x => match x with
    | ⟨0, _⟩ => rfl
    | ⟨1, _⟩ => rfl
  have hy : (y 0).val < 1024 := (y 0).isLt
  rw [out0_eq, e]
  exact (point0 c m ρ t (y 0) (y 1) ⟨(0 + t.val) * 1024 + (y 0).val, by omega⟩ rfl).trans
    (congrArg (want c m) (emb0_8 t (y 0) (y 1) ⟨(0 + t.val) * 1024 + (y 0).val, by omega⟩ rfl).symm)

theorem block1 (t : Fin cfg1.N) (y : S1024x1024.Idx) : outsAt1 (F := Ideal) (V3 m ρ) c t y = want c m (((cfg1.win 8).blk t).view.emb y) := by
  have ht : t.val < 16 := t.isLt
  have e : y = ix2 (y 0) (y 1) := funext fun x => match x with
    | ⟨0, _⟩ => rfl
    | ⟨1, _⟩ => rfl
  have hy : (y 0).val < 1024 := (y 0).isLt
  rw [outs1_eq, e]
  exact (point1 c m ρ t (y 0) (y 1) ⟨(16 + t.val) * 1024 + (y 0).val, by omega⟩ rfl).trans
    (congrArg (want c m) (emb1_8 t (y 0) (y 1) ⟨(16 + t.val) * 1024 + (y 0).val, by omega⟩ rfl).symm)

theorem left0 (t : Fin cfg0.N) (y : S1024x1024.Idx) : (dat0 (V1 m ρ) c).after 8 t y = want c m (((cfg0.win 8).blk t).view.emb y) :=
  (congrFun (after0_8 (V1 m ρ) c t) y).trans (block0 c m ρ t y)
theorem left1 (t : Fin cfg1.N) (y : S1024x1024.Idx) : (dat1 (V3 m ρ) c).after 8 t y = want c m (((cfg1.win 8).blk t).view.emb y) :=
  (congrFun (after1_8 (V3 m ρ) c t) y).trans (block1 c m ρ t y)

/-- The first region's rows. -/
theorem final0 (j : S32768x1024.Idx) (hj : (j 0).val / 1024 < 16) : (dat0 (V1 m ρ) c).arrAt 8 cfg0.N j = want c m j := by
  have h := (dat0 (V1 m ρ) c).arrAt_emb_eq_of_coversWhere 8 (want c m) (fun β => β (0 : Fin 2) < 16) covers0 (fun t _ y => left0 c m ρ t y) j
  rw [if_pos (show (cfg0.win 8).cell j (0 : Fin 2) < 16 from hj)] at h
  exact h

/-- The whole result: the second region's rows, and the first's, which it keeps. -/
theorem final : W4 m ρ c (Pipeline.arrRef spec1 8) = want c m := by
  refine (W4_arr m ρ c 8).trans ?_
  refine (dat1 (V3 m ρ) c).arrAt_eq_of_coversWhere_of_agree 8 (want c m) (fun β => 16 ≤ β (0 : Fin 2)) covers1 (fun t _ y => left1 c m ρ t y) (fun j hj => ?_)
  refine (congrFun ((A_eq1 (V3 m ρ) c 8).trans (kept1 c m ρ)) _).trans (final0 c m ρ j ?_)
  exact Nat.lt_of_not_le hj

end Cert.Proof.Comb

end
-- ==== Proof.ExpBody.lean ====
/-
  The experts' body on whole staging buffers: what it leaves in the output's buffer and in the two weights' scratches,
  on each of its three ways (a block of a new expert, a block of the same expert, a block past the last).
-/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three tables' buffers and the two scratches', whole. -/
abbrev beM : Memref sig .tc .smem S288 .i32 := Memref.whole main_v20
abbrev nuM : Memref sig .tc .smem S1 .i32 := Memref.whole main_v22
abbrev nvM : Memref sig .tc .smem S288 .i32 := Memref.whole main_v39
abbrev w1M : Memref sig .tc .vmem S1024x2048 .bf16 := Memref.whole cc0_scratch0
abbrev w2M : Memref sig .tc .vmem S1024x1024 .bf16 := Memref.whole cc0_scratch1

/-- The word a scalar load of one element at `off` reads out of a table of 288, and out of the table of one. -/
abbrev wordAt (T : S288.Idx → Elt F .i32) (off : Fin 1 → Nat) (h : ∀ a, off a + S1.size a ≤ S288.size a) : Elt F .i32 :=
  View.readAt (Elt F) beM.view (Rect.unit (s := S288) off S1.size h).toLoadRect T (Shape.Idx.first (numel1_S1.symm ▸ Nat.one_pos))
abbrev usedWord (T : S1.Idx → Elt F .i32) : Elt F .i32 :=
  View.readAt (Elt F) nuM.view (Rect.unit (s := S1) ![0] S1.size inb_S1_S1_0).toLoadRect T (Shape.Idx.first (numel1_S1.symm ▸ Nat.one_pos))

/-- The block is used and its expert is another than the block's before. -/
abbrev isNew (i : grid0.Coords) (T0 : S288.Idx → Elt F .i32) (T1 : S1.Idx → Elt F .i32) : BitVec 1 :=
  Scalar.cmpi .ne (Scalar.extui (Scalar.andi (Scalar.cmpi .slt (BitVec.ofNat 32 (i 0).val) (usedWord T1)) (Scalar.ori (Scalar.cmpi .eq (BitVec.ofNat 32 (i 0).val) 0#32) (Scalar.cmpi .ne (wordAt T0 (k0_off1 i) (k0_off1_inb i)) (wordAt T0 (k0_off2 i) (k0_off2_inb i)))))) 0#32

/-- What a used block is taken to, from its rows, the weights its scratches hold and the biases. -/
abbrev outUsed (i : grid0.Coords) (T2 : S288.Idx → Elt F .i32) (x0 : S512x512.Idx → Elt F .i32) (a0 : S1024x2048.Idx → Elt F .bf16)
    (x2 : S1x1x1x2048.Idx → Elt F .f32) (a1 : S1024x1024.Idx → Elt F .bf16) (x4 : S1x1x1x1024.Idx → Elt F .f32) : S512x1024.Idx → Elt F .bf16 :=
  k0_pay3 (k0_pay6 (wordAt T2 (k0_off3 i) (k0_off3_inb i)) x0 a0 x2) (k0_pay7 (wordAt T2 (k0_off3 i) (k0_off3_inb i)) x0 a0 x2) (Scalar.ofBits .f32 0x3F800000#32) a1 x4

/-- A store of a scratch's own size leaves what is stored. -/
theorem writes_w1 (f : w1M.view.ty.Contents (Elt F)) (w : S1024x2048.Idx → Elt F .bf16) :
    w1M.view.writes (Elt F) f [⟨Rect.unit ![0, 0] S1024x2048.size inb_S1024x2048_S1024x2048_0_0, w⟩] = w := by
  have h := View.read_writes_full (Val := Elt F) w1M.view f (off := ![0, 0]) inb_S1024x2048_S1024x2048_0_0 w []
  generalize w1M.view.writes (Elt F) f [⟨Rect.unit ![0, 0] S1024x2048.size inb_S1024x2048_S1024x2048_0_0, w⟩] = g at h ⊢
  exact (View.read_whole (Val := Elt F) cc0_scratch0 g).symm.trans h
theorem writes_w2 (f : w2M.view.ty.Contents (Elt F)) (w : S1024x1024.Idx → Elt F .bf16) :
    w2M.view.writes (Elt F) f [⟨Rect.unit ![0, 0] S1024x1024.size inb_S1024x1024_S1024x1024_0_0, w⟩] = w := by
  have h := View.read_writes_full (Val := Elt F) w2M.view f (off := ![0, 0]) inb_S1024x1024_S1024x1024_0_0 w []
  generalize w2M.view.writes (Elt F) f [⟨Rect.unit ![0, 0] S1024x1024.size inb_S1024x1024_S1024x1024_0_0, w⟩] = g at h ⊢
  exact (View.read_whole (Val := Elt F) cc0_scratch1 g).symm.trans h

section Runs

variable (c : Dev nD) (i : grid0.Coords)
  (arg4 : Memref sig .tc .vmem S512x512 .i32) (harg4 : arg4.IsWhole) (arg5 : Memref sig .tc .vmem S1x1x1024x2048 .f32) (harg5 : arg5.IsWhole)
  (arg6 : Memref sig .tc .vmem S1x1x1x2048 .f32) (harg6 : arg6.IsWhole) (arg7 : Memref sig .tc .vmem S1x1x1024x1024 .f32) (harg7 : arg7.IsWhole)
  (arg8 : Memref sig .tc .vmem S1x1x1x1024 .f32) (harg8 : arg8.IsWhole) (arg9 : Memref sig .tc .vmem S512x1024 .bf16) (harg9 : arg9.IsWhole)
  (T0 : S288.Idx → Elt F .i32) (T1 : S1.Idx → Elt F .i32) (T2 : S288.Idx → Elt F .i32)
  (x0 : S512x512.Idx → Elt F .i32) (x1 : S1x1x1024x2048.Idx → Elt F .f32) (x2 : S1x1x1x2048.Idx → Elt F .f32)
  (x3 : S1x1x1024x1024.Idx → Elt F .f32) (x4 : S1x1x1x1024.Idx → Elt F .f32)

/-- A used block of a new expert: the weights are put into the scratches and used. -/
theorem run_new (a0 : Buf (Elt F) ((c : Thread nD τ).loc cc0_scratch0)) (a1 : Buf (Elt F) ((c : Thread nD τ).loc cc0_scratch1)) (K : PUnit → sProp 𝕄)
    (hn : isNew i T0 T1 = 1#1) (h2 : k0_cond2 i (usedWord T1) = 1#1) (h3 : ¬(k0_cond3 i (usedWord T1) = 1#1)) :
    iprop((arg4.view.loc (c : Thread nD τ) ↦[arg4.view.set]{fullShare} arg4.view.rep x0)
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (arg8.view.loc (c : Thread nD τ) ↦[arg8.view.set]{fullShare} arg8.view.rep x4)
        ∗ (beM.view.loc (c : Thread nD τ) ↦{fullShare.right} T0)
        ∗ (nuM.view.loc (c : Thread nD τ) ↦{fullShare.right} T1)
        ∗ (nvM.view.loc (c : Thread nD τ) ↦{fullShare.right} T2)
        ∗ (∃ d, owns (c : Thread nD τ) arg9 fullShare d)
        ∗ (w1M.view.loc (c : Thread nD τ) ↦{fullShare} a0)
        ∗ (w2M.view.loc (c : Thread nD τ) ↦{fullShare} a1)
        ∗ (iprop((arg4.view.loc (c : Thread nD τ) ↦[arg4.view.set]{fullShare} arg4.view.rep x0)
            ∗ (arg5.view.loc (c : Thread nD τ) ↦[arg5.view.set]{fullShare} arg5.view.rep x1)
            ∗ (arg6.view.loc (c : Thread nD τ) ↦[arg6.view.set]{fullShare} arg6.view.rep x2)
            ∗ (arg7.view.loc (c : Thread nD τ) ↦[arg7.view.set]{fullShare} arg7.view.rep x3)
            ∗ (arg8.view.loc (c : Thread nD τ) ↦[arg8.view.set]{fullShare} arg8.view.rep x4)
            ∗ (beM.view.loc (c : Thread nD τ) ↦{fullShare.right} T0)
            ∗ (nuM.view.loc (c : Thread nD τ) ↦{fullShare.right} T1)
            ∗ (nvM.view.loc (c : Thread nD τ) ↦{fullShare.right} T2)
            ∗ owns (c : Thread nD τ) arg9 fullShare (outUsed i T2 x0 (k0_pay1 x1) x2 (k0_pay2 x3) x4)
            ∗ (w1M.view.loc (c : Thread nD τ) ↦{fullShare} k0_pay1 x1)
            ∗ (w2M.view.loc (c : Thread nD τ) ↦{fullShare} k0_pay2 x3)) -∗ K ⟨⟩))
      ⊢ wp frame (wpE (defs₀ (F := F)) Variants.none c none) Set.univ
          (cc0_experts i beM (Memref.isWhole_whole _) nuM (Memref.isWhole_whole _) nvM (Memref.isWhole_whole _) arg4 harg4 arg5 harg5 arg6 harg6 arg7 harg7 arg8 harg8 arg9 harg9 w1M (Memref.isWhole_whole _) w2M (Memref.isWhole_whole _)) K := by
  unfold owns
  rw [cc0_experts_eq_skeleton]; unfold cc0_experts_skel
  iintro ⟨H0, H1, H2, H3, H4, HT0, HT1, HT2, ⟨%d5, %f5, -, HO5⟩, HS0, HS1, Hk⟩
  have hS0 : w1M.IsWhole := Memref.isWhole_whole _
  have hS1 : w2M.IsWhole := Memref.isWhole_whole _
  have hT0 : beM.IsWhole := Memref.isWhole_whole _
  have hT1 : nuM.IsWhole := Memref.isWhole_whole _
  have hT2 : nvM.IsWhole := Memref.isWhole_whole _
  sl_exec! (disch := first | (guard_target = Scalar.cmpi = _; exact hn) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HO5]
  · iexists _
    isplitr; swap
    · iexact HO5
    · ipureintro
      unfold run_new.sl.HO5_1
      rw [View.read_writes_full, View.readAt_rep_full]
      unfold run_new.sl.r_4 run_new.sl.r_5 run_new.sl.r_3 run_new.sl.v36 run_new.sl.v64
      unfold run_new.sl.HS0_1 run_new.sl.HS1_1
      rw [View.readAt_rep_full, View.readAt_rep_full, View.readCov_full, View.readCov_full, View.readAt_rep_full, View.readAt_rep_full]
      rfl
  unfold run_new.sl.HS0_1
  unfold run_new.sl.HS1_1
  rw [View.readAt_rep_full, View.readAt_rep_full]
  rw [writes_w1, writes_w2]
  isplitl [HS0]
  · iexact HS0
  iexact HS1

/-- A used block of the same expert as the block before: the scratches' weights are used and kept. -/
theorem run_same (a0 : Buf (Elt F) ((c : Thread nD τ).loc cc0_scratch0)) (a1 : Buf (Elt F) ((c : Thread nD τ).loc cc0_scratch1)) (K : PUnit → sProp 𝕄)
    (hn : ¬(isNew i T0 T1 = 1#1)) (h2 : k0_cond2 i (usedWord T1) = 1#1) (h3 : ¬(k0_cond3 i (usedWord T1) = 1#1)) :
    iprop((arg4.view.loc (c : Thread nD τ) ↦[arg4.view.set]{fullShare} arg4.view.rep x0)
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (arg8.view.loc (c : Thread nD τ) ↦[arg8.view.set]{fullShare} arg8.view.rep x4)
        ∗ (beM.view.loc (c : Thread nD τ) ↦{fullShare.right} T0)
        ∗ (nuM.view.loc (c : Thread nD τ) ↦{fullShare.right} T1)
        ∗ (nvM.view.loc (c : Thread nD τ) ↦{fullShare.right} T2)
        ∗ (∃ d, owns (c : Thread nD τ) arg9 fullShare d)
        ∗ (w1M.view.loc (c : Thread nD τ) ↦{fullShare} a0)
        ∗ (w2M.view.loc (c : Thread nD τ) ↦{fullShare} a1)
        ∗ (iprop((arg4.view.loc (c : Thread nD τ) ↦[arg4.view.set]{fullShare} arg4.view.rep x0)
            ∗ (arg5.view.loc (c : Thread nD τ) ↦[arg5.view.set]{fullShare} arg5.view.rep x1)
            ∗ (arg6.view.loc (c : Thread nD τ) ↦[arg6.view.set]{fullShare} arg6.view.rep x2)
            ∗ (arg7.view.loc (c : Thread nD τ) ↦[arg7.view.set]{fullShare} arg7.view.rep x3)
            ∗ (arg8.view.loc (c : Thread nD τ) ↦[arg8.view.set]{fullShare} arg8.view.rep x4)
            ∗ (beM.view.loc (c : Thread nD τ) ↦{fullShare.right} T0)
            ∗ (nuM.view.loc (c : Thread nD τ) ↦{fullShare.right} T1)
            ∗ (nvM.view.loc (c : Thread nD τ) ↦{fullShare.right} T2)
            ∗ owns (c : Thread nD τ) arg9 fullShare (outUsed i T2 x0 a0 x2 a1 x4)
            ∗ (w1M.view.loc (c : Thread nD τ) ↦{fullShare} a0)
            ∗ (w2M.view.loc (c : Thread nD τ) ↦{fullShare} a1)) -∗ K ⟨⟩))
      ⊢ wp frame (wpE (defs₀ (F := F)) Variants.none c none) Set.univ
          (cc0_experts i beM (Memref.isWhole_whole _) nuM (Memref.isWhole_whole _) nvM (Memref.isWhole_whole _) arg4 harg4 arg5 harg5 arg6 harg6 arg7 harg7 arg8 harg8 arg9 harg9 w1M (Memref.isWhole_whole _) w2M (Memref.isWhole_whole _)) K := by
  unfold owns
  rw [cc0_experts_eq_skeleton]; unfold cc0_experts_skel
  iintro ⟨H0, H1, H2, H3, H4, HT0, HT1, HT2, ⟨%d5, %f5, -, HO5⟩, HS0, HS1, Hk⟩
  have hS0 : w1M.IsWhole := Memref.isWhole_whole _
  have hS1 : w2M.IsWhole := Memref.isWhole_whole _
  have hT0 : beM.IsWhole := Memref.isWhole_whole _
  have hT1 : nuM.IsWhole := Memref.isWhole_whole _
  have hT2 : nvM.IsWhole := Memref.isWhole_whole _
  sl_exec! (disch := first | (guard_target = ¬(Scalar.cmpi = _); exact hn) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HO5]
  · iexists _
    isplitr; swap
    · iexact HO5
    · ipureintro
      unfold run_same.sl.HO5_1
      rw [View.read_writes_full, View.readAt_rep_full]
      unfold run_same.sl.r_4 run_same.sl.r_5 run_same.sl.r_3
      rw [View.readAt_rep_full, View.readAt_rep_full, View.readAt_full, View.readAt_full]
      rfl
  isplitl [HS0]
  · iexact HS0
  iexact HS1

/-- A block past the last used: zeros, and nothing read. -/
theorem run_past (a0 : Buf (Elt F) ((c : Thread nD τ).loc cc0_scratch0)) (a1 : Buf (Elt F) ((c : Thread nD τ).loc cc0_scratch1)) (K : PUnit → sProp 𝕄)
    (hn : ¬(isNew i T0 T1 = 1#1)) (h2 : ¬(k0_cond2 i (usedWord T1) = 1#1)) (h3 : k0_cond3 i (usedWord T1) = 1#1) :
    iprop((arg4.view.loc (c : Thread nD τ) ↦[arg4.view.set]{fullShare} arg4.view.rep x0)
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (arg8.view.loc (c : Thread nD τ) ↦[arg8.view.set]{fullShare} arg8.view.rep x4)
        ∗ (beM.view.loc (c : Thread nD τ) ↦{fullShare.right} T0)
        ∗ (nuM.view.loc (c : Thread nD τ) ↦{fullShare.right} T1)
        ∗ (nvM.view.loc (c : Thread nD τ) ↦{fullShare.right} T2)
        ∗ (∃ d, owns (c : Thread nD τ) arg9 fullShare d)
        ∗ (w1M.view.loc (c : Thread nD τ) ↦{fullShare} a0)
        ∗ (w2M.view.loc (c : Thread nD τ) ↦{fullShare} a1)
        ∗ (iprop((arg4.view.loc (c : Thread nD τ) ↦[arg4.view.set]{fullShare} arg4.view.rep x0)
            ∗ (arg5.view.loc (c : Thread nD τ) ↦[arg5.view.set]{fullShare} arg5.view.rep x1)
            ∗ (arg6.view.loc (c : Thread nD τ) ↦[arg6.view.set]{fullShare} arg6.view.rep x2)
            ∗ (arg7.view.loc (c : Thread nD τ) ↦[arg7.view.set]{fullShare} arg7.view.rep x3)
            ∗ (arg8.view.loc (c : Thread nD τ) ↦[arg8.view.set]{fullShare} arg8.view.rep x4)
            ∗ (beM.view.loc (c : Thread nD τ) ↦{fullShare.right} T0)
            ∗ (nuM.view.loc (c : Thread nD τ) ↦{fullShare.right} T1)
            ∗ (nvM.view.loc (c : Thread nD τ) ↦{fullShare.right} T2)
            ∗ owns (c : Thread nD τ) arg9 fullShare (k0_pay4)
            ∗ (w1M.view.loc (c : Thread nD τ) ↦{fullShare} a0)
            ∗ (w2M.view.loc (c : Thread nD τ) ↦{fullShare} a1)) -∗ K ⟨⟩))
      ⊢ wp frame (wpE (defs₀ (F := F)) Variants.none c none) Set.univ
          (cc0_experts i beM (Memref.isWhole_whole _) nuM (Memref.isWhole_whole _) nvM (Memref.isWhole_whole _) arg4 harg4 arg5 harg5 arg6 harg6 arg7 harg7 arg8 harg8 arg9 harg9 w1M (Memref.isWhole_whole _) w2M (Memref.isWhole_whole _)) K := by
  unfold owns
  rw [cc0_experts_eq_skeleton]; unfold cc0_experts_skel
  iintro ⟨H0, H1, H2, H3, H4, HT0, HT1, HT2, ⟨%d5, %f5, -, HO5⟩, HS0, HS1, Hk⟩
  have hS0 : w1M.IsWhole := Memref.isWhole_whole _
  have hS1 : w2M.IsWhole := Memref.isWhole_whole _
  have hT0 : beM.IsWhole := Memref.isWhole_whole _
  have hT1 : nuM.IsWhole := Memref.isWhole_whole _
  have hT2 : nvM.IsWhole := Memref.isWhole_whole _
  sl_exec! (disch := first | (guard_target = ¬(Scalar.cmpi = _); exact hn) | (guard_target = ¬(k0_cond2 _ _ = _); exact h2) | (guard_target = k0_cond3 _ _ = _; exact h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HO5]
  · iexists _
    isplitr; swap
    · iexact HO5
    · ipureintro
      exact View.read_writes_full _ _ _ _ _
  isplitl [HS0]
  · iexact HS0
  iexact HS1

end Runs

end Cert.Proof.Experts

end
-- ==== Proof.ExpRun.lean ====
/-
  The experts' call as a run: what its staging buffers, its scratches and its tables hold before every point, and the
  pipeline's obligation at each point.
-/
module

public import proofs.«01_k».proof.Proof.ExpBody
public import Idealize.ShloMosaic.Lib.Pipeline.TableIdle
public import Idealize.ShloMosaic.Lib.Pipeline.Frame
public import Idealize.ShloMosaic.Lib.Pipeline.Value
public import Idealize.ShloMosaic.Lib.Claim

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The control words -/

theorem cond_word : ∀ u : BitVec 1, (Scalar.cmpi .ne (Scalar.extui u) 0#32 = 1#1) ↔ u = 1#1 := by decide
theorem new_word : ∀ u e n : BitVec 1,
    (Scalar.cmpi .ne (Scalar.extui (Scalar.andi u (Scalar.ori e n))) 0#32 = 1#1) ↔ (u = 1#1 ∧ (e = 1#1 ∨ n = 1#1)) := by decide
theorem sge_word (x y : BitVec 32) : (Scalar.cmpi .sge x y = 1#1) ↔ ¬(Scalar.cmpi .slt x y = 1#1) := by
  unfold Scalar.cmpi IntOp.cmpi
  simp only [BitVec.sle_eq_not_slt]
  cases x.slt y <;> decide
theorem eq_word (x y : BitVec 32) : (Scalar.cmpi .eq x y = 1#1) ↔ x = y := by
  unfold Scalar.cmpi IntOp.cmpi
  by_cases h : x = y
  · simp [h]
  · rw [show (x == y) = false from by simpa using h]; simp only [h, iff_false]; decide
theorem ne_word (x y : BitVec 32) : (Scalar.cmpi .ne x y = 1#1) ↔ x ≠ y := by
  unfold Scalar.cmpi IntOp.cmpi
  by_cases h : x = y
  · simp [h]
  · rw [show (x != y) = true from by simpa using h]; simp only [h, ne_eq, not_false_eq_true, iff_true]; decide

/-- The block at `i` is before the count of used blocks. -/
abbrev used (i : grid0.Coords) (v : BitVec 32) : Prop := Scalar.cmpi .slt (BitVec.ofNat 32 (i 0).val) v = 1#1

theorem cond2_iff (i : grid0.Coords) (v : BitVec 32) : k0_cond2 i v = 1#1 ↔ used i v := cond_word _
theorem cond3_iff (i : grid0.Coords) (v : BitVec 32) : k0_cond3 i v = 1#1 ↔ ¬used i v := (cond_word _).trans (sge_word _ _)

theorem small_toInt (n : ℕ) (hn : n < 2147483648) : (BitVec.ofNat 32 n).toInt = n := by
  have e : (BitVec.ofNat 32 n).toNat = n := by rw [BitVec.toNat_ofNat]; omega
  rw [BitVec.toInt_eq_toNat_of_lt (by rw [e]; omega), e]

/-- A point before a used one is used. -/
theorem used_mono {i j : grid0.Coords} {v : BitVec 32} (h : (i 0).val ≤ (j 0).val) (hj : used j v) : used i v := by
  have hi : (i 0).val < 288 := (i 0).isLt
  have hjl : (j 0).val < 288 := (j 0).isLt
  unfold used Scalar.cmpi IntOp.cmpi at *
  have key : ∀ n : ℕ, n < 288 → ((BitVec.ofNat 32 n).slt v = true ↔ (n : Int) < v.toInt) := by
    intro n hn
    rw [BitVec.slt_iff_toInt_lt, small_toInt n (by omega)]
  have one : ∀ b : Bool, BitVec.ofBool b = 1#1 ↔ b = true := by decide
  rw [one] at hj ⊢
  rw [key _ hjl] at hj
  rw [key _ hi]
  omega

/-- The word before `n`, of a positive `n`. -/
theorem off2_word : ∀ n : ℕ, 0 < n → n < 288 →
    (Scalar.indexCast (Scalar.maxsi (Scalar.subi (BitVec.ofNat 32 n) 1#32) 0#32)).toNat = (Scalar.indexCast (BitVec.ofNat 32 (n - 1))).toNat := by
  intro n h0 h1
  have e : BitVec.ofNat 32 n - 1#32 = BitVec.ofNat 32 (n - 1) := by
    apply BitVec.eq_of_toNat_eq
    rw [BitVec.toNat_sub, BitVec.toNat_ofNat, BitVec.toNat_ofNat, BitVec.toNat_ofNat]
    omega
  have e2 : Scalar.maxsi (Scalar.subi (BitVec.ofNat 32 n) 1#32) 0#32 = BitVec.ofNat 32 (n - 1) := by
    show Scalar.maxsi (BitVec.ofNat 32 n - 1#32) 0#32 = _
    rw [e]
    unfold Scalar.maxsi IntOp.maxsi
    split
    · rfl
    · next h =>
      have h' : ¬(0 : Int) < (n - 1 : ℕ) := by
        intro hlt; apply h; rw [BitVec.slt_iff_toInt_lt, small_toInt (n - 1) (by omega)]; exact hlt
      have : n - 1 = 0 := by omega
      rw [this]
  rw [e2]

theorem wordAt_congr (T : S288.Idx → Elt F .i32) {o o' : Fin 1 → Nat} (e : o = o') (h h') : wordAt T o h = wordAt T o' h' := by
  subst e; rfl

/-! ## The pipeline at the tables' contents -/

variable (a : (pcfg0 (F := F)).Adm)
variable (V : (c : Dev nD) → (b : Ref sig .tc) → Buf (Elt F) ((c.tc : Thread nD τ).loc b))

abbrev cfgA : Pipeline.Cfg sig Λ₀ := cfg0 (F := F) a
abbrev crd (t : Fin (cfgA a).N) : (cfgA a).grid.Coords := (cfgA a).grid.coords t

abbrev ms0 (t : Fin (cfgA a).N) : Memref sig .tc .vmem S512x512 .i32 := spec0_0.stage ((cfgA a).slots t (0 : Fin 6))
abbrev hs0 (t : Fin (cfgA a).N) : (ms0 a t).IsWhole := hstage0_0 (((cfgA a).slots t (0 : Fin 6)).cast nbuf0_0)
abbrev ms1 (t : Fin (cfgA a).N) : Memref sig .tc .vmem S1x1x1024x2048 .f32 := spec0_1.stage ((cfgA a).slots t (1 : Fin 6))
abbrev hs1 (t : Fin (cfgA a).N) : (ms1 a t).IsWhole := hstage0_1 (((cfgA a).slots t (1 : Fin 6)).cast nbuf0_1)
abbrev ms2 (t : Fin (cfgA a).N) : Memref sig .tc .vmem S1x1x1x2048 .f32 := spec0_2.stage ((cfgA a).slots t (2 : Fin 6))
abbrev hs2 (t : Fin (cfgA a).N) : (ms2 a t).IsWhole := hstage0_2 (((cfgA a).slots t (2 : Fin 6)).cast nbuf0_2)
abbrev ms3 (t : Fin (cfgA a).N) : Memref sig .tc .vmem S1x1x1024x1024 .f32 := spec0_3.stage ((cfgA a).slots t (3 : Fin 6))
abbrev hs3 (t : Fin (cfgA a).N) : (ms3 a t).IsWhole := hstage0_3 (((cfgA a).slots t (3 : Fin 6)).cast nbuf0_3)
abbrev ms4 (t : Fin (cfgA a).N) : Memref sig .tc .vmem S1x1x1x1024 .f32 := spec0_4.stage ((cfgA a).slots t (4 : Fin 6))
abbrev hs4 (t : Fin (cfgA a).N) : (ms4 a t).IsWhole := hstage0_4 (((cfgA a).slots t (4 : Fin 6)).cast nbuf0_4)
abbrev ms5 (t : Fin (cfgA a).N) : Memref sig .tc .vmem S512x1024 .bf16 := spec0_5.stage ((cfgA a).slots t (5 : Fin 6))
abbrev hs5 (t : Fin (cfgA a).N) : (ms5 a t).IsWhole := hstage0_5 (((cfgA a).slots t (5 : Fin 6)).cast nbuf0_5)

/-- Window `w`'s block at point `t`, read off the entry contents. -/
def iblk (c : Dev nD) (w : Fin (cfgA a).W) (t : Fin (cfgA a).N) : (((cfgA a).win w).xblock (crd a t)).Idx → Elt F ((cfgA a).win w).elt :=
  (((cfgA a).win w).blk t).view.read (Elt F) (V c (Pipeline.arrRef (cfgA a).spec w))

/-- The count of used blocks, and the expert of the block at `t`. -/
abbrev nuW : BitVec 32 := usedWord (a.1 1)
abbrev beW (t : Fin (cfgA a).N) : BitVec 32 := wordAt (a.1 0) (k0_off1 (crd a t)) (k0_off1_inb (crd a t))

theorem crd_val (t : Fin (cfgA a).N) : (crd a t 0).val = t.val := by
  have h : t.val < 288 := t.isLt
  rw [Pipeline.Grid.coords_val t 0 (S := 1) (B := 288) (show grid0.stride 0 = 1 by decide) rfl]
  omega

/-- What point `t` leaves in the output's buffer. -/
def outAt (c : Dev nD) (t : Fin (cfgA a).N) : S512x1024.Idx → Elt F .bf16 :=
  if used (crd a t) (nuW a) then
    outUsed (crd a t) (a.1 2) (iblk a V c 0 t) (k0_pay1 (iblk a V c 1 t)) (iblk a V c 2 t) (k0_pay2 (iblk a V c 3 t)) (iblk a V c 4 t)
  else k0_pay4

/-- The scratches hold, after a used point, that point's weights. -/
def Held (c : Dev nD) (n : ℕ) (a0 : S1024x2048.Idx → Elt F .bf16) (a1 : S1024x1024.Idx → Elt F .bf16) : Prop :=
  ∀ t : Fin (cfgA a).N, t.val + 1 = n → used (crd a t) (nuW a) → a0 = k0_pay1 (iblk a V c 1 t) ∧ a1 = k0_pay2 (iblk a V c 3 t)

/-- The invariant before point `t`. -/
def Phi (c : Dev nD) (n : ℕ) : sProp 𝕄 :=
  iprop((∃ (a0 : Buf (Elt F) ((c : Thread nD τ).loc cc0_scratch0)) (a1 : Buf (Elt F) ((c : Thread nD τ).loc cc0_scratch1)), ⌜Held a V c n a0 a1⌝
      ∗ (w1M.view.loc (c : Thread nD τ) ↦{fullShare} a0) ∗ (w2M.view.loc (c : Thread nD τ) ↦{fullShare} a1))
    ∗ (beM.view.loc (c : Thread nD τ) ↦{fullShare.right} a.1 0) ∗ (nuM.view.loc (c : Thread nD τ) ↦{fullShare.right} a.1 1)
    ∗ (nvM.view.loc (c : Thread nD τ) ↦{fullShare.right} a.1 2) ∗ (∃ r, prngReg c r))

/-- The proof data of the pipeline. -/
def dats (_ : Fin 1) (c : Dev nD) : Dat τ (Elt F) Unit ℕ (UR sig nD τ) ℕ (cfgA a) c where
  A w := V c (Pipeline.arrRef (cfgA a).spec w)
  after w t := match w with
    | ⟨0, _⟩ => iblk a V c (0 : Fin 6) t
    | ⟨1, _⟩ => iblk a V c (1 : Fin 6) t
    | ⟨2, _⟩ => iblk a V c (2 : Fin 6) t
    | ⟨3, _⟩ => iblk a V c (3 : Fin 6) t
    | ⟨4, _⟩ => iblk a V c (4 : Fin 6) t
    | ⟨5, _⟩ => outAt a V c t
  Φ t := Phi a V c t.val
  q _ := fullShare
  owed _ := 0

theorem after0 (c : Dev nD) (t : Fin (cfgA a).N) : (dats a V 0 c).after (0 : Fin 6) t = iblk a V c (0 : Fin 6) t := rfl
theorem after1 (c : Dev nD) (t : Fin (cfgA a).N) : (dats a V 0 c).after (1 : Fin 6) t = iblk a V c (1 : Fin 6) t := rfl
theorem after2 (c : Dev nD) (t : Fin (cfgA a).N) : (dats a V 0 c).after (2 : Fin 6) t = iblk a V c (2 : Fin 6) t := rfl
theorem after3 (c : Dev nD) (t : Fin (cfgA a).N) : (dats a V 0 c).after (3 : Fin 6) t = iblk a V c (3 : Fin 6) t := rfl
theorem after4 (c : Dev nD) (t : Fin (cfgA a).N) : (dats a V 0 c).after (4 : Fin 6) t = iblk a V c (4 : Fin 6) t := rfl
theorem after5 (c : Dev nD) (t : Fin (cfgA a).N) : (dats a V 0 c).after (5 : Fin 6) t = outAt a V c t := rfl

theorem before0 (c : Dev nD) (t : Fin (cfgA a).N) (d) : (dats a V 0 c).before (0 : Fin 6) t d = iblk a V c (0 : Fin 6) t :=
  ((dats a V 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a V 0 c).before (1 : Fin 6) t d = iblk a V c (1 : Fin 6) t :=
  ((dats a V 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a V 0 c).before (2 : Fin 6) t d = iblk a V c (2 : Fin 6) t :=
  ((dats a V 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a V 0 c).before (3 : Fin 6) t d = iblk a V c (3 : Fin 6) t :=
  ((dats a V 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA a).N) (d) : (dats a V 0 c).before (4 : Fin 6) t d = iblk a V c (4 : Fin 6) t :=
  ((dats a V 0 c).before_in_eq_fetched (4 : Fin 6) rfl (fun _ => rfl) (fun _ _ _ => rfl) (fun t => by rw [after4]; unfold Dat.blockOf iblk; rfl) t d).trans
    (by unfold Dat.fetched Dat.blockOf iblk; rfl)

/-- Every point stores its output block. -/
theorem idle5 (t : Fin (cfgA a).N) : (cfgA a).idle (5 : Fin 6) ((cfgA a).grid.coords t) = false := by
  have h : ∀ v : BitVec 32, (!(k0_cond2 (crd a t) v == 1#1) && !(k0_cond3 (crd a t) v == 1#1)) = false := by
    intro v
    by_cases hu : used (crd a t) v
    · have := (cond2_iff _ _).2 hu
      simp [this]
    · have := (cond3_iff _ _).2 hu
      simp [this]
  exact h _

theorem index1 (t : Fin (cfgA a).N) : ((cfgA a).win 1).index t = ![0, (beW a t).toNat, 0, 0] := rfl
theorem index2 (t : Fin (cfgA a).N) : ((cfgA a).win 2).index t = ![0, (beW a t).toNat, 0, 0] := rfl
theorem index3 (t : Fin (cfgA a).N) : ((cfgA a).win 3).index t = ![0, (beW a t).toNat, 0, 0] := rfl
theorem index4 (t : Fin (cfgA a).N) : ((cfgA a).win 4).index t = ![0, (beW a t).toNat, 0, 0] := rfl

/-- Two points of one expert have one block of each weight. -/
theorem iblk1_congr (c : Dev nD) (t t' : Fin (cfgA a).N) (h : beW a t = beW a t') : iblk a V c 1 t = iblk a V c 1 t' := by
  funext y
  refine congrArg (V c main_arg2) (funext fun x => Fin.ext ?_)
  refine (Pipeline.Window.rect_emb_val ((cfgA a).win 1) t y x).trans (Eq.trans ?_ (Pipeline.Window.rect_emb_val ((cfgA a).win 1) t' y x).symm)
  rw [index1, index1, h]
theorem iblk3_congr (c : Dev nD) (t t' : Fin (cfgA a).N) (h : beW a t = beW a t') : iblk a V c 3 t = iblk a V c 3 t' := by
  funext y
  refine congrArg (V c main_arg4) (funext fun x => Fin.ext ?_)
  refine (Pipeline.Window.rect_emb_val ((cfgA a).win 3) t y x).trans (Eq.trans ?_ (Pipeline.Window.rect_emb_val ((cfgA a).win 3) t' y x).symm)
  rw [index3, index3, h]

/-- A used block that is not new has the expert of the block before, which is used. -/
theorem same_prev (t : Fin (cfgA a).N) (hu : used (crd a t) (nuW a)) (hn : ¬(isNew (crd a t) (a.1 0) (a.1 1) = 1#1)) :
    ∃ t' : Fin (cfgA a).N, t'.val + 1 = t.val ∧ used (crd a t') (nuW a) ∧ beW a t = beW a t' := by
  have ht : t.val < 288 := t.isLt
  have hnot := fun h => hn ((new_word _ _ _).2 ⟨hu, h⟩)
  have h0 : BitVec.ofNat 32 (crd a t 0).val ≠ 0#32 := fun h => hnot (Or.inl ((eq_word _ _).2 h))
  rw [crd_val] at h0
  have hpos : t.val ≠ 0 := fun h => h0 (by rw [h])
  have hb : wordAt (a.1 0) (k0_off1 (crd a t)) (k0_off1_inb (crd a t)) = wordAt (a.1 0) (k0_off2 (crd a t)) (k0_off2_inb (crd a t)) :=
    Classical.byContradiction fun h => hnot (Or.inr ((ne_word _ _).2 h))
  refine ⟨⟨t.val - 1, Nat.lt_of_le_of_lt (Nat.sub_le _ _) t.isLt⟩, by show t.val - 1 + 1 = t.val; omega, used_mono ?_ hu, hb.trans ?_⟩
  · rw [crd_val, crd_val]; exact Nat.sub_le _ _
  · have ho : k0_off2 (crd a t) = k0_off1 (crd a ⟨t.val - 1, Nat.lt_of_le_of_lt (Nat.sub_le _ _) t.isLt⟩) := by
      unfold k0_off2 k0_off1
      rw [crd_val, crd_val]
      refine congrArg (fun n => ![n]) ?_
      exact off2_word t.val (Nat.pos_of_ne_zero hpos) ht
    exact wordAt_congr _ ho _ _

/-- A new block is used. -/
theorem used_of_new (t : Fin (cfgA a).N) (hn : isNew (crd a t) (a.1 0) (a.1 1) = 1#1) : used (crd a t) (nuW a) := ((new_word _ _ _).1 hn).1

/-- The body at point `t`, as the pipeline calls it. -/
abbrev bodyAt (t : Fin (cfgA a).N) : Prog (TpuEff nD τ sig (Elt F) Λ₀ .tc) PUnit :=
  cc0_experts (crd a t) beM (Memref.isWhole_whole _) nuM (Memref.isWhole_whole _) nvM (Memref.isWhole_whole _) (ms0 a t) (hs0 a t) (ms1 a t) (hs1 a t) (ms2 a t) (hs2 a t) (ms3 a t) (hs3 a t) (ms4 a t) (hs4 a t) (ms5 a t) (hs5 a t) w1M (Memref.isWhole_whole _) w2M (Memref.isWhole_whole _)

set_option maxHeartbeats 4000000 in
theorem sound_body (c : Dev nD) (t : Fin (cfgA a).N) :
    iprop((dats a V 0 c).Φ t.castSucc ∗ (dats a V 0 c).owesAt () t.castSucc
        ∗ (∃ d, owns (c : Thread nD τ) (ms0 a t) fullShare ((dats a V 0 c).before (0 : Fin 6) t d))
        ∗ (∃ d, owns (c : Thread nD τ) (ms1 a t) fullShare ((dats a V 0 c).before (1 : Fin 6) t d))
        ∗ (∃ d, owns (c : Thread nD τ) (ms2 a t) fullShare ((dats a V 0 c).before (2 : Fin 6) t d))
        ∗ (∃ d, owns (c : Thread nD τ) (ms3 a t) fullShare ((dats a V 0 c).before (3 : Fin 6) t d))
        ∗ (∃ d, owns (c : Thread nD τ) (ms4 a t) fullShare ((dats a V 0 c).before (4 : Fin 6) t d))
        ∗ (∃ d, owns (c : Thread nD τ) (ms5 a t) fullShare ((dats a V 0 c).before (5 : Fin 6) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  rewrite [idle5 a t]
  simp only [before0, before1, before2, before3, before4, after0, after1, after2, after3, after4, after5]
  rewrite [show (dats a V 0 c).Φ t.succ = Phi a V c (t.val + 1) from rfl, show (dats a V 0 c).Φ t.castSucc = Phi a V c t.val from rfl,
    show (dats a V 0 c).owesAt () t.succ = (dats a V 0 c).owesAt () t.castSucc from rfl]
  unfold Phi
  iintro ⟨⟨⟨%a0, %a1, %ha, HS0, HS1⟩, HT0, HT1, HT2, HP⟩, Ho, ⟨%d0, H0⟩, ⟨%d1, H1⟩, ⟨%d2, H2⟩, ⟨%d3, H3⟩, ⟨%d4, H4⟩, ⟨%d5, H5⟩⟩
  by_cases hu : used (crd a t) (nuW a)
  · have h2 := (cond2_iff (crd a t) (nuW a)).2 hu
    have h3 : ¬(k0_cond3 (crd a t) (nuW a) = 1#1) := fun h => (cond3_iff _ _).1 h hu
    by_cases hn : isNew (crd a t) (a.1 0) (a.1 1) = 1#1
    · iapply (run_new c (crd a t) (ms0 a t) (hs0 a t) (ms1 a t) (hs1 a t) (ms2 a t) (hs2 a t) (ms3 a t) (hs3 a t) (ms4 a t) (hs4 a t) (ms5 a t) (hs5 a t) (a.1 0) (a.1 1) (a.1 2) (iblk a V c 0 t) (iblk a V c 1 t) (iblk a V c 2 t) (iblk a V c 3 t) (iblk a V c 4 t) a0 a1 _ hn h2 h3)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HT2]; · iexact HT2
      isplitl [H5]; · iexists _; iexact H5
      isplitl [HS0]; · iexact HS0
      isplitl [HS1]; · iexact HS1
      iintro ⟨H0, H1, H2, H3, H4, HT0, HT1, HT2, H5, HS0, HS1⟩
      isplitl [HS0 HS1 HT0 HT1 HT2 HP]
      · isplitl [HS0 HS1]
        · iexists _; iexists _; isplitr; swap
          · isplitl [HS0]
            · iexact HS0
            iexact HS1
          · ipureintro; intro t' ht' _; obtain rfl : t' = t := Fin.ext (Nat.succ.inj ht'); exact ⟨rfl, rfl⟩
        isplitl [HT0]; · iexact HT0
        isplitl [HT1]; · iexact HT1
        isplitl [HT2]; · iexact HT2
        iexact HP
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      rw [show outAt a V c t = outUsed (crd a t) (a.1 2) (iblk a V c 0 t) (k0_pay1 (iblk a V c 1 t)) (iblk a V c 2 t) (k0_pay2 (iblk a V c 3 t)) (iblk a V c 4 t) from if_pos hu]
      iexact H5
    · have hw : a0 = k0_pay1 (iblk a V c 1 t) ∧ a1 = k0_pay2 (iblk a V c 3 t) := by
        obtain ⟨t', ht', hu', hb⟩ := same_prev a t hu hn
        have h := ha t' ht' hu'
        rw [iblk1_congr a V c t t' hb, iblk3_congr a V c t t' hb]; exact h
      iapply (run_same c (crd a t) (ms0 a t) (hs0 a t) (ms1 a t) (hs1 a t) (ms2 a t) (hs2 a t) (ms3 a t) (hs3 a t) (ms4 a t) (hs4 a t) (ms5 a t) (hs5 a t) (a.1 0) (a.1 1) (a.1 2) (iblk a V c 0 t) (iblk a V c 1 t) (iblk a V c 2 t) (iblk a V c 3 t) (iblk a V c 4 t) a0 a1 _ hn h2 h3)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [HT2]; · iexact HT2
      isplitl [H5]; · iexists _; iexact H5
      isplitl [HS0]; · iexact HS0
      isplitl [HS1]; · iexact HS1
      iintro ⟨H0, H1, H2, H3, H4, HT0, HT1, HT2, H5, HS0, HS1⟩
      isplitl [HS0 HS1 HT0 HT1 HT2 HP]
      · isplitl [HS0 HS1]
        · iexists _; iexists _; isplitr; swap
          · isplitl [HS0]
            · iexact HS0
            iexact HS1
          · ipureintro; intro t' ht' _; obtain rfl : t' = t := Fin.ext (Nat.succ.inj ht'); exact hw
        isplitl [HT0]; · iexact HT0
        isplitl [HT1]; · iexact HT1
        isplitl [HT2]; · iexact HT2
        iexact HP
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      rw [show outAt a V c t = outUsed (crd a t) (a.1 2) (iblk a V c 0 t) a0 (iblk a V c 2 t) a1 (iblk a V c 4 t) from (if_pos hu).trans (by rw [hw.1, hw.2])]
      iexact H5
  · have h2 : ¬(k0_cond2 (crd a t) (nuW a) = 1#1) := fun h => hu ((cond2_iff _ _).1 h)
    have h3 := (cond3_iff (crd a t) (nuW a)).2 hu
    have hn : ¬(isNew (crd a t) (a.1 0) (a.1 1) = 1#1) := fun h => hu (used_of_new a t h)
    iapply (run_past c (crd a t) (ms0 a t) (hs0 a t) (ms1 a t) (hs1 a t) (ms2 a t) (hs2 a t) (ms3 a t) (hs3 a t) (ms4 a t) (hs4 a t) (ms5 a t) (hs5 a t) (a.1 0) (a.1 1) (a.1 2) (iblk a V c 0 t) (iblk a V c 1 t) (iblk a V c 2 t) (iblk a V c 3 t) (iblk a V c 4 t) a0 a1 _ hn h2 h3)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    isplitl [HS0]; · iexact HS0
    isplitl [HS1]; · iexact HS1
    iintro ⟨H0, H1, H2, H3, H4, HT0, HT1, HT2, H5, HS0, HS1⟩
    isplitl [HS0 HS1 HT0 HT1 HT2 HP]
    · isplitl [HS0 HS1]
      · iexists _; iexists _; isplitr; swap
        · isplitl [HS0]
          · iexact HS0
          iexact HS1
        · ipureintro; intro t' ht' hu'; obtain rfl : t' = t := Fin.ext (Nat.succ.inj ht'); exact absurd hu' hu
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    rw [show outAt a V c t = k0_pay4 from if_neg hu]
    iexact H5

theorem body_obligation (c : Dev nD) : BodyObligation (dats a V 0 c) (defs₀ (F := F)) Variants.none () Set.univ := fun t => by
  rw [bigSep_W0]
  exact sound_body a V c t

end Cert.Proof.Experts

end
-- ==== Proof.ExpTables.lean ====
/-
  The look-ups of the experts' call: the expert of each block, the count of used blocks and the rows filled in each,
  as the host operations before the call compute them from the experts' counts.
-/
module

public import proofs.«01_k».proof.Proof.Gen.Kernel2Ideal
public import proofs.«01_k».proof.Proof.Gen.Kernel2Ideal.Launch
public import Idealize.ShloMosaic.Lib.StableHlo.RunClose

@[expose] public section

set_option maxRecDepth 16384

noncomputable section

namespace Cert.Proof.Experts

open Cert.Kernel2Ideal Cert.Kernel2Ideal.Gen
open Idealize.ShloMosaic Idealize.ShloMosaic.TcCoe Idealize.ShloMosaic.StableHlo

/-- A word at every index. -/
abbrev every (s : Shape) (hb : S_.BroadcastsInDim s (![] : Fin 0 → Fin s.rank)) (k : BitVec 32) : IVec s 32 :=
  broadcastInDim s ![] hb (constantI S_ 32 k)

/-- The quotient by the block's 512 rows, rounded down. -/
def floorDiv (s : Shape) (hb : S_.BroadcastsInDim s (![] : Fin 0 → Fin s.rank)) (x : IVec s 32) : IVec s 32 :=
  select (andi (cmpi .ne (signi x) (broadcastInDim s ![] hb (signi (constantI S_ 32 512#32)))) (cmpi .ne (Host.remsi x (every s hb 512#32)) (every s hb 0#32)))
    (subi (Host.divsi x (every s hb 512#32)) (every s hb 1#32)) (Host.divsi x (every s hb 512#32))

/-- Each expert's rows, up to whole blocks; where its blocks end; each block's first row. -/
def padded (n : IVec S32 32) : IVec S32 32 :=
  muli (floorDiv S32 bcast_S_S32 (subi (addi n (every S32 bcast_S_S32 512#32)) (every S32 bcast_S_S32 1#32))) (every S32 bcast_S_S32 512#32)
def padEnd (n : IVec S32 32) : IVec S32 32 :=
  Host.reduceWindow IntOp.addi ![32] ![1] ![31] ![0] (padded n) (broadcastInDim S_ ![] bcast_S_S_ (constantI S_ 32 0#32)) reduceWindows_S32_S32_w32s1p31_0 h_S_
def starts : IVec S288 32 := muli (iotaInDim S288 32 0) (every S288 bcast_S_S288 512#32)

/-- The expert of each block. -/
def beOf (n : IVec S32 32) : IVec S288 32 :=
  minsi (Host.reduce IntOp.addi (extui 32 (cmpi .sle (broadcastInDim S288x32 ![0, 1] bcast_S1x32_S288x32_0_1 (broadcastInDim S1x32 ![1] bcast_S32_S1x32_1 (padEnd n)))
      (broadcastInDim S288x32 ![0, 1] bcast_S288x1_S288x32_0_1 (broadcastInDim S288x1 ![0] bcast_S288_S288x1_0 starts))) natLt_1_32)
    (constantI S_ 32 0#32) reducesTo_S288x32_S288_d1 h_S_) (every S288 bcast_S_S288 31#32)

/-- The count of used blocks. -/
def nuOf (n : IVec S32 32) : IVec S1 32 := floorDiv S1 bcast_S_S1 (extractStridedSlice S1 ![31] (padEnd n) slices_S32_S1_31)

/-- An expert's number as a row of a table of 32. -/
def colOf (n : IVec S32 32) : IVec S288x1 32 :=
  broadcastInDim S288x1 ![0] bcast_S288_S288x1_0
    (select (cmpi .slt (beOf n) (every S288 bcast_S_S288 0#32)) (addi (beOf n) (every S288 bcast_S_S288 32#32)) (beOf n))

/-- The rows of the block's expert that are left from the block's first on, and those filled in it. -/
def leftOf (n : IVec S32 32) : IVec S288 32 :=
  subi (addi (Host.gather gather_S32_S288x1_S288_n_0_n_n_0_1_1 (subi (padEnd n) (padded n)) (colOf n))
    (Host.gather gather_S32_S288x1_S288_n_0_n_n_0_1_1 n (colOf n))) starts
def nvOf (n : IVec S32 32) : IVec S288 32 := minsi (every S288 bcast_S_S288 512#32) (maxsi (every S288 bcast_S_S288 0#32) (leftOf n))

variable {F : FTy → Type} [FloatOps F]

/-- The host operations before the call. -/
abbrev opss : List (List (HloOp τ sig (Elt F))) :=
  [hostOps0, hostOps0_1, hostOps0_2, hostOps0_3, hostOps0_4, hostOps0_5, hostOps0_6, hostOps0_7, hostOps0_8]

theorem be_eq (W : Valuation τ sig (Elt F)) : after opss.flatten W (main_v20 : DevRef τ sig) = beOf (W (main_arg1 : DevRef τ sig)) := by
  simp only [List.flatten_cons, List.flatten_nil, List.append_nil, List.cons_append, List.nil_append]
  after_results_simp
  simp only [TRef.ofBuf_toBuf, id]
  simp only [TRef.ofBuf, TRef.toBuf, TRef.of, dropContentsCast]
  simp only [beOf, padEnd, padded, floorDiv, starts]

theorem nu_eq (W : Valuation τ sig (Elt F)) : after opss.flatten W (main_v22 : DevRef τ sig) = nuOf (W (main_arg1 : DevRef τ sig)) := by
  simp only [List.flatten_cons, List.flatten_nil, List.append_nil, List.cons_append, List.nil_append]
  after_results_simp
  simp only [TRef.ofBuf_toBuf, id]
  simp only [TRef.ofBuf, TRef.toBuf, TRef.of, dropContentsCast]
  simp only [nuOf, padEnd, padded, floorDiv]

theorem nv_eq (W : Valuation τ sig (Elt F)) : after opss.flatten W (main_v39 : DevRef τ sig) = nvOf (W (main_arg1 : DevRef τ sig)) := by
  simp only [List.flatten_cons, List.flatten_nil, List.append_nil, List.cons_append, List.nil_append]
  after_results_simp
  simp only [TRef.ofBuf_toBuf, id]
  simp only [TRef.ofBuf, TRef.toBuf, TRef.of, dropContentsCast]
  simp only [nvOf, leftOf, colOf, beOf, padEnd, padded, floorDiv, starts]

theorem b1_eq (W : Valuation τ sig (Elt F)) : after opss.flatten W (main_v40 : DevRef τ sig) = shapeCast S2x32x1x2048 (W (main_arg3 : DevRef τ sig)) shapeCasts_S2x32x2048_S2x32x1x2048 := by
  simp only [List.flatten_cons, List.flatten_nil, List.append_nil, List.cons_append, List.nil_append]
  after_results_simp
  rfl

theorem b2_eq (W : Valuation τ sig (Elt F)) : after opss.flatten W (main_v41 : DevRef τ sig) = shapeCast S2x32x1x1024 (W (main_arg5 : DevRef τ sig)) shapeCasts_S2x32x1024_S2x32x1x1024 := by
  simp only [List.flatten_cons, List.flatten_nil, List.append_nil, List.cons_append, List.nil_append]
  after_results_simp
  rfl

/-- The arguments, which the host operations leave. -/
theorem arg0_eq (W : Valuation τ sig (Elt F)) : after opss.flatten W (main_arg0 : DevRef τ sig) = W (main_arg0 : DevRef τ sig) := by
  simp only [List.flatten_cons, List.flatten_nil, List.append_nil, List.cons_append, List.nil_append]
  after_results_simp
theorem arg1_eq (W : Valuation τ sig (Elt F)) : after opss.flatten W (main_arg1 : DevRef τ sig) = W (main_arg1 : DevRef τ sig) := by
  simp only [List.flatten_cons, List.flatten_nil, List.append_nil, List.cons_append, List.nil_append]
  after_results_simp
theorem arg2_eq (W : Valuation τ sig (Elt F)) : after opss.flatten W (main_arg2 : DevRef τ sig) = W (main_arg2 : DevRef τ sig) := by
  simp only [List.flatten_cons, List.flatten_nil, List.append_nil, List.cons_append, List.nil_append]
  after_results_simp
theorem arg3_eq (W : Valuation τ sig (Elt F)) : after opss.flatten W (main_arg3 : DevRef τ sig) = W (main_arg3 : DevRef τ sig) := by
  simp only [List.flatten_cons, List.flatten_nil, List.append_nil, List.cons_append, List.nil_append]
  after_results_simp
theorem arg4_eq (W : Valuation τ sig (Elt F)) : after opss.flatten W (main_arg4 : DevRef τ sig) = W (main_arg4 : DevRef τ sig) := by
  simp only [List.flatten_cons, List.flatten_nil, List.append_nil, List.cons_append, List.nil_append]
  after_results_simp
theorem arg5_eq (W : Valuation τ sig (Elt F)) : after opss.flatten W (main_arg5 : DevRef τ sig) = W (main_arg5 : DevRef τ sig) := by
  simp only [List.flatten_cons, List.flatten_nil, List.append_nil, List.cons_append, List.nil_append]
  after_results_simp

/-! ## An expert's number is below 32 -/

/-- A sum of words of zero and one is no more than their number. -/
theorem fold_le {ι : Type} (f : ι → BitVec 32) (hf : ∀ i, (f i).toNat ≤ 1) : ∀ (l : List ι) (r : BitVec 32), r.toNat + l.length < 2 ^ 32 →
    (l.foldl (fun r n => IntOp.addi r (f n)) r).toNat ≤ r.toNat + l.length
  | [], r, _ => Nat.le_refl _
  | i :: l, r, h => by
    rw [List.length_cons] at h ⊢
    have e : (IntOp.addi r (f i)).toNat = r.toNat + (f i).toNat := by
      show (r + f i).toNat = _
      rw [BitVec.toNat_add]
      exact Nat.mod_eq_of_lt (by have := hf i; omega)
    have := hf i
    refine (fold_le f hf l (IntOp.addi r (f i)) (by omega)).trans ?_
    omega

theorem bit_le (b : BitVec 1) : (b.setWidth 32).toNat ≤ 1 := by revert b; decide

/-- The least of a small word and 31. -/
theorem min_le (x : BitVec 32) (h : x.toNat ≤ 9216) : (IntOp.minsi x 31#32).toNat ≤ 31 := by
  unfold IntOp.minsi
  split
  · next hs =>
    rw [BitVec.slt_iff_toInt_lt, BitVec.toInt_eq_toNat_cond, BitVec.toInt_eq_toNat_cond, BitVec.toNat_ofNat] at hs
    simp only [Nat.reducePow, Nat.reduceMod] at hs
    omega
  · decide

theorem beOf_le (n : IVec S32 32) (j : S288.Idx) : (beOf n j).toNat ≤ 31 := by
  refine min_le _ ?_
  unfold Host.reduce
  refine (fold_le (ι := Fin S288x32.numel) _ (fun i => ?_) _ _ ?_).trans ?_
  · exact bit_le _
  all_goals
    have hl : (List.finRange S288x32.numel).length = 9216 := by rw [List.length_finRange]; rfl
    have hz : ((constantI S_ 32 0#32 : IVec S_ 32) (Shape.Idx.first h_S_)).toNat = 0 := rfl
    rw [hz]
    have hf := List.length_filter_le (fun n => reducesTo_S288x32_S288_d1.drop (S288x32.rowMajor.symm n) = j) (List.finRange S288x32.numel)
    omega

end Cert.Proof.Experts

end
-- ==== Proof.ExpLaunch.lean ====
/-
  The experts' call launched: the look-ups its host operations leave are the tables it runs at, and every block they name
  is inside its array; what the run leaves.
-/
module

public import proofs.«01_k».proof.Proof.ExpRun
public import proofs.«01_k».proof.Proof.ExpTables
public import Idealize.ShloMosaic.Lib.Pipeline.ValueKit.Geometry

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after)
open Idealize.ShloMosaic.Pipeline (Dat Cfg Window BodyObligation BodyObligationLoose ΦA ΦT)

variable {F : FTy → Type} [FloatOps F]

local notation "𝕄" => MT nD τ sig Unit (Elt F) ℕ (UR sig nD τ) ℕ

/-! ## The tables -/

/-- The three tables, from the experts' counts. -/
def tabs (n : IVec S32 32) : pre0.Contents (Elt F) := fun
  | ⟨0, _⟩ => beOf n
  | ⟨1, _⟩ => nuOf n
  | ⟨2, _⟩ => nvOf n
  | ⟨_ + 3, h⟩ => absurd h (Nat.not_lt.2 (Nat.le_add_left _ _))

theorem word_le (n : IVec S32 32) (i : grid0.Coords) : (wordAt (F := F) (beOf n) (k0_off1 i) (k0_off1_inb i)).toNat ≤ 31 := beOf_le n _

theorem ix1 (n : IVec S32 32) (i : grid0.Coords) : cc0_transform_1 k0_off1_inb numel1_S1 (tabs (F := F) n) i = ![0, (wordAt (F := F) (beOf n) (k0_off1 i) (k0_off1_inb i)).toNat, 0, 0] := rfl
theorem ix2 (n : IVec S32 32) (i : grid0.Coords) : cc0_transform_2 k0_off1_inb numel1_S1 (tabs (F := F) n) i = ![0, (wordAt (F := F) (beOf n) (k0_off1 i) (k0_off1_inb i)).toNat, 0, 0] := rfl
theorem ix3 (n : IVec S32 32) (i : grid0.Coords) : cc0_transform_3 k0_off1_inb numel1_S1 (tabs (F := F) n) i = ![0, (wordAt (F := F) (beOf n) (k0_off1 i) (k0_off1_inb i)).toNat, 0, 0] := rfl
theorem ix4 (n : IVec S32 32) (i : grid0.Coords) : cc0_transform_4 k0_off1_inb numel1_S1 (tabs (F := F) n) i = ![0, (wordAt (F := F) (beOf n) (k0_off1 i) (k0_off1_inb i)).toNat, 0, 0] := rfl

/-- A block of one expert out of 32 is inside its array. -/
theorem inside (k : ℕ) (hk : k ≤ 31) (u v : ℕ) : ∀ a : Fin 4, ((![0, k, 0, 0] : Fin 4 → ℕ) a + 1) * (![1, 1, u, v] : Fin 4 → ℕ) a ≤ (![2, 32, u, v] : Fin 4 → ℕ) a := by
  intro a
  match a with
  | 0 => show (0 + 1) * 1 ≤ 2; omega
  | 1 => show (k + 1) * 1 ≤ 32; omega
  | 2 => show (0 + 1) * u ≤ u; omega
  | 3 => show (0 + 1) * v ≤ v; omega

theorem tabs_ok (n : IVec S32 32) : ok0 (tabs (F := F) n) :=
  ⟨fun i => ⟨by rw [ix1]; exact inside _ (word_le n i) 1024 2048, Or.inl rfl⟩,
    fun i => ⟨by rw [ix2]; exact inside _ (word_le n i) 1 2048, Or.inl rfl⟩,
    fun i => ⟨by rw [ix3]; exact inside _ (word_le n i) 1024 1024, Or.inl rfl⟩,
    fun i => ⟨by rw [ix4]; exact inside _ (word_le n i) 1 1024, Or.inl rfl⟩⟩

def adm (n : IVec S32 32) : (pcfg0 (F := F)).Adm := ⟨tabs n, tabs_ok n⟩

/-! ## The run -/

variable (m : (ℓ : Loc nD τ sig) → Buf (Elt F) ℓ) (ρ : Dev nD → PrngReg)

/-- What every buffer holds when the call starts. -/
abbrev VV : (c : Dev nD) → (b : Ref sig .tc) → Buf (Elt F) ((c.tc : Thread nD τ).loc b) :=
  fun c b => after opss.flatten (fun b => m (c, b)) b

/-- The experts' counts, and the pipeline at their tables. -/
abbrev cnt : IVec S32 32 := m (((0 : Dev nD).tc : Thread nD τ).loc main_arg1)
abbrev aa : (pcfg0 (F := F)).Adm := adm (cnt m)
theorem dev_eq (c : Dev nD) : c = 0 := Subsingleton.elim _ _

theorem tables_held (c : Dev nD) (k : Fin 3) : VV m c (pre0.ref k) = (aa m).1 k := by
  obtain rfl := dev_eq c
  match k with
  | 0 => exact be_eq _
  | 1 => exact nu_eq _
  | 2 => exact nv_eq _

theorem tables_split (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v20) ↦{q 0} v 0) ∗ (((c : Thread nD τ).loc main_v22) ↦{q 1} v 1) ∗ (((c : Thread nD τ).loc main_v39) ↦{q 2} v 2)) := by
  unfold Pipeline.prefHeld
  rw [show (Finset.univ : Finset (Fin 3)) = insert 0 (insert 1 {2}) from by decide, bigSep_insert (by decide), bigSep_insert (by decide), bigSep_singleton]
  rfl

theorem start (c : Dev nD) : iprop(ΦA spec0 c ∗ ΦT pre0 (aa m).1 c) ⊢ (Phi (aa m) (VV m) c 0 : sProp 𝕄) := by
  unfold ΦA ΦT
  rw [tables_split, scopedRest0_eq]
  unfold Phi
  iintro ⟨⟨⟨⟨%a0, HS0⟩, ⟨%a1, HS1⟩⟩, HP⟩, HT0, HT1, HT2⟩
  isplitl [HS0 HS1]
  · iexists a0; iexists a1; isplitr; swap
    · isplitl [HS0]
      · iexact HS0
      iexact HS1
    · ipureintro; intro t ht; exact absurd ht (Nat.succ_ne_zero _)
  isplitl [HT0]; · iexact HT0
  isplitl [HT1]; · iexact HT1
  isplitl [HT2]; · iexact HT2
  iexact HP

theorem finish (c : Dev nD) (n : ℕ) : (Phi (aa m) (VV m) c n : sProp 𝕄) ⊢ ΦA spec0 c := by
  unfold ΦA
  rw [scopedRest0_eq]
  unfold Phi
  iintro ⟨⟨%a0, %a1, -, HS0, HS1⟩, -, -, -, HP⟩
  isplitl [HS0 HS1]
  · isplitl [HS0]
    · iexists a0; iexact HS0
    iexists a1; iexact HS1
  iexact HP

theorem share_full (c : Dev nD) (w : Fin (cfgA (aa m)).W) : (dats (aa m) (VV m) 0 c).share w = fullShare := by unfold Dat.share; split <;> rfl

theorem fresh_nil : (opss (F := F)).Forall fun ops => ops.Forall fun op => op.fresh = ∅ := by
  simp only [List.Forall]
  repeat' apply And.intro
  all_goals rfl

theorem entry0 (c : Dev nD) : VV m c main_arg0 = m ((c.tc : Thread nD τ).loc main_arg0) := arg0_eq (fun b => m (c, b))
theorem entry1 (c : Dev nD) : VV m c main_arg1 = m ((c.tc : Thread nD τ).loc main_arg1) := arg1_eq (fun b => m (c, b))
theorem entry2 (c : Dev nD) : VV m c main_arg2 = m ((c.tc : Thread nD τ).loc main_arg2) := arg2_eq (fun b => m (c, b))
theorem entry3 (c : Dev nD) : VV m c main_arg3 = m ((c.tc : Thread nD τ).loc main_arg3) := arg3_eq (fun b => m (c, b))
theorem entry4 (c : Dev nD) : VV m c main_arg4 = m ((c.tc : Thread nD τ).loc main_arg4) := arg4_eq (fun b => m (c, b))
theorem entry5 (c : Dev nD) : VV m c main_arg5 = m ((c.tc : Thread nD τ).loc main_arg5) := arg5_eq (fun b => m (c, b))
theorem A0_eq (c : Dev nD) : (dats (aa m) (VV m) 0 c).A 0 = VV m c main_arg0 := rfl
theorem A1_eq (c : Dev nD) : (dats (aa m) (VV m) 0 c).A 1 = VV m c main_arg2 := rfl
theorem A3_eq (c : Dev nD) : (dats (aa m) (VV m) 0 c).A 3 = VV m c main_arg4 := rfl
theorem rest1 (n : IVec S32 32) : main_arg1 ∈ Pipeline.restRefs sig (cfg0 (F := F) (adm n)).spec := Pipeline.mem_restRefs_of _ rfl (show ∀ w, (spec0 w).arr.view.ref ≠ main_arg1 by decide)
theorem rest3 (n : IVec S32 32) : main_arg3 ∈ Pipeline.restRefs sig (cfg0 (F := F) (adm n)).spec := Pipeline.mem_restRefs_of _ rfl (show ∀ w, (spec0 w).arr.view.ref ≠ main_arg3 by decide)
theorem rest5 (n : IVec S32 32) : main_arg5 ∈ Pipeline.restRefs sig (cfg0 (F := F) (adm n)).spec := Pipeline.mem_restRefs_of _ rfl (show ∀ w, (spec0 w).arr.view.ref ≠ main_arg5 by decide)

set_option maxHeartbeats 1000000 in
/-- What the pipeline leaves: the result array as its points leave it, the arguments as they were. -/
theorem after_run (r : PUnit × MemSt nD τ sig (Elt F))
    (h : Pipeline.FramePost (Pipeline.pin (pcfgs (F := F)) fun _ => aa m) (dats (aa m) (VV m)) 0 (VV m) r) (c : Dev nD) :
    r.2.mem ((c.tc : Thread nD τ).loc main_v42) = (dats (aa m) (VV m) 0 c).arrAt 5 (cfgA (aa m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).1 5,
    ((((h c).1 0).trans ((dats (aa m) (VV m) 0 c).arrAt_in 0 rfl _)).trans (A0_eq m c)).trans (entry0 m c),
    ((h c).2 main_arg1 (rest1 _)).trans (entry1 m c),
    ((((h c).1 1).trans ((dats (aa m) (VV m) 0 c).arrAt_in 1 rfl _)).trans (A1_eq m c)).trans (entry2 m c),
    ((h c).2 main_arg3 (rest3 _)).trans (entry3 m c),
    ((((h c).1 3).trans ((dats (aa m) (VV m) 0 c).arrAt_in 3 rfl _)).trans (A3_eq m c)).trans (entry4 m c),
    ((h c).2 main_arg5 (rest5 _)).trans (entry5 m c)⟩

set_option maxHeartbeats 4000000 in
/-- @main ends, its counters at zero, with the result array at what the pipeline's points leave and its arguments as they were. -/
theorem run_main : θ_run (defs (F := F)) (onTc (main (F := F))) ⟨m, fun _ => 0, ρ⟩ fun r =>
    (∀ c : Dev nD, r.2.mem ((c.tc : Thread nD τ).loc main_v42) = (dats (aa m) (VV m) 0 c).arrAt 5 (cfgA (aa m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 :=
  Pipeline.θ_run_frameP_track (pcfgs (F := F)) (fun _ => aa m) (dats (aa m) (VV m)) 0 (launch0 (F := F)) (defs₀ (F := F)) Variants.none m ρ main
    (fun c => (body_obligation (aa m) (VV m) c).loose) (fun c w => share_full m c w) (fun _ _ => rfl) (VV m)
    (Pipeline.hmainP_prefixes (pcfgs (F := F)) 0 (defs₀ (F := F)) Variants.none m main opss
      ⟨hostOps0_sub, hostOps0_1_sub, hostOps0_2_sub, hostOps0_3_sub, hostOps0_4_sub, hostOps0_5_sub, hostOps0_6_sub, hostOps0_7_sub, hostOps0_8_sub⟩
      fresh_nil (fun c => main_chain c))
    (fun _ _ => rfl) (fun c k => tables_held m c k) (fun c => start m c) (fun c => finish m c _) _
    (fun r h => ⟨fun c => after_run m r h.1 c, h.2⟩)

end Cert.Proof.Experts

end
-- ==== Proof.ExpRef.lean ====
/-
  The experts' reference's run: the look-ups, then the rest, a straight line of host operations.
-/
module

public import proofs.«01_k».proof.Proof.ExpTables
public import proofs.«01_k».proof.Proof.Gen.Reference2Ideal
public import Idealize.ShloMosaic.Lib.StableHlo.Run
public import Idealize.ShloMosaic.Lib.StableHlo.RunClose
public import Idealize.ShloMosaic.Lib.Pipeline.Frame
public import Idealize.ShloMosaic.Lib.Quiescent
public import Idealize.ShloMosaic.Lib.Pipeline.Regions

@[expose] public section

set_option maxRecDepth 16384

noncomputable section

namespace Cert.Proof.Plain

open Cert.Reference2Ideal Cert.Reference2Ideal.Gen
open Idealize.ShloMosaic Idealize.ShloMosaic.TcCoe Idealize.ShloMosaic.StableHlo Idealize.SL.Sem

variable {F : FTy → Type} [FloatOps F]

/-! ## The operations -/

/-- The look-ups. -/
abbrev opsA : List (HloOp τ sig (Elt F)) :=
  [ nullary main_c (constantI S_ 32 512#32),
    unary main_c main_v0 (broadcastInDim S32 ![] bcast_S_S32),
    binary main_arg1 main_v0 main_v1 addi,
    nullary main_c_0 (constantI S_ 32 1#32),
    unary main_c_0 main_v2 (broadcastInDim S32 ![] bcast_S_S32),
    binary main_v1 main_v2 main_v3 subi,
    nullary main_c_1 (constantI S_ 32 512#32),
    unary main_c_1 main_call0_v0 id,
    unary main_call0_v0 main_call0_v1 (broadcastInDim S32 ![] bcast_S_S32),
    binary main_v3 main_call0_v1 main_call0_v2 Host.divsi,
    unary main_v3 main_call0_v3 signi,
    unary main_call0_v0 main_call0_v4 signi,
    unary main_call0_v4 main_call0_v5 (broadcastInDim S32 ![] bcast_S_S32),
    binary main_call0_v3 main_call0_v5 main_call0_v6 (cmpi .ne),
    unary main_call0_v0 main_call0_v7 (broadcastInDim S32 ![] bcast_S_S32),
    binary main_v3 main_call0_v7 main_call0_v8 Host.remsi,
    nullary main_call0_c (constantI S_ 32 0#32),
    unary main_call0_c main_call0_v9 (broadcastInDim S32 ![] bcast_S_S32),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S32 ![] bcast_S_S32),
    binary main_call0_v2 main_call0_v12 main_call0_v13 subi,
    ternary main_call0_v11 main_call0_v13 main_call0_v2 main_v4 select,
    nullary main_c_2 (constantI S_ 32 512#32),
    unary main_c_2 main_v5 (broadcastInDim S32 ![] bcast_S_S32),
    binary main_v4 main_v5 main_v6 muli,
    nullary main_call1_call0_c (constantI S_ 32 0#32),
    unary main_call1_call0_c main_call1_call0_v0 (broadcastInDim S_ ![] bcast_S_S_),
    binary main_v6 main_call1_call0_v0 main_v7 (fun x v => Host.reduceWindow IntOp.addi ![32] ![1] ![31] ![0] x v reduceWindows_S32_S32_w32s1p31_0 h_S_),
    binary main_v7 main_v6 main_v8 subi,
    nullary main_v9 (iotaInDim S288 32 0),
    nullary main_c_3 (constantI S_ 32 512#32),
    unary main_c_3 main_v10 (broadcastInDim S288 ![] bcast_S_S288),
    binary main_v9 main_v10 main_v11 muli,
    unary main_v7 main_v12 (broadcastInDim S1x32 ![1] bcast_S32_S1x32_1),
    unary main_v11 main_v13 (broadcastInDim S288x1 ![0] bcast_S288_S288x1_0),
    unary main_v12 main_v14 (broadcastInDim S288x32 ![0, 1] bcast_S1x32_S288x32_0_1),
    unary main_v13 main_v15 (broadcastInDim S288x32 ![0, 1] bcast_S288x1_S288x32_0_1),
    binary main_v14 main_v15 main_v16 (cmpi .sle),
    unary main_v16 main_v17 (extui 32 · natLt_1_32),
    nullary main_c_4 (constantI S_ 32 0#32),
    binary main_v17 main_c_4 main_v18 (fun x v => Host.reduce IntOp.addi x v reducesTo_S288x32_S288_d1 h_S_),
    nullary main_c_5 (constantI S_ 32 31#32),
    unary main_c_5 main_v19 (broadcastInDim S288 ![] bcast_S_S288),
    binary main_v18 main_v19 main_v20 minsi,
    unary main_v7 main_v21 (extractStridedSlice S1 ![31] · slices_S32_S1_31),
    nullary main_c_6 (constantI S_ 32 512#32),
    unary main_c_6 main_call2_v0 id,
    unary main_call2_v0 main_call2_v1 (broadcastInDim S1 ![] bcast_S_S1),
    binary main_v21 main_call2_v1 main_call2_v2 Host.divsi,
    unary main_v21 main_call2_v3 signi,
    unary main_call2_v0 main_call2_v4 signi,
    unary main_call2_v4 main_call2_v5 (broadcastInDim S1 ![] bcast_S_S1),
    binary main_call2_v3 main_call2_v5 main_call2_v6 (cmpi .ne),
    unary main_call2_v0 main_call2_v7 (broadcastInDim S1 ![] bcast_S_S1),
    binary main_v21 main_call2_v7 main_call2_v8 Host.remsi,
    nullary main_call2_c (constantI S_ 32 0#32),
    unary main_call2_c main_call2_v9 (broadcastInDim S1 ![] bcast_S_S1),
    binary main_call2_v8 main_call2_v9 main_call2_v10 (cmpi .ne),
    binary main_call2_v6 main_call2_v10 main_call2_v11 andi,
    nullary main_call2_c_0 (constantI S_ 32 1#32),
    unary main_call2_c_0 main_call2_v12 (broadcastInDim S1 ![] bcast_S_S1),
    binary main_call2_v2 main_call2_v12 main_call2_v13 subi,
    ternary main_call2_v11 main_call2_v13 main_call2_v2 main_v22 select,
    nullary main_c_7 (constantI S_ 32 0#32),
    unary main_c_7 main_v23 (broadcastInDim S288 ![] bcast_S_S288),
    binary main_v20 main_v23 main_v24 (cmpi .slt),
    nullary main_c_8 (constantI S_ 32 32#32),
    unary main_c_8 main_v25 (broadcastInDim S288 ![] bcast_S_S288),
    binary main_v20 main_v25 main_v26 addi,
    ternary main_v24 main_v26 main_v20 main_v27 select,
    unary main_v27 main_v28 (broadcastInDim S288x1 ![0] bcast_S288_S288x1_0),
    binary main_v8 main_v28 main_v29 (fun x i => Host.gather gather_S32_S288x1_S288_n_0_n_n_0_1_1 x i),
    nullary main_c_9 (constantI S_ 32 0#32),
    unary main_c_9 main_v30 (broadcastInDim S288 ![] bcast_S_S288),
    binary main_v20 main_v30 main_v31 (cmpi .slt),
    nullary main_c_10 (constantI S_ 32 32#32),
    unary main_c_10 main_v32 (broadcastInDim S288 ![] bcast_S_S288),
    binary main_v20 main_v32 main_v33 addi,
    ternary main_v31 main_v33 main_v20 main_v34 select,
    unary main_v34 main_v35 (broadcastInDim S288x1 ![0] bcast_S288_S288x1_0),
    binary main_arg1 main_v35 main_v36 (fun x i => Host.gather gather_S32_S288x1_S288_n_0_n_n_0_1_1 x i),
    binary main_v29 main_v36 main_v37 addi,
    binary main_v37 main_v11 main_v38 subi ]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., binary_bufs_sub .., nullary_bufs_sub .., nullary_bufs_sub .., unary_bufs_sub .., binary_bufs_sub .., unary_bufs_sub .., unary_bufs_sub .., unary_bufs_sub .., unary_bufs_sub .., binary_bufs_sub .., unary_bufs_sub .., nullary_bufs_sub .., binary_bufs_sub .., nullary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- What it writes. -/
abbrev opsAW : List (Ref sig .tc) :=
  [main_c, main_v0, main_v1, main_c_0, main_v2, main_v3, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_c_2, main_v5, main_v6, main_call1_call0_c, main_call1_call0_v0, main_v7, main_v8, main_v9, main_c_3, main_v10, main_v11, main_v12, main_v13, main_v14, main_v15, main_v16, main_v17, main_c_4, main_v18, main_c_5, main_v19, main_v20, main_v21, main_c_6, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v22, main_c_7, main_v23, main_v24, main_c_8, main_v25, main_v26, main_v27, main_v28, main_v29, main_c_9, main_v30, main_v31, main_c_10, main_v32, main_v33, main_v34, main_v35, main_v36, main_v37, main_v38]

theorem opsA_kept (V : Valuation τ sig (Elt F)) {r : Ref sig .tc} (hr : r ∉ opsAW) : after opsA V (Proc.devRef .tc r) = V (Proc.devRef .tc r) :=
  after_of_writes_sub opsA V (forall_writes_sub_of_map rfl) hr

/-- The masks and the masked rows. -/
abbrev opsB1 : List (HloOp τ sig (Elt F)) :=
  [ nullary main_v39 (iotaInDim S512 32 0),
    unary main_v39 main_v40 (broadcastInDim S1x512 ![1] bcast_S512_S1x512_1),
    unary main_v38 main_v41 (broadcastInDim S288x1 ![0] bcast_S288_S288x1_0),
    unary main_v40 main_v42 (broadcastInDim S288x512 ![0, 1] bcast_S1x512_S288x512_0_1),
    unary main_v41 main_v43 (broadcastInDim S288x512 ![0, 1] bcast_S288x1_S288x512_0_1),
    binary main_v42 main_v43 main_v44 (cmpi .slt),
    nullary main_v45 (iotaInDim S288 32 0),
    unary main_v22 main_v46 (broadcastInDim S288 ![0] bcast_S1_S288_0),
    binary main_v45 main_v46 main_v47 (cmpi .slt),
    unary main_v44 main_v48 (broadcastInDim S288x512x1 ![0, 1] bcast_S288x512_S288x512x1_0_1),
    unary main_arg0 main_v49 (fun x => bitcastToFloat .bf16 (Host.bitcastConvertNarrow S147456x512x2 16 x splits_S147456x512_w32_S147456x512x2_w16)),
    unary main_v49 main_v50 (extf .f32 · bitsLt_bf16_f32),
    unary main_v50 main_v51 (extractStridedSlice S147456x512x1 ![0, 0, 1] · slices_S147456x512x2_S147456x512x1_0_0_1),
    reshape main_v51 main_v52 (rfl : (.f32 : EltTy) = .f32) shapeCasts_S147456x512x1_S147456x512,
    unary main_v50 main_v53 (extractStridedSlice S147456x512x1 ![0, 0, 0] · slices_S147456x512x2_S147456x512x1_0_0_0),
    reshape main_v53 main_v54 (rfl : (.f32 : EltTy) = .f32) shapeCasts_S147456x512x1_S147456x512,
    binary main_v52 main_v54 main_v55 (fun a b => concatenate S147456x1024 1 [⟨S147456x512, a⟩, ⟨S147456x512, b⟩] concatenates_S147456x512_S147456x512_S147456x1024_d1),
    reshape main_v55 main_v56 (rfl : (.f32 : EltTy) = .f32) shapeCasts_S147456x1024_S288x512x1024,
    nullary main_cst (constant S_ .f32 0x00000000#32),
    unary main_cst main_call3_v0 id,
    unary main_v48 main_call3_v1 (broadcastInDim S288x512x1024 ![0, 1, 2] bcast_S288x512x1_S288x512x1024_0_1_2),
    unary main_call3_v0 main_call3_v2 (broadcastInDim S288x512x1024 ![] bcast_S_S288x512x1024),
    ternary main_call3_v1 main_v56 main_call3_v2 main_v57 select ]

theorem opsB1_sub : (opsB1 : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., reshape_bufs_sub .., unary_bufs_sub .., reshape_bufs_sub .., binary_bufs_sub .., reshape_bufs_sub .., nullary_bufs_sub .., unary_bufs_sub .., unary_bufs_sub .., unary_bufs_sub .., ternary_bufs_sub ..⟩

/-- What it writes. -/
abbrev opsB1W : List (Ref sig .tc) :=
  [main_v39, main_v40, main_v41, main_v42, main_v43, main_v44, main_v45, main_v46, main_v47, main_v48, main_v49, main_v50, main_v51, main_v52, main_v53, main_v54, main_v55, main_v56, main_cst, main_call3_v0, main_call3_v1, main_call3_v2, main_v57]

theorem opsB1_kept (V : Valuation τ sig (Elt F)) {r : Ref sig .tc} (hr : r ∉ opsB1W) : after opsB1 V (Proc.devRef .tc r) = V (Proc.devRef .tc r) :=
  after_of_writes_sub opsB1 V (forall_writes_sub_of_map rfl) hr

/-- The first weights and their product. -/
abbrev opsB2 : List (HloOp τ sig (Elt F)) :=
  [ nullary main_c_11 (constantI S_ 32 0#32),
    nullary main_c_12 (constantI S_ 32 0#32),
    binary main_c_11 main_c_12 main_v58 (cmpi .slt),
    nullary main_c_13 (constantI S_ 32 0#32),
    nullary main_c_14 (constantI S_ 32 2#32),
    binary main_c_13 main_c_14 main_v59 addi,
    nullary main_c_15 (constantI S_ 32 0#32),
    ternary main_v58 main_v59 main_c_15 main_v60 select,
    nullary main_c_16 (constantI S_ 32 0#32),
    unary main_c_16 main_v61 (broadcastInDim S288 ![] bcast_S_S288),
    binary main_v20 main_v61 main_v62 (cmpi .slt),
    nullary main_c_17 (constantI S_ 32 32#32),
    unary main_c_17 main_v63 (broadcastInDim S288 ![] bcast_S_S288),
    binary main_v20 main_v63 main_v64 addi,
    ternary main_v62 main_v64 main_v20 main_v65 select,
    nullary main_c_18 (constantI S_ 32 0#32),
    nullary main_c_19 (constantI S_ 32 0#32),
    binary main_c_18 main_c_19 main_v66 (cmpi .slt),
    nullary main_c_20 (constantI S_ 32 0#32),
    nullary main_c_21 (constantI S_ 32 1024#32),
    binary main_c_20 main_c_21 main_v67 addi,
    nullary main_c_22 (constantI S_ 32 0#32),
    ternary main_v66 main_v67 main_c_22 main_v68 select,
    nullary main_c_23 (constantI S_ 32 0#32),
    nullary main_c_24 (constantI S_ 32 0#32),
    binary main_c_23 main_c_24 main_v69 (cmpi .slt),
    nullary main_c_25 (constantI S_ 32 0#32),
    nullary main_c_26 (constantI S_ 32 2048#32),
    binary main_c_25 main_c_26 main_v70 addi,
    nullary main_c_27 (constantI S_ 32 0#32),
    ternary main_v69 main_v70 main_c_27 main_v71 select,
    unary main_v60 main_v72 (broadcastInDim S288x1 ![] bcast_S_S288x1),
    unary main_v65 main_v73 (broadcastInDim S288x1 ![0] bcast_S288_S288x1_0),
    unary main_v68 main_v74 (broadcastInDim S288x1 ![] bcast_S_S288x1),
    unary main_v71 main_v75 (broadcastInDim S288x1 ![] bcast_S_S288x1),
    nary ![main_v72, main_v73, main_v74, main_v75] main_v76 (fun u => (concatenate S288x4 1 [⟨S288x1, (u 0 : (⟨S288x1, .i32⟩ : BufTy).Contents (Elt F))⟩, ⟨S288x1, (u 1 : (⟨S288x1, .i32⟩ : BufTy).Contents (Elt F))⟩, ⟨S288x1, (u 2 : (⟨S288x1, .i32⟩ : BufTy).Contents (Elt F))⟩, ⟨S288x1, (u 3 : (⟨S288x1, .i32⟩ : BufTy).Contents (Elt F))⟩] concatenates_S288x1_S288x1_S288x1_S288x1_S288x4_d1 : (⟨S288x4, .i32⟩ : BufTy).Contents (Elt F))),
    binary main_arg2 main_v76 main_v77 (fun x i => Host.gather gather_S2x32x1024x2048_S288x4_S288x1x1x1024x2048_1234_n_n_n_0123_1_1110242048 x i),
    reshape main_v77 main_v78 (rfl : (.f32 : EltTy) = .f32) shapeCasts_S288x1x1x1024x2048_S288x1024x2048,
    binary main_v57 main_v78 main_v79 (fun l r => Host.dotGeneral dot_S288x512x1024_S288x1024x2048_S288x512x2048_2_1_1_2_0_0 none l r) ]

theorem opsB2_sub : (opsB2 : List (HloOp τ sig (Elt F))).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., unary_bufs_sub .., binary_bufs_sub .., nullary_bufs_sub .., unary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unary_bufs_sub .., unary_bufs_sub .., unary_bufs_sub .., unary_bufs_sub .., nary_bufs_sub .., binary_bufs_sub .., reshape_bufs_sub .., binary_bufs_sub ..⟩

/-- What it writes. -/
abbrev opsB2W : List (Ref sig .tc) :=
  [main_c_11, main_c_12, main_v58, main_c_13, main_c_14, main_v59, main_c_15, main_v60, main_c_16, main_v61, main_v62, main_c_17, main_v63, main_v64, main_v65, main_c_18, main_c_19, main_v66, main_c_20, main_c_21, main_v67, main_c_22, main_v68, main_c_23, main_c_24, main_v69, main_c_25, main_c_26, main_v70, main_c_27, main_v71, main_v72, main_v73, main_v74, main_v75, main_v76, main_v77, main_v78, main_v79]

theorem opsB2_kept (V : Valuation τ sig (Elt F)) {r : Ref sig .tc} (hr : r ∉ opsB2W) : after opsB2 V (Proc.devRef .tc r) = V (Proc.devRef .tc r) :=
  after_of_writes_sub opsB2 V (forall_writes_sub_of_map rfl) hr

/-- The first biases. -/
abbrev opsB3 : List (HloOp τ sig (Elt F)) :=
  [ nullary main_c_28 (constantI S_ 32 0#32),
    nullary main_c_29 (constantI S_ 32 0#32),
    binary main_c_28 main_c_29 main_v80 (cmpi .slt),
    nullary main_c_30 (constantI S_ 32 0#32),
    nullary main_c_31 (constantI S_ 32 2#32),
    binary main_c_30 main_c_31 main_v81 addi,
    nullary main_c_32 (constantI S_ 32 0#32),
    ternary main_v80 main_v81 main_c_32 main_v82 select,
    nullary main_c_33 (constantI S_ 32 0#32),
    unary main_c_33 main_v83 (broadcastInDim S288 ![] bcast_S_S288),
    binary main_v20 main_v83 main_v84 (cmpi .slt),
    nullary main_c_34 (constantI S_ 32 32#32),
    unary main_c_34 main_v85 (broadcastInDim S288 ![] bcast_S_S288),
    binary main_v20 main_v85 main_v86 addi,
    ternary main_v84 main_v86 main_v20 main_v87 select,
    nullary main_c_35 (constantI S_ 32 0#32),
    nullary main_c_36 (constantI S_ 32 0#32),
    binary main_c_35 main_c_36 main_v88 (cmpi .slt),
    nullary main_c_37 (constantI S_ 32 0#32),
    nullary main_c_38 (constantI S_ 32 2048#32),
    binary main_c_37 main_c_38 main_v89 addi,
    nullary main_c_39 (constantI S_ 32 0#32),
    ternary main_v88 main_v89 main_c_39 main_v90 select,
    unary main_v82 main_v91 (broadcastInDim S288x1 ![] bcast_S_S288x1),
    unary main_v87 main_v92 (broadcastInDim S288x1 ![0] bcast_S288_S288x1_0),
    unary main_v90 main_v93 (broadcastInDim S288x1 ![] bcast_S_S288x1),
    nary ![main_v91, main_v92, main_v93] main_v94 (fun u => (concatenate S288x3 1 [⟨S288x1, (u 0 : (⟨S288x1, .i32⟩ : BufTy).Contents (Elt F))⟩, ⟨S288x1, (u 1 : (⟨S288x1, .i32⟩ : BufTy).Contents (Elt F))⟩, ⟨S288x1, (u 2 : (⟨S288x1, .i32⟩ : BufTy).Contents (Elt F))⟩] concatenates_S288x1_S288x1_S288x1_S288x3_d1 : (⟨S288x3, .i32⟩ : BufTy).Contents (Elt F))),
    binary main_arg3 main_v94 main_v95 (fun x i => Host.gather gather_S2x32x2048_S288x3_S288x1x1x2048_123_n_n_n_012_1_112048 x i),
    reshape main_v95 main_v96 (rfl : (.f32 : EltTy) = .f32) shapeCasts_S288x1x1x2048_S288x2048,
    unary main_v96 main_v97 (broadcastInDim S288x1x2048 ![0, 2] bcast_S288x2048_S288x1x2048_0_2),
    unary main_v97 main_v98 (broadcastInDim S288x512x2048 ![0, 1, 2] bcast_S288x1x2048_S288x512x2048_0_1_2),
    binary main_v79 main_v98 main_v99 addf ]

theorem opsB3_sub : (opsB3 : List (HloOp τ sig (Elt F))).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., unary_bufs_sub .., binary_bufs_sub .., nullary_bufs_sub .., unary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unary_bufs_sub .., unary_bufs_sub .., unary_bufs_sub .., nary_bufs_sub .., binary_bufs_sub .., reshape_bufs_sub .., unary_bufs_sub .., unary_bufs_sub .., binary_bufs_sub ..⟩

/-- What it writes. -/
abbrev opsB3W : List (Ref sig .tc) :=
  [main_c_28, main_c_29, main_v80, main_c_30, main_c_31, main_v81, main_c_32, main_v82, main_c_33, main_v83, main_v84, main_c_34, main_v85, main_v86, main_v87, main_c_35, main_c_36, main_v88, main_c_37, main_c_38, main_v89, main_c_39, main_v90, main_v91, main_v92, main_v93, main_v94, main_v95, main_v96, main_v97, main_v98, main_v99]

theorem opsB3_kept (V : Valuation τ sig (Elt F)) {r : Ref sig .tc} (hr : r ∉ opsB3W) : after opsB3 V (Proc.devRef .tc r) = V (Proc.devRef .tc r) :=
  after_of_writes_sub opsB3 V (forall_writes_sub_of_map rfl) hr

/-- The gate. -/
abbrev opsB4 : List (HloOp τ sig (Elt F)) :=
  [ unary main_v99 main_v100 (extractStridedSlice S288x512x1024 ![0, 0, 0] · slices_S288x512x2048_S288x512x1024_0_0_0),
    unary main_v99 main_v101 (extractStridedSlice S288x512x1024 ![0, 0, 1024] · slices_S288x512x2048_S288x512x1024_0_0_1024),
    nullary main_cst_40 (constant S_ .f32 0x40E00000#32),
    unary main_cst_40 main_v102 (broadcastInDim S288x512x1024 ![] bcast_S_S288x512x1024),
    binary main_v100 main_v102 main_v103 minimumf,
    nullary main_cst_41 (constant S_ .f32 0xC0E00000#32),
    nullary main_cst_42 (constant S_ .f32 0x40E00000#32),
    unary main_cst_41 main_call4_v0 id,
    unary main_call4_v0 main_call4_v1 (broadcastInDim S288x512x1024 ![] bcast_S_S288x512x1024),
    binary main_call4_v1 main_v101 main_call4_v2 maximumf,
    unary main_cst_42 main_call4_v3 id,
    unary main_call4_v3 main_call4_v4 (broadcastInDim S288x512x1024 ![] bcast_S_S288x512x1024),
    binary main_call4_v4 main_call4_v2 main_v104 minimumf,
    nullary main_cst_43 (constant S_ .f32 0x3FD9DB23#32),
    unary main_cst_43 main_v105 (broadcastInDim S288x512x1024 ![] bcast_S_S288x512x1024),
    binary main_v105 main_v103 main_v106 mulf,
    unary main_v106 main_v107 Host.negf,
    unary main_v107 main_v108 Host.exp,
    nullary main_cst_44 (constant S_ .f32 0x3F800000#32),
    unary main_cst_44 main_v109 (broadcastInDim S288x512x1024 ![] bcast_S_S288x512x1024),
    binary main_v109 main_v108 main_v110 addf,
    nullary main_cst_45 (constant S_ .f32 0x3F800000#32),
    unary main_cst_45 main_v111 (broadcastInDim S288x512x1024 ![] bcast_S_S288x512x1024),
    binary main_v111 main_v110 main_v112 Host.divf,
    binary main_v103 main_v112 main_v113 mulf,
    nullary main_cst_46 (constant S_ .f32 0x3F800000#32),
    unary main_cst_46 main_v114 (broadcastInDim S288x512x1024 ![] bcast_S_S288x512x1024),
    binary main_v104 main_v114 main_v115 addf,
    binary main_v113 main_v115 main_v116 mulf ]

theorem opsB4_sub : (opsB4 : List (HloOp τ sig (Elt F))).Forall fun op => op.bufs ⊆ tcRefs τ sig :=
  ⟨unary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

/-- What it writes. -/
abbrev opsB4W : List (Ref sig .tc) :=
  [main_v100, main_v101, main_cst_40, main_v102, main_v103, main_cst_41, main_cst_42, main_call4_v0, main_call4_v1, main_call4_v2, main_call4_v3, main_call4_v4, main_v104, main_cst_43, main_v105, main_v106, main_v107, main_v108, main_cst_44, main_v109, main_v110, main_cst_45, main_v111, main_v112, main_v113, main_cst_46, main_v114, main_v115, main_v116]

theorem opsB4_kept (V : Valuation τ sig (Elt F)) {r : Ref sig .tc} (hr : r ∉ opsB4W) : after opsB4 V (Proc.devRef .tc r) = V (Proc.devRef .tc r) :=
  after_of_writes_sub opsB4 V (forall_writes_sub_of_map rfl) hr

/-- The second weights and their product. -/
abbrev opsB5 : List (HloOp τ sig (Elt F)) :=
  [ nullary main_c_47 (constantI S_ 32 0#32),
    nullary main_c_48 (constantI S_ 32 0#32),
    binary main_c_47 main_c_48 main_v117 (cmpi .slt),
    nullary main_c_49 (constantI S_ 32 0#32),
    nullary main_c_50 (constantI S_ 32 2#32),
    binary main_c_49 main_c_50 main_v118 addi,
    nullary main_c_51 (constantI S_ 32 0#32),
    ternary main_v117 main_v118 main_c_51 main_v119 select,
    nullary main_c_52 (constantI S_ 32 0#32),
    unary main_c_52 main_v120 (broadcastInDim S288 ![] bcast_S_S288),
    binary main_v20 main_v120 main_v121 (cmpi .slt),
    nullary main_c_53 (constantI S_ 32 32#32),
    unary main_c_53 main_v122 (broadcastInDim S288 ![] bcast_S_S288),
    binary main_v20 main_v122 main_v123 addi,
    ternary main_v121 main_v123 main_v20 main_v124 select,
    nullary main_c_54 (constantI S_ 32 0#32),
    nullary main_c_55 (constantI S_ 32 0#32),
    binary main_c_54 main_c_55 main_v125 (cmpi .slt),
    nullary main_c_56 (constantI S_ 32 0#32),
    nullary main_c_57 (constantI S_ 32 1024#32),
    binary main_c_56 main_c_57 main_v126 addi,
    nullary main_c_58 (constantI S_ 32 0#32),
    ternary main_v125 main_v126 main_c_58 main_v127 select,
    nullary main_c_59 (constantI S_ 32 0#32),
    nullary main_c_60 (constantI S_ 32 0#32),
    binary main_c_59 main_c_60 main_v128 (cmpi .slt),
    nullary main_c_61 (constantI S_ 32 0#32),
    nullary main_c_62 (constantI S_ 32 1024#32),
    binary main_c_61 main_c_62 main_v129 addi,
    nullary main_c_63 (constantI S_ 32 0#32),
    ternary main_v128 main_v129 main_c_63 main_v130 select,
    unary main_v119 main_v131 (broadcastInDim S288x1 ![] bcast_S_S288x1),
    unary main_v124 main_v132 (broadcastInDim S288x1 ![0] bcast_S288_S288x1_0),
    unary main_v127 main_v133 (broadcastInDim S288x1 ![] bcast_S_S288x1),
    unary main_v130 main_v134 (broadcastInDim S288x1 ![] bcast_S_S288x1),
    nary ![main_v131, main_v132, main_v133, main_v134] main_v135 (fun u => (concatenate S288x4 1 [⟨S288x1, (u 0 : (⟨S288x1, .i32⟩ : BufTy).Contents (Elt F))⟩, ⟨S288x1, (u 1 : (⟨S288x1, .i32⟩ : BufTy).Contents (Elt F))⟩, ⟨S288x1, (u 2 : (⟨S288x1, .i32⟩ : BufTy).Contents (Elt F))⟩, ⟨S288x1, (u 3 : (⟨S288x1, .i32⟩ : BufTy).Contents (Elt F))⟩] concatenates_S288x1_S288x1_S288x1_S288x1_S288x4_d1 : (⟨S288x4, .i32⟩ : BufTy).Contents (Elt F))),
    binary main_arg4 main_v135 main_v136 (fun x i => Host.gather gather_S2x32x1024x1024_S288x4_S288x1x1x1024x1024_1234_n_n_n_0123_1_1110241024 x i),
    reshape main_v136 main_v137 (rfl : (.f32 : EltTy) = .f32) shapeCasts_S288x1x1x1024x1024_S288x1024x1024,
    binary main_v116 main_v137 main_v138 (fun l r => Host.dotGeneral dot_S288x512x1024_S288x1024x1024_S288x512x1024_2_1_1_2_0_0 none l r) ]

theorem opsB5_sub : (opsB5 : List (HloOp τ sig (Elt F))).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., unary_bufs_sub .., binary_bufs_sub .., nullary_bufs_sub .., unary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unary_bufs_sub .., unary_bufs_sub .., unary_bufs_sub .., unary_bufs_sub .., nary_bufs_sub .., binary_bufs_sub .., reshape_bufs_sub .., binary_bufs_sub ..⟩

/-- What it writes. -/
abbrev opsB5W : List (Ref sig .tc) :=
  [main_c_47, main_c_48, main_v117, main_c_49, main_c_50, main_v118, main_c_51, main_v119, main_c_52, main_v120, main_v121, main_c_53, main_v122, main_v123, main_v124, main_c_54, main_c_55, main_v125, main_c_56, main_c_57, main_v126, main_c_58, main_v127, main_c_59, main_c_60, main_v128, main_c_61, main_c_62, main_v129, main_c_63, main_v130, main_v131, main_v132, main_v133, main_v134, main_v135, main_v136, main_v137, main_v138]

theorem opsB5_kept (V : Valuation τ sig (Elt F)) {r : Ref sig .tc} (hr : r ∉ opsB5W) : after opsB5 V (Proc.devRef .tc r) = V (Proc.devRef .tc r) :=
  after_of_writes_sub opsB5 V (forall_writes_sub_of_map rfl) hr

/-- The second biases. -/
abbrev opsB6 : List (HloOp τ sig (Elt F)) :=
  [ nullary main_c_64 (constantI S_ 32 0#32),
    nullary main_c_65 (constantI S_ 32 0#32),
    binary main_c_64 main_c_65 main_v139 (cmpi .slt),
    nullary main_c_66 (constantI S_ 32 0#32),
    nullary main_c_67 (constantI S_ 32 2#32),
    binary main_c_66 main_c_67 main_v140 addi,
    nullary main_c_68 (constantI S_ 32 0#32),
    ternary main_v139 main_v140 main_c_68 main_v141 select,
    nullary main_c_69 (constantI S_ 32 0#32),
    unary main_c_69 main_v142 (broadcastInDim S288 ![] bcast_S_S288),
    binary main_v20 main_v142 main_v143 (cmpi .slt),
    nullary main_c_70 (constantI S_ 32 32#32),
    unary main_c_70 main_v144 (broadcastInDim S288 ![] bcast_S_S288),
    binary main_v20 main_v144 main_v145 addi,
    ternary main_v143 main_v145 main_v20 main_v146 select,
    nullary main_c_71 (constantI S_ 32 0#32),
    nullary main_c_72 (constantI S_ 32 0#32),
    binary main_c_71 main_c_72 main_v147 (cmpi .slt),
    nullary main_c_73 (constantI S_ 32 0#32),
    nullary main_c_74 (constantI S_ 32 1024#32),
    binary main_c_73 main_c_74 main_v148 addi,
    nullary main_c_75 (constantI S_ 32 0#32),
    ternary main_v147 main_v148 main_c_75 main_v149 select,
    unary main_v141 main_v150 (broadcastInDim S288x1 ![] bcast_S_S288x1),
    unary main_v146 main_v151 (broadcastInDim S288x1 ![0] bcast_S288_S288x1_0),
    unary main_v149 main_v152 (broadcastInDim S288x1 ![] bcast_S_S288x1),
    nary ![main_v150, main_v151, main_v152] main_v153 (fun u => (concatenate S288x3 1 [⟨S288x1, (u 0 : (⟨S288x1, .i32⟩ : BufTy).Contents (Elt F))⟩, ⟨S288x1, (u 1 : (⟨S288x1, .i32⟩ : BufTy).Contents (Elt F))⟩, ⟨S288x1, (u 2 : (⟨S288x1, .i32⟩ : BufTy).Contents (Elt F))⟩] concatenates_S288x1_S288x1_S288x1_S288x3_d1 : (⟨S288x3, .i32⟩ : BufTy).Contents (Elt F))),
    binary main_arg5 main_v153 main_v154 (fun x i => Host.gather gather_S2x32x1024_S288x3_S288x1x1x1024_123_n_n_n_012_1_111024 x i),
    reshape main_v154 main_v155 (rfl : (.f32 : EltTy) = .f32) shapeCasts_S288x1x1x1024_S288x1024,
    unary main_v155 main_v156 (broadcastInDim S288x1x1024 ![0, 2] bcast_S288x1024_S288x1x1024_0_2),
    unary main_v156 main_v157 (broadcastInDim S288x512x1024 ![0, 1, 2] bcast_S288x1x1024_S288x512x1024_0_1_2),
    binary main_v138 main_v157 main_v158 addf ]

theorem opsB6_sub : (opsB6 : List (HloOp τ sig (Elt F))).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., unary_bufs_sub .., binary_bufs_sub .., nullary_bufs_sub .., unary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unary_bufs_sub .., unary_bufs_sub .., unary_bufs_sub .., nary_bufs_sub .., binary_bufs_sub .., reshape_bufs_sub .., unary_bufs_sub .., unary_bufs_sub .., binary_bufs_sub ..⟩

/-- What it writes. -/
abbrev opsB6W : List (Ref sig .tc) :=
  [main_c_64, main_c_65, main_v139, main_c_66, main_c_67, main_v140, main_c_68, main_v141, main_c_69, main_v142, main_v143, main_c_70, main_v144, main_v145, main_v146, main_c_71, main_c_72, main_v147, main_c_73, main_c_74, main_v148, main_c_75, main_v149, main_v150, main_v151, main_v152, main_v153, main_v154, main_v155, main_v156, main_v157, main_v158]

theorem opsB6_kept (V : Valuation τ sig (Elt F)) {r : Ref sig .tc} (hr : r ∉ opsB6W) : after opsB6 V (Proc.devRef .tc r) = V (Proc.devRef .tc r) :=
  after_of_writes_sub opsB6 V (forall_writes_sub_of_map rfl) hr

/-- The used blocks' rows, rounded. -/
abbrev opsB7 : List (HloOp τ sig (Elt F)) :=
  [ unary main_v47 main_v159 (broadcastInDim S288x1x1 ![0] bcast_S288_S288x1x1_0),
    nullary main_cst_76 (constant S_ .f32 0x00000000#32),
    unary main_cst_76 main_call5_v0 id,
    unary main_v159 main_call5_v1 (broadcastInDim S288x512x1024 ![0, 1, 2] bcast_S288x1x1_S288x512x1024_0_1_2),
    unary main_call5_v0 main_call5_v2 (broadcastInDim S288x512x1024 ![] bcast_S_S288x512x1024),
    ternary main_call5_v1 main_v158 main_call5_v2 main_v160 select,
    reshape main_v160 main_v161 (rfl : (.f32 : EltTy) = .f32) shapeCasts_S288x512x1024_S147456x1024,
    unary main_v161 main_v162 (truncf .bf16 · bitsLt_bf16_f32) ]

theorem opsB7_sub : (opsB7 : List (HloOp τ sig (Elt F))).Forall fun op => op.bufs ⊆ tcRefs τ sig :=
  ⟨unary_bufs_sub .., nullary_bufs_sub .., unary_bufs_sub .., unary_bufs_sub .., unary_bufs_sub .., ternary_bufs_sub .., reshape_bufs_sub .., unary_bufs_sub ..⟩

/-- What it writes. -/
abbrev opsB7W : List (Ref sig .tc) :=
  [main_v159, main_cst_76, main_call5_v0, main_call5_v1, main_call5_v2, main_v160, main_v161, main_v162]

theorem opsB7_kept (V : Valuation τ sig (Elt F)) {r : Ref sig .tc} (hr : r ∉ opsB7W) : after opsB7 V (Proc.devRef .tc r) = V (Proc.devRef .tc r) :=
  after_of_writes_sub opsB7 V (forall_writes_sub_of_map rfl) hr

/-- The whole line. -/
abbrev ops : List (HloOp τ sig (Elt F)) := opsA ++ (opsB1 ++ (opsB2 ++ (opsB3 ++ (opsB4 ++ (opsB5 ++ (opsB6 ++ (opsB7)))))))

theorem main_seqK (c : Dev nD) : main (F := F) c = seqK ops (pure ⟨⟩) := by
  chain_rfl

theorem main_eq (c : Dev nD) : main (F := F) c = seq ops := by
  rw [main_seqK, ← seq_bind_seqK]
  exact bind_pure _

theorem ops_sub : (ops : List (HloOp τ sig (Elt F))).Forall fun op => op.bufs ⊆ tcRefs τ sig :=
  List.forall_append.2 ⟨opsA_sub, List.forall_append.2 ⟨opsB1_sub, List.forall_append.2 ⟨opsB2_sub, List.forall_append.2 ⟨opsB3_sub, List.forall_append.2 ⟨opsB4_sub, List.forall_append.2 ⟨opsB5_sub, List.forall_append.2 ⟨opsB6_sub, opsB7_sub⟩⟩⟩⟩⟩⟩⟩

end Cert.Proof.Plain

end
-- ==== Proof.ExpRun2.lean ====
/-
  What the experts' reference leaves: its look-ups, and its result as a term of them and the arguments.
-/
module

public import proofs.«01_k».proof.Proof.ExpRef

@[expose] public section

set_option maxRecDepth 16384

noncomputable section

namespace Cert.Proof.Plain

open Cert.Reference2Ideal Cert.Reference2Ideal.Gen
open Idealize.ShloMosaic Idealize.ShloMosaic.TcCoe Idealize.ShloMosaic.StableHlo Idealize.SL.Sem

/-- A position of zero, as it is looked up along an axis of `k`. -/
abbrev nil (k : BitVec 32) : IVec S_ 32 :=
  select (cmpi .slt (constantI S_ 32 0#32) (constantI S_ 32 0#32)) (addi (constantI S_ 32 0#32) (constantI S_ 32 k)) (constantI S_ 32 0#32)

/-- The experts' numbers, as they are looked up along an axis of 32. -/
abbrev norm (e : IVec S288 32) : IVec S288 32 :=
  select (cmpi .slt e (broadcastInDim S288 ![] bcast_S_S288 (constantI S_ 32 0#32))) (addi e (broadcastInDim S288 ![] bcast_S_S288 (constantI S_ 32 32#32))) e

/-- The places of the blocks' weights, and of their biases. -/
def at4 (k l : BitVec 32) (e : IVec S288 32) : IVec S288x4 32 :=
  concatenate S288x4 1 [⟨S288x1, broadcastInDim S288x1 ![] bcast_S_S288x1 (nil 2#32)⟩, ⟨S288x1, broadcastInDim S288x1 ![0] bcast_S288_S288x1_0 (norm e)⟩,
    ⟨S288x1, broadcastInDim S288x1 ![] bcast_S_S288x1 (nil k)⟩, ⟨S288x1, broadcastInDim S288x1 ![] bcast_S_S288x1 (nil l)⟩] concatenates_S288x1_S288x1_S288x1_S288x1_S288x4_d1
def at3 (k : BitVec 32) (e : IVec S288 32) : IVec S288x3 32 :=
  concatenate S288x3 1 [⟨S288x1, broadcastInDim S288x1 ![] bcast_S_S288x1 (nil 2#32)⟩, ⟨S288x1, broadcastInDim S288x1 ![0] bcast_S288_S288x1_0 (norm e)⟩,
    ⟨S288x1, broadcastInDim S288x1 ![] bcast_S_S288x1 (nil k)⟩] concatenates_S288x1_S288x1_S288x1_S288x3_d1

variable {F : FTy → Type} [FloatOps F]

/-- The rows that words of two values hold: the high halves', then the low halves'. -/
def rowsOf (x : IVec S147456x512 32) : FVec F S147456x1024 .f32 :=
  concatenate S147456x1024 1 [
    ⟨S147456x512, (shapeCast _ (extractStridedSlice S147456x512x1 ![0, 0, 1] (extf .f32 (bitcastToFloat (F := F) .bf16
      (Host.bitcastConvertNarrow S147456x512x2 16 x splits_S147456x512_w32_S147456x512x2_w16)) bitsLt_bf16_f32) slices_S147456x512x2_S147456x512x1_0_0_1) shapeCasts_S147456x512x1_S147456x512)⟩,
    ⟨S147456x512, (shapeCast _ (extractStridedSlice S147456x512x1 ![0, 0, 0] (extf .f32 (bitcastToFloat (F := F) .bf16
      (Host.bitcastConvertNarrow S147456x512x2 16 x splits_S147456x512_w32_S147456x512x2_w16)) bitsLt_bf16_f32) slices_S147456x512x2_S147456x512x1_0_0_0) shapeCasts_S147456x512x1_S147456x512)⟩]
    concatenates_S147456x512_S147456x512_S147456x1024_d1

/-- The blocks' rows, those past the filled ones zero. -/
def xOf (x : IVec S147456x512 32) (l : IVec S288 32) : FVec F S288x512x1024 .f32 :=
  select (broadcastInDim S288x512x1024 ![0, 1, 2] bcast_S288x512x1_S288x512x1024_0_1_2 (broadcastInDim S288x512x1 ![0, 1] bcast_S288x512_S288x512x1_0_1
      (cmpi .slt (broadcastInDim S288x512 ![0, 1] bcast_S1x512_S288x512_0_1 (broadcastInDim S1x512 ![1] bcast_S512_S1x512_1 (iotaInDim S512 32 0)))
        (broadcastInDim S288x512 ![0, 1] bcast_S288x1_S288x512_0_1 (broadcastInDim S288x1 ![0] bcast_S288_S288x1_0 l)))))
    (shapeCast S288x512x1024 (rowsOf x) shapeCasts_S147456x1024_S288x512x1024)
    (broadcastInDim S288x512x1024 ![] bcast_S_S288x512x1024 (constant S_ .f32 0x00000000#32))

/-- Whether a block is used. -/
def usedOf (n : IVec S1 32) : IVec S288 1 := cmpi .slt (iotaInDim S288 32 0) (broadcastInDim S288 ![0] bcast_S1_S288_0 n)

/-- The blocks' weights and biases. -/
def w1Of (w : FVec F S2x32x1024x2048 .f32) (e : IVec S288 32) : FVec F S288x1024x2048 .f32 :=
  shapeCast S288x1024x2048 (Host.gather gather_S2x32x1024x2048_S288x4_S288x1x1x1024x2048_1234_n_n_n_0123_1_1110242048 w (at4 1024#32 2048#32 e)) shapeCasts_S288x1x1x1024x2048_S288x1024x2048
def b1Of (b : FVec F S2x32x2048 .f32) (e : IVec S288 32) : FVec F S288x2048 .f32 :=
  shapeCast S288x2048 (Host.gather gather_S2x32x2048_S288x3_S288x1x1x2048_123_n_n_n_012_1_112048 b (at3 2048#32 e)) shapeCasts_S288x1x1x2048_S288x2048
def w2Of (w : FVec F S2x32x1024x1024 .f32) (e : IVec S288 32) : FVec F S288x1024x1024 .f32 :=
  shapeCast S288x1024x1024 (Host.gather gather_S2x32x1024x1024_S288x4_S288x1x1x1024x1024_1234_n_n_n_0123_1_1110241024 w (at4 1024#32 1024#32 e)) shapeCasts_S288x1x1x1024x1024_S288x1024x1024
def b2Of (b : FVec F S2x32x1024 .f32) (e : IVec S288 32) : FVec F S288x1024 .f32 :=
  shapeCast S288x1024 (Host.gather gather_S2x32x1024_S288x3_S288x1x1x1024_123_n_n_n_012_1_111024 b (at3 1024#32 e)) shapeCasts_S288x1x1x1024_S288x1024

/-- A number at every element. -/
abbrev num (k : BitVec 32) : FVec F S288x512x1024 .f32 := broadcastInDim S288x512x1024 ![] bcast_S_S288x512x1024 (constant S_ .f32 k)

/-- The gate of the two halves. -/
def gateOf (h : FVec F S288x512x2048 .f32) : FVec F S288x512x1024 .f32 :=
  mulf (mulf (minimumf (extractStridedSlice S288x512x1024 ![0, 0, 0] h slices_S288x512x2048_S288x512x1024_0_0_0) (num 0x40E00000#32))
      (Host.divf (num 0x3F800000#32) (addf (num 0x3F800000#32) (Host.exp (Host.negf (mulf (num 0x3FD9DB23#32)
        (minimumf (extractStridedSlice S288x512x1024 ![0, 0, 0] h slices_S288x512x2048_S288x512x1024_0_0_0) (num 0x40E00000#32))))))))
    (addf (minimumf (num 0x40E00000#32) (maximumf (num 0xC0E00000#32) (extractStridedSlice S288x512x1024 ![0, 0, 1024] h slices_S288x512x2048_S288x512x1024_0_0_1024))) (num 0x3F800000#32))

/-- The two layers, each with its bias. -/
def hOf (x : FVec F S288x512x1024 .f32) (w : FVec F S288x1024x2048 .f32) (b : FVec F S288x2048 .f32) : FVec F S288x512x2048 .f32 :=
  addf (Host.dotGeneral dot_S288x512x1024_S288x1024x2048_S288x512x2048_2_1_1_2_0_0 none x w)
    (broadcastInDim S288x512x2048 ![0, 1, 2] bcast_S288x1x2048_S288x512x2048_0_1_2 (broadcastInDim S288x1x2048 ![0, 2] bcast_S288x2048_S288x1x2048_0_2 b))
def yOf (x : FVec F S288x512x1024 .f32) (w : FVec F S288x1024x1024 .f32) (b : FVec F S288x1024 .f32) : FVec F S288x512x1024 .f32 :=
  addf (Host.dotGeneral dot_S288x512x1024_S288x1024x1024_S288x512x1024_2_1_1_2_0_0 none x w)
    (broadcastInDim S288x512x1024 ![0, 1, 2] bcast_S288x1x1024_S288x512x1024_0_1_2 (broadcastInDim S288x1x1024 ![0, 2] bcast_S288x1024_S288x1x1024_0_2 b))

/-- The used blocks' rows, the others zero, in one array. -/
def lastOf (u : IVec S288 1) (y : FVec F S288x512x1024 .f32) : FVec F S147456x1024 .bf16 :=
  truncf .bf16 (shapeCast S147456x1024 (select (broadcastInDim S288x512x1024 ![0, 1, 2] bcast_S288x1x1_S288x512x1024_0_1_2 (broadcastInDim S288x1x1 ![0] bcast_S288_S288x1x1_0 u))
    y (num 0x00000000#32)) shapeCasts_S288x512x1024_S147456x1024) bitsLt_bf16_f32

variable (V : Valuation τ sig (Elt F))

theorem be_at : after opsA V (main_v20 : DevRef τ sig) = Experts.beOf (V (main_arg1 : DevRef τ sig)) := by
  after_results_simp
  simp only [Experts.beOf, Experts.padEnd, Experts.padded, Experts.floorDiv, Experts.starts, id]
theorem nu_at : after opsA V (main_v22 : DevRef τ sig) = Experts.nuOf (V (main_arg1 : DevRef τ sig)) := by
  after_results_simp
  simp only [Experts.nuOf, Experts.padEnd, Experts.padded, Experts.floorDiv, id]
theorem left_at : after opsA V (main_v38 : DevRef τ sig) = Experts.leftOf (V (main_arg1 : DevRef τ sig)) := by
  after_results_simp
  simp only [Experts.leftOf, Experts.colOf, Experts.beOf, Experts.padEnd, Experts.padded, Experts.floorDiv, Experts.starts, id]
  rfl
theorem x_at : after opsB1 V (main_v57 : DevRef τ sig) = xOf (V (main_arg0 : DevRef τ sig)) (V (main_v38 : DevRef τ sig)) := by
  after_results_simp
  rfl
theorem used_at : after opsB1 V (main_v47 : DevRef τ sig) = usedOf (V (main_v22 : DevRef τ sig)) := by
  after_results_simp
  rfl
theorem p1_at : after opsB2 V (main_v79 : DevRef τ sig)
    = Host.dotGeneral dot_S288x512x1024_S288x1024x2048_S288x512x2048_2_1_1_2_0_0 none (V (main_v57 : DevRef τ sig)) (w1Of (V (main_arg2 : DevRef τ sig)) (V (main_v20 : DevRef τ sig))) := by
  after_results_simp
  rfl
theorem h_at : after opsB3 V (main_v99 : DevRef τ sig)
    = addf (V (main_v79 : DevRef τ sig) : FVec F S288x512x2048 .f32) (broadcastInDim S288x512x2048 ![0, 1, 2] bcast_S288x1x2048_S288x512x2048_0_1_2 (broadcastInDim S288x1x2048 ![0, 2] bcast_S288x2048_S288x1x2048_0_2
        (b1Of (V (main_arg3 : DevRef τ sig)) (V (main_v20 : DevRef τ sig))))) := by
  after_results_simp
  rfl
theorem gate_at : after opsB4 V (main_v116 : DevRef τ sig) = gateOf (V (main_v99 : DevRef τ sig)) := by
  after_results_simp
  rfl
theorem p2_at : after opsB5 V (main_v138 : DevRef τ sig)
    = Host.dotGeneral dot_S288x512x1024_S288x1024x1024_S288x512x1024_2_1_1_2_0_0 none (V (main_v116 : DevRef τ sig)) (w2Of (V (main_arg4 : DevRef τ sig)) (V (main_v20 : DevRef τ sig))) := by
  after_results_simp
  rfl
theorem y_at : after opsB6 V (main_v158 : DevRef τ sig)
    = addf (V (main_v138 : DevRef τ sig) : FVec F S288x512x1024 .f32) (broadcastInDim S288x512x1024 ![0, 1, 2] bcast_S288x1x1024_S288x512x1024_0_1_2 (broadcastInDim S288x1x1024 ![0, 2] bcast_S288x1024_S288x1x1024_0_2
        (b2Of (V (main_arg5 : DevRef τ sig)) (V (main_v20 : DevRef τ sig))))) := by
  after_results_simp
  rfl
theorem last_at : after opsB7 V (main_v162 : DevRef τ sig) = lastOf (V (main_v47 : DevRef τ sig)) (V (main_v158 : DevRef τ sig)) := by
  after_results_simp
  rfl

/-- The result, of the arguments. -/
def out (x : IVec S147456x512 32) (n : IVec S32 32) (w1 : FVec F S2x32x1024x2048 .f32) (b1 : FVec F S2x32x2048 .f32)
    (w2 : FVec F S2x32x1024x1024 .f32) (b2 : FVec F S2x32x1024 .f32) : FVec F S147456x1024 .bf16 :=
  lastOf (usedOf (Experts.nuOf n)) (yOf (gateOf (hOf (xOf x (Experts.leftOf n)) (w1Of w1 (Experts.beOf n)) (b1Of b1 (Experts.beOf n))))
    (w2Of w2 (Experts.beOf n)) (b2Of b2 (Experts.beOf n)))

theorem kept {r : Ref sig .tc} (h0 : r ∉ opsAW) (h1 : r ∉ opsB1W) (h2 : r ∉ opsB2W) (h3 : r ∉ opsB3W) (h4 : r ∉ opsB4W) (h5 : r ∉ opsB5W)
    (h6 : r ∉ opsB6W) (h7 : r ∉ opsB7W) : after ops V (Proc.devRef .tc r) = V (Proc.devRef .tc r) := by
  unfold ops
  rw [after_append, after_append, after_append, after_append, after_append, after_append, after_append, opsB7_kept _ h7, opsB6_kept _ h6, opsB5_kept _ h5,
    opsB4_kept _ h4, opsB3_kept _ h3, opsB2_kept _ h2, opsB1_kept _ h1, opsA_kept _ h0]

theorem out_at : after ops V (main_v162 : DevRef τ sig)
    = out (V (main_arg0 : DevRef τ sig)) (V (main_arg1 : DevRef τ sig)) (V (main_arg2 : DevRef τ sig)) (V (main_arg3 : DevRef τ sig))
        (V (main_arg4 : DevRef τ sig)) (V (main_arg5 : DevRef τ sig)) := by
  unfold ops
  rw [after_append, after_append, after_append, after_append, after_append, after_append, after_append, last_at, y_at, p2_at, gate_at, h_at, p1_at, x_at]
  rw [opsB6_kept _ (r := main_v47) (by decide), opsB5_kept _ (r := main_v47) (by decide), opsB4_kept _ (r := main_v47) (by decide),
    opsB3_kept _ (r := main_v47) (by decide), opsB2_kept _ (r := main_v47) (by decide), used_at, nu_at, left_at]
  rw [opsB5_kept _ (r := main_v20) (by decide), opsB5_kept _ (r := main_arg5) (by decide)]
  rw [opsB4_kept _ (r := main_v20) (by decide), opsB4_kept _ (r := main_arg5) (by decide), opsB4_kept _ (r := main_arg4) (by decide)]
  rw [opsB3_kept _ (r := main_v20) (by decide), opsB3_kept _ (r := main_arg5) (by decide), opsB3_kept _ (r := main_arg4) (by decide)]
  rw [opsB2_kept _ (r := main_v20) (by decide), opsB2_kept _ (r := main_arg5) (by decide), opsB2_kept _ (r := main_arg4) (by decide), opsB2_kept _ (r := main_arg3) (by decide)]
  rw [opsB1_kept _ (r := main_v20) (by decide), opsB1_kept _ (r := main_arg5) (by decide), opsB1_kept _ (r := main_arg4) (by decide), opsB1_kept _ (r := main_arg3) (by decide),
    opsB1_kept _ (r := main_arg2) (by decide)]
  rw [be_at, opsA_kept _ (r := main_arg5) (by decide), opsA_kept _ (r := main_arg4) (by decide), opsA_kept _ (r := main_arg3) (by decide), opsA_kept _ (r := main_arg2) (by decide),
    opsA_kept _ (r := main_arg0) (by decide)]
  rfl

variable (m : (ℓ : Loc nD τ sig) → Buf (Elt F) ℓ) (ρ : Dev nD → PrngReg)

theorem run_main : θ_run (defs (F := F)) (onTc (τ := τ) (main (F := F))) ⟨m, fun _ => 0, ρ⟩ fun r =>
    (∀ c : Dev nD, r.2.mem ((c.tc : Thread nD τ).loc main_v162)
        = out (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 :=
  (θ_run defs _ _).mono
    (fun r h => ⟨fun c => ⟨(h c main_v162).trans (out_at _),
        (h c main_arg0).trans (kept _ (r := main_arg0) (by decide) (by decide) (by decide) (by decide) (by decide) (by decide) (by decide) (by decide)),
        (h c main_arg1).trans (kept _ (r := main_arg1) (by decide) (by decide) (by decide) (by decide) (by decide) (by decide) (by decide) (by decide)),
        (h c main_arg2).trans (kept _ (r := main_arg2) (by decide) (by decide) (by decide) (by decide) (by decide) (by decide) (by decide) (by decide)),
        (h c main_arg3).trans (kept _ (r := main_arg3) (by decide) (by decide) (by decide) (by decide) (by decide) (by decide) (by decide) (by decide)),
        (h c main_arg4).trans (kept _ (r := main_arg4) (by decide) (by decide) (by decide) (by decide) (by decide) (by decide) (by decide) (by decide)),
        (h c main_arg5).trans (kept _ (r := main_arg5) (by decide) (by decide) (by decide) (by decide) (by decide) (by decide) (by decide) (by decide))⟩,
      Idealize.ShloMosaic.sem_eq_zero_of_no_sems (by decide) r.2⟩)
    (run_seq (by decide) (by decide) defs main (fun _ => ops) main_eq (fun _ => ops_sub) m ρ)

end Cert.Proof.Plain

end
-- ==== Proof.ExpValue.lean ====
/-
  What the experts' call computes at the ideal instance, element by element.
-/
module

public import proofs.«01_k».proof.Proof.ExpLaunch
public import proofs.«01_k».proof.Proof.ExpRun2
public import proofs.«01_k».proof.Proof.Pairs
public import Idealize.ShloMosaic.Lib.BitcastConvert
public import Idealize.ShloMosaic.Lib.Pipeline.ValueKit
public import Idealize.ShloMosaic.Lib.Pointwise

@[expose] public section

set_option maxRecDepth 16384

noncomputable section

namespace Cert.Proof.Same

open Cert.Kernel2Ideal Cert.Kernel2Ideal.Gen
open Idealize.ShloMosaic Idealize.ShloMosaic.TcCoe

/-- A block's rows, of its words: the words past the count are zero. -/
def xBlk (v : BitVec 32) (x0 : IVec S512x512 32) : FVec Ideal S512x1024 .bf16 :=
  truncf .bf16 (concatenate S512x1024 1 [
    ⟨S512x512, (bitcastToFloat .f32 (andi (select (cmpi .slt (iota .tc S512x512 32 [0] iota_S512x512_d0_w32) (broadcast S512x512 v)) x0 (broadcast S512x512 0#32))
      (broadcast S512x512 4294901760#32)) : FVec Ideal S512x512 .f32)⟩,
    ⟨S512x512, (bitcastToFloat .f32 (shli (select (cmpi .slt (iota .tc S512x512 32 [0] iota_S512x512_d0_w32) (broadcast S512x512 v)) x0 (broadcast S512x512 0#32))
      (broadcast S512x512 16#32)) : FVec Ideal S512x512 .f32)⟩] concatenates_S512x512_S512x512_S512x1024_d1) bitsLt_bf16_f32

/-- A block's rows times the first weights, plus the bias. -/
def hBlk (x : FVec Ideal S512x1024 .bf16) (w : FVec Ideal S1024x2048 .bf16) (b : FVec Ideal S1x1x1x2048 .f32) : FVec Ideal S512x2048 .f32 :=
  addf (matmul dot_S512x1024_S1024x2048_S512x2048_1_0_0_1_n_n none x w (constant S512x2048 .f32 0x00000000#32))
    (broadcastTo S512x2048 (shapeCast S1x2048 b shapeCasts_S1x1x1x2048_S1x2048) broadcasts_S1x2048_S512x2048)

theorem pay5_eq (v : BitVec 32) (x0 : IVec S512x512 32) (w : FVec Ideal S1024x2048 .bf16) (b : FVec Ideal S1x1x1x2048 .f32) :
    k0_pay5 (F := Ideal) v x0 w b = hBlk (xBlk v x0) w b := rfl

/-- Which word a half is of. -/
theorem word_of (p : Fin 147456) (k : Fin 512) (e : Fin 2) :
    Cert.Reference2Ideal.Gen.splits_S147456x512_w32_S147456x512x2_w16.drop (ix3 p k e) = ix2 p k :=
  funext fun x => match x with
    | ⟨0, _⟩ => rfl
    | ⟨1, _⟩ => rfl

/-- The word zero holds two zeros. -/
theorem zero_high : Ideal.ofBits .f32 (IntOp.andi 0#32 4294901760#32) = 0 :=
  (congrArg (Ideal.ofBits .f32) (by decide : IntOp.andi 0#32 4294901760#32 = 0#32)).trans (Ideal.ofBits_zero .f32)
theorem zero_low : Ideal.ofBits .f32 (IntOp.shli ArithUnit.vector 0#32 16#32) = 0 :=
  (congrArg (Ideal.ofBits .f32) (by decide : IntOp.shli ArithUnit.vector 0#32 16#32 = 0#32)).trans (Ideal.ofBits_zero .f32)

/-- A block's rows are the reference's, where the words are. -/
theorem x_eq (v : BitVec 32) (x0 : IVec S512x512 32) (X : IVec Cert.Reference2Ideal.S147456x512 32) (l : IVec Cert.Reference2Ideal.S288 32) (i : Fin 288)
    (hl : ∀ r : Fin 512, IntOp.cmpi .slt (BitVec.ofNat 32 r.val) v = IntOp.cmpi .slt (BitVec.ofNat 32 r.val) (l (ix1 i)))
    (hx : ∀ (r : Fin 512) (k : Fin 512), x0 (ix2 r k) = X (ix2 ⟨i.val * 512 + r.val, by omega⟩ k)) (r : Fin 512) (j : Fin 1024) :
    xBlk v x0 (ix2 r j) = Plain.xOf (F := Ideal) X l (ix3 i r j) := by
  have hj := j.isLt
  pointwise [xBlk, Plain.xOf, Plain.rowsOf]
  rw [hl]
  generalize IntOp.cmpi .slt (BitVec.ofNat 32 r.val) (l (ix1 i)) = g
  unfold Scalar.select
  by_cases hg : g = 1
  · simp only [if_pos hg]
    by_cases hk : j.val < 512
    · rw [dif_pos hk, dif_pos hk, hx]
      exact (Pairs.high _).trans (congrArg (fun i => Ideal.ofBits .bf16 (BitVec.extractLsb' 16 16 (X i))) (word_of _ _ _).symm)
    · rw [dif_neg hk, dif_neg hk, hx]
      exact (Pairs.low _).trans (congrArg (fun i => Ideal.ofBits .bf16 (BitVec.extractLsb' 0 16 (X i))) (word_of _ _ _).symm)
  · simp only [if_neg hg]
    by_cases hk : j.val < 512
    · rw [dif_pos hk]; exact zero_high
    · rw [dif_neg hk]; exact zero_low

/-- A block's rows as the call computes them and as the reference does, over the same rows, weights and biases. -/
theorem block_eq (v : BitVec 32) (x0 : IVec S512x512 32) (x1 : FVec Ideal S1x1x1024x2048 .f32) (x2 : FVec Ideal S1x1x1x2048 .f32)
    (x3 : FVec Ideal S1x1x1024x1024 .f32) (x4 : FVec Ideal S1x1x1x1024 .f32)
    (X : IVec Cert.Reference2Ideal.S147456x512 32) (l : IVec Cert.Reference2Ideal.S288 32) (w1 : FVec Ideal Cert.Reference2Ideal.S288x1024x2048 .f32)
    (b1 : FVec Ideal Cert.Reference2Ideal.S288x2048 .f32) (w2 : FVec Ideal Cert.Reference2Ideal.S288x1024x1024 .f32) (b2 : FVec Ideal Cert.Reference2Ideal.S288x1024 .f32)
    (i : Fin 288) (hl : ∀ r : Fin 512, IntOp.cmpi .slt (BitVec.ofNat 32 r.val) v = IntOp.cmpi .slt (BitVec.ofNat 32 r.val) (l (ix1 i)))
    (hx : ∀ (r : Fin 512) (k : Fin 512), x0 (ix2 r k) = X (ix2 ⟨i.val * 512 + r.val, by omega⟩ k))
    (h1 : ∀ (k : Fin 1024) (j : Fin 2048), x1 (ix4 0 0 k j) = w1 (ix3 i k j)) (hb1 : ∀ j : Fin 2048, x2 (ix4 0 0 0 j) = b1 (ix2 i j))
    (h2 : ∀ (k : Fin 1024) (j : Fin 1024), x3 (ix4 0 0 k j) = w2 (ix3 i k j)) (hb2 : ∀ j : Fin 1024, x4 (ix4 0 0 0 j) = b2 (ix2 i j))
    (r : Fin 512) (j : Fin 1024) :
    k0_pay3 (k0_pay6 (F := Ideal) v x0 (k0_pay1 (F := Ideal) x1) x2) (k0_pay7 (F := Ideal) v x0 (k0_pay1 (F := Ideal) x1) x2)
        (Scalar.ofBits .f32 0x3F800000#32) (k0_pay2 (F := Ideal) x3) x4 (ix2 r j)
      = Plain.yOf (Plain.gateOf (Plain.hOf (Plain.xOf X l) w1 b1)) w2 b2 (ix3 i r j) := by
  have rows := x_eq v x0 X l i hl hx
  unfold k0_pay6 k0_pay7
  rw [pay5_eq]
  generalize xBlk v x0 = xs at rows ⊢
  generalize Plain.xOf (F := Ideal) X l = ys at rows ⊢
  pointwise [k0_pay1, k0_pay2, k0_pay3, hBlk, Plain.yOf, Plain.gateOf, Plain.hOf]
  simp only [rows, h1, hb1, h2, hb2, zero_sub]

theorem last_at (u : IVec Cert.Reference2Ideal.S288 1) (y : FVec Ideal Cert.Reference2Ideal.S288x512x1024 .f32) (i : Fin 288) (r : Fin 512) (j : Fin 1024) :
   Plain.lastOf u y (ix2 ⟨i.val * 512 + r.val, by omega⟩ j) = Scalar.select (u (ix1 i)) (y (ix3 i r j)) 0 := by
  pointwise [Plain.lastOf]

/-! ## The places looked up -/

/-- An expert's number, read signed and clamped, is the number. -/
theorem word_norm (w : BitVec 32) (h : w.toNat ≤ 31) : Scalar.select (IntOp.cmpi .slt w 0#32) (IntOp.addi w 32#32) w = w := by
  have e : BitVec.slt w 0#32 = false := by
    rw [BitVec.slt_eq_decide, decide_eq_false_iff_not, BitVec.toInt_eq_toNat_cond, if_pos (by omega)]
    show ¬ ((w.toNat : ℤ) < (0#32 : BitVec 32).toInt)
    have : (0#32 : BitVec 32).toInt = 0 := by decide
    omega
  show Scalar.select (BitVec.ofBool (BitVec.slt w 0#32)) _ _ = _
  rw [e]; rfl
theorem word_at (w : BitVec 32) (h : w.toNat ≤ 31) : min w.toInt.toNat 31 = w.toNat := by
  rw [BitVec.toInt_eq_toNat_cond, if_pos (by omega)]
  omega

theorem at4_0 (k l : BitVec 32) (e : IVec Cert.Reference2Ideal.S288 32) (i : Fin 288) : Plain.at4 k l e (ix2 i 0) = 0#32 := by
  pointwise [Plain.at4]
  rfl
theorem at4_1 (k l : BitVec 32) (e : IVec Cert.Reference2Ideal.S288 32) (i : Fin 288) (h : (e (ix1 i)).toNat ≤ 31) : Plain.at4 k l e (ix2 i 1) = e (ix1 i) := by
  pointwise [Plain.at4]
  exact word_norm _ h
theorem at3_0 (k : BitVec 32) (e : IVec Cert.Reference2Ideal.S288 32) (i : Fin 288) : Plain.at3 k e (ix2 i 0) = 0#32 := by
  pointwise [Plain.at3]
  rfl
theorem at3_1 (k : BitVec 32) (e : IVec Cert.Reference2Ideal.S288 32) (i : Fin 288) (h : (e (ix1 i)).toNat ≤ 31) : Plain.at3 k e (ix2 i 1) = e (ix1 i) := by
  pointwise [Plain.at3]
  exact word_norm _ h

theorem gather_w1 {α : Type} (x : Cert.Reference2Ideal.S2x32x1024x2048.Idx → α) (idx : IVec Cert.Reference2Ideal.S288x4 32) (i : Fin 288) (k : Fin 1024) (j : Fin 2048) :
    Host.gather Cert.Reference2Ideal.gather_S2x32x1024x2048_S288x4_S288x1x1x1024x2048_1234_n_n_n_0123_1_1110242048 x idx (ix5 i 0 0 k j)
      = x (ix4 ⟨min (idx (ix2 i 0)).toInt.toNat 1, by omega⟩ ⟨min (idx (ix2 i 1)).toInt.toNat 31, by omega⟩ k j) := by
  unfold Host.gather
  refine congrArg x ?_
  funext a
  refine Fin.ext ?_
  show Cert.Reference2Ideal.gather_S2x32x1024x2048_S288x4_S288x1x1x1024x2048_1234_n_n_n_0123_1_1110242048.start (ix5 i 0 0 k j) idx a
    + Cert.Reference2Ideal.gather_S2x32x1024x2048_S288x4_S288x1x1x1024x2048_1234_n_n_n_0123_1_1110242048.batchCoord (ix5 i 0 0 k j) a
    + Cert.Reference2Ideal.gather_S2x32x1024x2048_S288x4_S288x1x1x1024x2048_1234_n_n_n_0123_1_1110242048.offCoord (ix5 i 0 0 k j) a = _
  rw [GatherDims.batchCoord_eq_zero _ _ _ (by exact List.not_mem_nil)]
  have hm : ∀ a : Fin 4, a ∈ Cert.Reference2Ideal.gather_S2x32x1024x2048_S288x4_S288x1x1x1024x2048_1234_n_n_n_0123_1_1110242048.startIndexMap := by decide
  have hs : ∀ a : Fin 4, Cert.Reference2Ideal.gather_S2x32x1024x2048_S288x4_S288x1x1x1024x2048_1234_n_n_n_0123_1_1110242048.siIdx (ix5 i 0 0 k j)
      ⟨List.idxOf a Cert.Reference2Ideal.gather_S2x32x1024x2048_S288x4_S288x1x1x1024x2048_1234_n_n_n_0123_1_1110242048.startIndexMap, List.idxOf_lt_length_iff.2 (hm a)⟩ = ix2 i a := by
    intro a
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
    | ⟨3, _⟩, ⟨0, _⟩ => rfl
    | ⟨3, _⟩, ⟨1, _⟩ => rfl
  unfold GatherDims.start
  rw [dif_pos (hm a), hs a]
  match a with
  | ⟨0, _⟩ => rfl
  | ⟨1, _⟩ => rfl
  | ⟨2, _⟩ => exact (congrArg (· + 0 + k.val) (Nat.min_zero _)).trans (show 0 + 0 + k.val = k.val by omega)
  | ⟨3, _⟩ => exact (congrArg (· + 0 + j.val) (Nat.min_zero _)).trans (show 0 + 0 + j.val = j.val by omega)

theorem w1_at (w : FVec Ideal Cert.Reference2Ideal.S2x32x1024x2048 .f32) (e : IVec Cert.Reference2Ideal.S288 32) (i : Fin 288) (h : (e (ix1 i)).toNat ≤ 31) (k : Fin 1024) (j : Fin 2048) :
    Plain.w1Of w e (ix3 i k j) = w (ix4 0 ⟨(e (ix1 i)).toNat, by omega⟩ k j) := by
  pointwise [Plain.w1Of]
  refine (gather_w1 w _ i k j).trans (congrArg w ?_)
  simp only [at4_0, at4_1 _ _ e i h, word_at _ h]
  rfl

theorem gather_w2 {α : Type} (x : Cert.Reference2Ideal.S2x32x1024x1024.Idx → α) (idx : IVec Cert.Reference2Ideal.S288x4 32) (i : Fin 288) (k : Fin 1024) (j : Fin 1024) :
    Host.gather Cert.Reference2Ideal.gather_S2x32x1024x1024_S288x4_S288x1x1x1024x1024_1234_n_n_n_0123_1_1110241024 x idx (ix5 i 0 0 k j)
      = x (ix4 ⟨min (idx (ix2 i 0)).toInt.toNat 1, by omega⟩ ⟨min (idx (ix2 i 1)).toInt.toNat 31, by omega⟩ k j) := by
  unfold Host.gather
  refine congrArg x ?_
  funext a
  refine Fin.ext ?_
  show Cert.Reference2Ideal.gather_S2x32x1024x1024_S288x4_S288x1x1x1024x1024_1234_n_n_n_0123_1_1110241024.start (ix5 i 0 0 k j) idx a
    + Cert.Reference2Ideal.gather_S2x32x1024x1024_S288x4_S288x1x1x1024x1024_1234_n_n_n_0123_1_1110241024.batchCoord (ix5 i 0 0 k j) a
    + Cert.Reference2Ideal.gather_S2x32x1024x1024_S288x4_S288x1x1x1024x1024_1234_n_n_n_0123_1_1110241024.offCoord (ix5 i 0 0 k j) a = _
  rw [GatherDims.batchCoord_eq_zero _ _ _ (by exact List.not_mem_nil)]
  have hm : ∀ a : Fin 4, a ∈ Cert.Reference2Ideal.gather_S2x32x1024x1024_S288x4_S288x1x1x1024x1024_1234_n_n_n_0123_1_1110241024.startIndexMap := by decide
  have hs : ∀ a : Fin 4, Cert.Reference2Ideal.gather_S2x32x1024x1024_S288x4_S288x1x1x1024x1024_1234_n_n_n_0123_1_1110241024.siIdx (ix5 i 0 0 k j)
      ⟨List.idxOf a Cert.Reference2Ideal.gather_S2x32x1024x1024_S288x4_S288x1x1x1024x1024_1234_n_n_n_0123_1_1110241024.startIndexMap, List.idxOf_lt_length_iff.2 (hm a)⟩ = ix2 i a := by
    intro a
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
    | ⟨3, _⟩, ⟨0, _⟩ => rfl
    | ⟨3, _⟩, ⟨1, _⟩ => rfl
  unfold GatherDims.start
  rw [dif_pos (hm a), hs a]
  match a with
  | ⟨0, _⟩ => rfl
  | ⟨1, _⟩ => rfl
  | ⟨2, _⟩ => exact (congrArg (· + 0 + k.val) (Nat.min_zero _)).trans (show 0 + 0 + k.val = k.val by omega)
  | ⟨3, _⟩ => exact (congrArg (· + 0 + j.val) (Nat.min_zero _)).trans (show 0 + 0 + j.val = j.val by omega)

theorem w2_at (w : FVec Ideal Cert.Reference2Ideal.S2x32x1024x1024 .f32) (e : IVec Cert.Reference2Ideal.S288 32) (i : Fin 288) (h : (e (ix1 i)).toNat ≤ 31) (k : Fin 1024) (j : Fin 1024) :
    Plain.w2Of w e (ix3 i k j) = w (ix4 0 ⟨(e (ix1 i)).toNat, by omega⟩ k j) := by
  pointwise [Plain.w2Of]
  refine (gather_w2 w _ i k j).trans (congrArg w ?_)
  simp only [at4_0, at4_1 _ _ e i h, word_at _ h]
  rfl

theorem gather_b1 {α : Type} (x : Cert.Reference2Ideal.S2x32x2048.Idx → α) (idx : IVec Cert.Reference2Ideal.S288x3 32) (i : Fin 288) (j : Fin 2048) :
    Host.gather Cert.Reference2Ideal.gather_S2x32x2048_S288x3_S288x1x1x2048_123_n_n_n_012_1_112048 x idx (ix4 i 0 0 j)
      = x (ix3 ⟨min (idx (ix2 i 0)).toInt.toNat 1, by omega⟩ ⟨min (idx (ix2 i 1)).toInt.toNat 31, by omega⟩ j) := by
  unfold Host.gather
  refine congrArg x ?_
  funext a
  refine Fin.ext ?_
  show Cert.Reference2Ideal.gather_S2x32x2048_S288x3_S288x1x1x2048_123_n_n_n_012_1_112048.start (ix4 i 0 0 j) idx a
    + Cert.Reference2Ideal.gather_S2x32x2048_S288x3_S288x1x1x2048_123_n_n_n_012_1_112048.batchCoord (ix4 i 0 0 j) a
    + Cert.Reference2Ideal.gather_S2x32x2048_S288x3_S288x1x1x2048_123_n_n_n_012_1_112048.offCoord (ix4 i 0 0 j) a = _
  rw [GatherDims.batchCoord_eq_zero _ _ _ (by exact List.not_mem_nil)]
  have hm : ∀ a : Fin 3, a ∈ Cert.Reference2Ideal.gather_S2x32x2048_S288x3_S288x1x1x2048_123_n_n_n_012_1_112048.startIndexMap := by decide
  have hs : ∀ a : Fin 3, Cert.Reference2Ideal.gather_S2x32x2048_S288x3_S288x1x1x2048_123_n_n_n_012_1_112048.siIdx (ix4 i 0 0 j)
      ⟨List.idxOf a Cert.Reference2Ideal.gather_S2x32x2048_S288x3_S288x1x1x2048_123_n_n_n_012_1_112048.startIndexMap, List.idxOf_lt_length_iff.2 (hm a)⟩ = ix2 i a := by
    intro a
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
  unfold GatherDims.start
  rw [dif_pos (hm a), hs a]
  match a with
  | ⟨0, _⟩ => rfl
  | ⟨1, _⟩ => rfl
  | ⟨2, _⟩ => exact (congrArg (· + 0 + j.val) (Nat.min_zero _)).trans (show 0 + 0 + j.val = j.val by omega)

theorem b1_at (w : FVec Ideal Cert.Reference2Ideal.S2x32x2048 .f32) (e : IVec Cert.Reference2Ideal.S288 32) (i : Fin 288) (h : (e (ix1 i)).toNat ≤ 31) (j : Fin 2048) :
    Plain.b1Of w e (ix2 i j) = w (ix3 0 ⟨(e (ix1 i)).toNat, by omega⟩ j) := by
  pointwise [Plain.b1Of]
  refine (gather_b1 w _ i j).trans (congrArg w ?_)
  simp only [at3_0, at3_1 _  e i h, word_at _ h]
  rfl

theorem gather_b2 {α : Type} (x : Cert.Reference2Ideal.S2x32x1024.Idx → α) (idx : IVec Cert.Reference2Ideal.S288x3 32) (i : Fin 288) (j : Fin 1024) :
    Host.gather Cert.Reference2Ideal.gather_S2x32x1024_S288x3_S288x1x1x1024_123_n_n_n_012_1_111024 x idx (ix4 i 0 0 j)
      = x (ix3 ⟨min (idx (ix2 i 0)).toInt.toNat 1, by omega⟩ ⟨min (idx (ix2 i 1)).toInt.toNat 31, by omega⟩ j) := by
  unfold Host.gather
  refine congrArg x ?_
  funext a
  refine Fin.ext ?_
  show Cert.Reference2Ideal.gather_S2x32x1024_S288x3_S288x1x1x1024_123_n_n_n_012_1_111024.start (ix4 i 0 0 j) idx a
    + Cert.Reference2Ideal.gather_S2x32x1024_S288x3_S288x1x1x1024_123_n_n_n_012_1_111024.batchCoord (ix4 i 0 0 j) a
    + Cert.Reference2Ideal.gather_S2x32x1024_S288x3_S288x1x1x1024_123_n_n_n_012_1_111024.offCoord (ix4 i 0 0 j) a = _
  rw [GatherDims.batchCoord_eq_zero _ _ _ (by exact List.not_mem_nil)]
  have hm : ∀ a : Fin 3, a ∈ Cert.Reference2Ideal.gather_S2x32x1024_S288x3_S288x1x1x1024_123_n_n_n_012_1_111024.startIndexMap := by decide
  have hs : ∀ a : Fin 3, Cert.Reference2Ideal.gather_S2x32x1024_S288x3_S288x1x1x1024_123_n_n_n_012_1_111024.siIdx (ix4 i 0 0 j)
      ⟨List.idxOf a Cert.Reference2Ideal.gather_S2x32x1024_S288x3_S288x1x1x1024_123_n_n_n_012_1_111024.startIndexMap, List.idxOf_lt_length_iff.2 (hm a)⟩ = ix2 i a := by
    intro a
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
  unfold GatherDims.start
  rw [dif_pos (hm a), hs a]
  match a with
  | ⟨0, _⟩ => rfl
  | ⟨1, _⟩ => rfl
  | ⟨2, _⟩ => exact (congrArg (· + 0 + j.val) (Nat.min_zero _)).trans (show 0 + 0 + j.val = j.val by omega)

theorem b2_at (w : FVec Ideal Cert.Reference2Ideal.S2x32x1024 .f32) (e : IVec Cert.Reference2Ideal.S288 32) (i : Fin 288) (h : (e (ix1 i)).toNat ≤ 31) (j : Fin 1024) :
    Plain.b2Of w e (ix2 i j) = w (ix3 0 ⟨(e (ix1 i)).toNat, by omega⟩ j) := by
  pointwise [Plain.b2Of]
  refine (gather_b2 w _ i j).trans (congrArg w ?_)
  simp only [at3_0, at3_1 _  e i h, word_at _ h]
  rfl

end Cert.Proof.Same

end
-- ==== Proof.ExpFinal.lean ====
/-
  The experts' call over its whole grid at the ideal instance: its result is the reference's.
-/
module

public import proofs.«01_k».proof.Proof.ExpValue
public import Idealize.ShloMosaic.Lib.Pipeline.Covers

@[expose] public section

set_option maxRecDepth 16384

noncomputable section

namespace Cert.Proof.Same

open Cert.Kernel2Ideal Cert.Kernel2Ideal.Gen
open Idealize.ShloMosaic Idealize.ShloMosaic.TcCoe

/-! ## The words of the tables -/

/-- Below a block's 512 rows, the count cut to a block bounds as the count does. -/
theorem cut_lt (r : Fin 512) (l : BitVec 32) :
    IntOp.cmpi .slt (BitVec.ofNat 32 r.val) (IntOp.minsi 512#32 (IntOp.maxsi 0#32 l)) = IntOp.cmpi .slt (BitVec.ofNat 32 r.val) l := by
  have hr : (BitVec.ofNat 32 r.val).toInt = r.val := by
    have := r.isLt
    rw [BitVec.toInt_eq_toNat_of_lt (by rw [BitVec.toNat_ofNat]; omega), BitVec.toNat_ofNat]; omega
  have h5 : (512#32 : BitVec 32).toInt = 512 := by decide
  have h0 : (0#32 : BitVec 32).toInt = 0 := by decide
  have key : (BitVec.ofNat 32 r.val).slt (IntOp.minsi 512#32 (IntOp.maxsi 0#32 l)) = (BitVec.ofNat 32 r.val).slt l := by
    have := r.isLt
    unfold IntOp.minsi IntOp.maxsi
    simp only [BitVec.slt_eq_decide, hr, h0, h5]
    repeat' split
    all_goals simp_all only [decide_eq_true_eq, decide_eq_decide]
    all_goals omega
  exact congrArg BitVec.ofBool key

theorem left_lt (n : IVec S32 32) (i : Fin 288) (r : Fin 512) :
    IntOp.cmpi .slt (BitVec.ofNat 32 r.val) (Experts.nvOf n (ix1 i)) = IntOp.cmpi .slt (BitVec.ofNat 32 r.val) (Experts.leftOf n (ix1 i)) := cut_lt r _

variable (a : (pcfg0 (F := Ideal)).Adm) (V : (c : Dev nD) → (b : Ref sig .tc) → Buf (Elt Ideal) ((c.tc : Thread nD τ).loc b)) (c : Dev nD)

theorem crd_word (t : Fin (Experts.cfgA a).N) : (BitVec.ofNat 32 (Experts.crd a t 0).val).toNat = t.val := by
  have ht : t.val < 288 := t.isLt
  rw [Experts.crd_val, BitVec.toNat_ofNat]; omega

/-- A table's word at the point's own number. -/
theorem word1 (T : S288.Idx → Elt Ideal .i32) (t : Fin (Experts.cfgA a).N) :
    Experts.wordAt (F := Ideal) T (k0_off1 (Experts.crd a t)) (k0_off1_inb (Experts.crd a t)) = T (ix1 (⟨t.val, t.isLt⟩ : Fin 288)) := by
  refine congrArg T (funext fun x => Fin.ext ?_)
  match x with
  | ⟨0, _⟩ => exact crd_word a t
theorem word3 (T : S288.Idx → Elt Ideal .i32) (t : Fin (Experts.cfgA a).N) :
    Experts.wordAt (F := Ideal) T (k0_off3 (Experts.crd a t)) (k0_off3_inb (Experts.crd a t)) = T (ix1 (⟨t.val, t.isLt⟩ : Fin 288)) := by
  refine congrArg T (funext fun x => Fin.ext ?_)
  match x with
  | ⟨0, _⟩ => exact crd_word a t
theorem word0 (T : S1.Idx → Elt Ideal .i32) : Experts.usedWord (F := Ideal) T = T (ix1 0) := by
  refine congrArg T (funext fun x => Fin.ext ?_)
  match x with
  | ⟨0, _⟩ => rfl

/-! ## The blocks of the arrays -/

theorem zero_row (s x : Nat) : 0 * s + x = x := by omega

theorem index0 (t : Fin (Experts.cfgA a).N) : ((Experts.cfgA a).win 0).index t = ![t.val, 0] :=
  congrArg (fun n : Nat => (![n, 0] : Fin 2 → Nat)) (crd_word a t)
theorem index5 (t : Fin (Experts.cfgA a).N) : ((Experts.cfgA a).win 5).index t = ![t.val, 0] :=
  congrArg (fun n : Nat => (![n, 0] : Fin 2 → Nat)) (crd_word a t)

theorem row_lt (t : Fin (Experts.cfgA a).N) (r : Fin 512) : t.val * 512 + r.val < 147456 := by
  have ht : t.val < 288 := t.isLt
  omega

theorem read0 (t : Fin (Experts.cfgA a).N) (r : Fin 512) (k : Fin 512) :
    (Experts.iblk a V c 0 t : IVec S512x512 32) (ix2 r k) = V c main_arg0 (ix2 (⟨t.val * 512 + r.val, row_lt a t r⟩ : Fin 147456) k) := by
  refine congrArg (V c main_arg0) (funext fun x => Fin.ext ?_)
  refine (Pipeline.Window.rect_emb_val ((Experts.cfgA a).win 0) t _ x).trans ?_
  rw [index0]
  match x with
  | ⟨0, _⟩ => rfl
  | ⟨1, _⟩ => exact zero_row _ _

theorem emb5 (t : Fin (Experts.cfgA a).N) (r : Fin 512) (k : Fin 1024) :
    (((Experts.cfgA a).win 5).blk t).view.emb (ix2 r k) = (ix2 (⟨t.val * 512 + r.val, row_lt a t r⟩ : Fin 147456) k : S147456x1024.Idx) := by
  refine funext fun x => Fin.ext ?_
  refine (Pipeline.Window.rect_emb_val ((Experts.cfgA a).win 5) t _ x).trans ?_
  rw [index5]
  match x with
  | ⟨0, _⟩ => rfl
  | ⟨1, _⟩ => exact zero_row _ _

theorem read1 (t : Fin (Experts.cfgA a).N) (h : (Experts.beW a t).toNat ≤ 31) (k : Fin 1024) (j : Fin 2048) :
    (Experts.iblk a V c 1 t : FVec Ideal S1x1x1024x2048 .f32) (ix4 0 0 k j) = V c main_arg2 (ix4 (0 : Fin 2) (⟨(Experts.beW a t).toNat, by omega⟩ : Fin 32) k j) := by
  refine congrArg (V c main_arg2) (funext fun x => Fin.ext ?_)
  refine (Pipeline.Window.rect_emb_val ((Experts.cfgA a).win 1) t _ x).trans ?_
  rw [Experts.index1]
  match x with
  | ⟨0, _⟩ => rfl
  | ⟨1, _⟩ => exact (Nat.add_zero _).trans (Nat.mul_one _)
  | ⟨2, _⟩ => exact zero_row _ _
  | ⟨3, _⟩ => exact zero_row _ _

theorem read2 (t : Fin (Experts.cfgA a).N) (h : (Experts.beW a t).toNat ≤ 31) (j : Fin 2048) :
    (Experts.iblk a V c 2 t : FVec Ideal S1x1x1x2048 .f32) (ix4 0 0 0 j) = V c main_v40 (ix4 (0 : Fin 2) (⟨(Experts.beW a t).toNat, by omega⟩ : Fin 32) (0 : Fin 1) j) := by
  refine congrArg (V c main_v40) (funext fun x => Fin.ext ?_)
  refine (Pipeline.Window.rect_emb_val ((Experts.cfgA a).win 2) t _ x).trans ?_
  rw [Experts.index2]
  match x with
  | ⟨0, _⟩ => rfl
  | ⟨1, _⟩ => exact (Nat.add_zero _).trans (Nat.mul_one _)
  | ⟨2, _⟩ => rfl
  | ⟨3, _⟩ => exact zero_row _ _

theorem read3 (t : Fin (Experts.cfgA a).N) (h : (Experts.beW a t).toNat ≤ 31) (k j : Fin 1024) :
    (Experts.iblk a V c 3 t : FVec Ideal S1x1x1024x1024 .f32) (ix4 0 0 k j) = V c main_arg4 (ix4 (0 : Fin 2) (⟨(Experts.beW a t).toNat, by omega⟩ : Fin 32) k j) := by
  refine congrArg (V c main_arg4) (funext fun x => Fin.ext ?_)
  refine (Pipeline.Window.rect_emb_val ((Experts.cfgA a).win 3) t _ x).trans ?_
  rw [Experts.index3]
  match x with
  | ⟨0, _⟩ => rfl
  | ⟨1, _⟩ => exact (Nat.add_zero _).trans (Nat.mul_one _)
  | ⟨2, _⟩ => exact zero_row _ _
  | ⟨3, _⟩ => exact zero_row _ _

theorem read4 (t : Fin (Experts.cfgA a).N) (h : (Experts.beW a t).toNat ≤ 31) (j : Fin 1024) :
    (Experts.iblk a V c 4 t : FVec Ideal S1x1x1x1024 .f32) (ix4 0 0 0 j) = V c main_v41 (ix4 (0 : Fin 2) (⟨(Experts.beW a t).toNat, by omega⟩ : Fin 32) (0 : Fin 1) j) := by
  refine congrArg (V c main_v41) (funext fun x => Fin.ext ?_)
  refine (Pipeline.Window.rect_emb_val ((Experts.cfgA a).win 4) t _ x).trans ?_
  rw [Experts.index4]
  match x with
  | ⟨0, _⟩ => rfl
  | ⟨1, _⟩ => exact (Nat.add_zero _).trans (Nat.mul_one _)
  | ⟨2, _⟩ => rfl
  | ⟨3, _⟩ => exact zero_row _ _

/-- The result's blocks cover it: row `p` lies in block `p / 512`. -/
theorem covers5 : ((Experts.cfgA a).win 5).Covers := by
  refine ((Experts.cfgA a).win 5).covers_of_indexMap_surj rfl (show ∀ x : Fin 2, 0 < S512x1024.size x by decide) fun β => ?_
  have h0 : (β (0 : Fin 2)).val < 288 := lt_of_lt_of_eq (β (0 : Fin 2)).isLt (show (147456 + 512 - 1) / 512 = 288 by decide)
  have h1 : (β (1 : Fin 2)).val < 1 := lt_of_lt_of_eq (β (1 : Fin 2)).isLt (show (1024 + 1024 - 1) / 1024 = 1 by decide)
  refine ⟨fun x => match x with | ⟨0, _⟩ => (⟨(β (0 : Fin 2)).val, h0⟩ : Fin 288), fun x => ?_⟩
  match x with
  | ⟨0, _⟩ =>
    show (BitVec.ofNat 32 (β (0 : Fin 2)).val).toNat = (β (0 : Fin 2)).val
    rw [BitVec.toNat_ofNat]; omega
  | ⟨1, _⟩ =>
    show 0 = (β (1 : Fin 2)).val
    omega

/-! ## A bias with its added axis -/

theorem wide1 (w : FVec Ideal S2x32x2048 .f32) (e : Fin 32) (j : Fin 2048) :
    shapeCast S2x32x1x2048 w shapeCasts_S2x32x2048_S2x32x1x2048 (ix4 (0 : Fin 2) e (0 : Fin 1) j) = w (ix3 (0 : Fin 2) e j) := by
  pointwise
theorem wide2 (w : FVec Ideal S2x32x1024 .f32) (e : Fin 32) (j : Fin 1024) :
    shapeCast S2x32x1x1024 w shapeCasts_S2x32x1024_S2x32x1x1024 (ix4 (0 : Fin 2) e (0 : Fin 1) j) = w (ix3 (0 : Fin 2) e j) := by
  pointwise

/-! ## The call's result -/

variable (m : (ℓ : Loc nD τ sig) → Buf (Elt Ideal) ℓ) (ρ : Dev nD → PrngReg)

/-- The reference's result of the call's arguments. -/
abbrev want : FVec Ideal S147456x1024 .bf16 :=
  Plain.out (F := Ideal) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5))

theorem used_eq (n : IVec S32 32) (i : Fin 288) : Plain.usedOf (Experts.nuOf n) (ix1 i) = Scalar.cmpi .slt (BitVec.ofNat 32 i.val) (Experts.nuOf n (ix1 0)) := by
  pointwise [Plain.usedOf]
  rfl

theorem point (t : Fin (Experts.cfgA (Experts.aa m)).N) (r : Fin 512) (j : Fin 1024) :
    Experts.outAt (Experts.aa m) (Experts.VV m) 0 t (ix2 r j) = want m (ix2 (⟨t.val * 512 + r.val, row_lt _ t r⟩ : Fin 147456) j) := by
  have hbe : Experts.beW (Experts.aa m) t = Experts.beOf (Experts.cnt m) (ix1 (⟨t.val, t.isLt⟩ : Fin 288)) := word1 _ _ t
  have hle : (Experts.beW (Experts.aa m) t).toNat ≤ 31 := Experts.beOf_le _ _
  have hle' : (Experts.beOf (Experts.cnt m) (ix1 (⟨t.val, t.isLt⟩ : Fin 288))).toNat ≤ 31 := Experts.beOf_le _ _
  have hu : Experts.used (Experts.crd (Experts.aa m) t) (Experts.nuW (Experts.aa m))
      ↔ Plain.usedOf (Experts.nuOf (Experts.cnt m)) (ix1 (⟨t.val, t.isLt⟩ : Fin 288)) = 1#1 := by
    rw [used_eq]
    unfold Experts.used
    rw [Experts.crd_val]
    exact Iff.of_eq (congrArg (fun w => Scalar.cmpi .slt (BitVec.ofNat 32 t.val) w = 1#1) (word0 _))
  refine Eq.trans ?_ (last_at _ _ (⟨t.val, t.isLt⟩ : Fin 288) r j).symm
  unfold Experts.outAt
  split
  · next h =>
    refine Eq.trans ?_ (if_pos (hu.1 h)).symm
    refine block_eq _ _ _ _ _ _ _ _ _ _ _ _ (⟨t.val, t.isLt⟩ : Fin 288) ?_ ?_ ?_ ?_ ?_ ?_ r j
    · intro r
      exact (congrArg (IntOp.cmpi .slt (BitVec.ofNat 32 r.val)) (word3 _ _ t)).trans (left_lt _ _ r)
    · intro r k
      exact (read0 _ _ 0 t r k).trans (congrFun (Experts.entry0 m 0) _)
    · intro k j
      refine (read1 _ _ 0 t hle k j).trans ((congrFun (Experts.entry2 m 0) _).trans (Eq.trans ?_ (w1_at _ _ _ hle' k j).symm))
      simp only [hbe]
    · intro j
      refine (read2 _ _ 0 t hle j).trans ((congrFun (Experts.b1_eq (fun b => m (0, b))) _).trans ((wide1 _ _ _).trans (Eq.trans ?_ (b1_at _ _ _ hle' j).symm)))
      simp only [hbe]
    · intro k j
      refine (read3 _ _ 0 t hle k j).trans ((congrFun (Experts.entry4 m 0) _).trans (Eq.trans ?_ (w2_at _ _ _ hle' k j).symm))
      simp only [hbe]
    · intro j
      refine (read4 _ _ 0 t hle j).trans ((congrFun (Experts.b2_eq (fun b => m (0, b))) _).trans ((wide2 _ _ _).trans (Eq.trans ?_ (b2_at _ _ _ hle' j).symm)))
      simp only [hbe]
  · next h =>
    refine Eq.trans ?_ (if_neg (fun h' => h (hu.2 h'))).symm
    pointwise [k0_pay4]

theorem final : (Experts.dats (Experts.aa m) (Experts.VV m) 0 0).arrAt 5 (Experts.cfgA (Experts.aa m)).N = want m := by
  refine (Experts.dats (Experts.aa m) (Experts.VV m) 0 0).arrAt_eq_of_covers 5 (want m) (covers5 _) fun t _ y => ?_
  have key : ∀ y : S512x1024.Idx, Experts.outAt (Experts.aa m) (Experts.VV m) 0 t y
      = want m ((((Experts.cfgA (Experts.aa m)).win 5).blk t).view.emb y) := by
    intro y
    have e : y = ix2 (y 0) (y 1) := funext fun x => match x with
      | ⟨0, _⟩ => rfl
      | ⟨1, _⟩ => rfl
    rw [e]
    exact (point m t (y 0) (y 1)).trans (congrArg (want m) (emb5 _ t (y 0) (y 1)).symm)
  exact key y

end Cert.Proof.Same

end
-- ==== Proof.MergeValue.lean ====
/-
  What the merging call computes at the ideal instance, row by row: the three gated branches' sum through the output
  projection, over the residual, and the layer norm of that.
-/
module

public import proofs.«01_k».proof.Proof.Gen.Kernel4Ideal.Frame
public import proofs.«01_k».proof.Proof.Gen.Reference4Ideal.Run
public import proofs.«01_k».proof.Proof.CombValue
public import Idealize.ShloMosaic.Lib.Pipeline.ValueKit
public import Idealize.ShloMosaic.Lib.Pipeline.Covers
public import Idealize.ShloMosaic.Lib.Pointwise

@[expose] public section

set_option maxRecDepth 16384

noncomputable section

namespace Cert.Proof.Merge

open Idealize.ShloMosaic Idealize.ShloMosaic.TcCoe

/-! ## The reference in stages -/

section Plain
open Cert.Reference4Ideal

/-- The three gates, side by side. -/
def gatesOf (x : FVec Ideal S32768x1024 .f32) (w : FVec Ideal S1024x8728 .f32) : FVec Ideal S32768x3072 .f32 :=
  Host.divf (broadcastInDim S32768x3072 ![] Gen.bcast_S_S32768x3072 (constant S_ .f32 0x3F800000#32))
    (addf (broadcastInDim S32768x3072 ![] Gen.bcast_S_S32768x3072 (constant S_ .f32 0x3F800000#32))
      (Host.exp (Host.negf (Host.dotGeneral dot_S32768x1024_S1024x3072_S32768x3072_1_0_0_1_n_n none x
        (extractStridedSlice S1024x3072 ![0, 5656] w Gen.slices_S1024x8728_S1024x3072_0_5656)))))

/-- The wide branch's rows. -/
def wideOf (h : FVec Ideal S32768x1024 .bf16) (w : FVec Ideal S1024x1024 .f32) : FVec Ideal S32768x1024 .f32 :=
  Host.dotGeneral dot_S32768x1024_S1024x1024_S32768x1024_1_0_0_1_n_n none (extf .f32 h Gen.bitsLt_bf16_f32) w

/-- A narrow branch's rows. -/
def slimOf (h : FVec Ideal S32768x512 .bf16) (w : FVec Ideal S512x1024 .f32) : FVec Ideal S32768x1024 .f32 :=
  Host.dotGeneral dot_S32768x512_S512x1024_S32768x1024_1_0_0_1_n_n none (extf .f32 h Gen.bitsLt_bf16_f32) w

/-- The gated sum of three branches. -/
def sumOf (g : FVec Ideal S32768x3072 .f32) (a b d : FVec Ideal S32768x1024 .f32) : FVec Ideal S32768x1024 .f32 :=
  addf (addf (mulf (extractStridedSlice S32768x1024 ![0, 0] g Gen.slices_S32768x3072_S32768x1024_0_0) a)
    (mulf (extractStridedSlice S32768x1024 ![0, 1024] g Gen.slices_S32768x3072_S32768x1024_0_1024) b))
    (mulf (extractStridedSlice S32768x1024 ![0, 2048] g Gen.slices_S32768x3072_S32768x1024_0_2048) d)

/-- The residual and the projected sum. -/
def zOf (x s : FVec Ideal S32768x1024 .f32) (w : FVec Ideal S1024x1024 .f32) : FVec Ideal S32768x1024 .f32 :=
  addf (mulf (broadcastInDim S32768x1024 ![] Gen.bcast_S_S32768x1024 (constant S_ .f32 0x3FB504F3#32)) x)
    (Host.dotGeneral dot_S32768x1024_S1024x1024_S32768x1024_1_0_0_1_n_n none s w)

variable (m : (ℓ : Loc nD τ sig) → Buf (Elt Ideal) ℓ) (c : Dev nD)

theorem reference_eq :
    Cert.Reference4Ideal.Value.res_out0 m c
      = Comb.lnOf (zOf (m ((c.tc : Thread nD τ).loc main_arg3))
          (sumOf (gatesOf (m ((c.tc : Thread nD τ).loc main_arg3)) (m ((c.tc : Thread nD τ).loc main_arg4)))
            (wideOf (m ((c.tc : Thread nD τ).loc main_arg0)) (m ((c.tc : Thread nD τ).loc main_arg5)))
            (slimOf (m ((c.tc : Thread nD τ).loc main_arg1)) (m ((c.tc : Thread nD τ).loc main_arg6)))
            (slimOf (m ((c.tc : Thread nD τ).loc main_arg2)) (m ((c.tc : Thread nD τ).loc main_arg7))))
          (m ((c.tc : Thread nD τ).loc main_arg8))) (m ((c.tc : Thread nD τ).loc main_arg9)) (m ((c.tc : Thread nD τ).loc main_arg10)) := by
  show Cert.Reference4Ideal.Value.res_main_v47 m c = _
  unfold Cert.Reference4Ideal.Value.res_main_v47
  rfl

theorem reference_cast :
    Cert.Reference4Ideal.Value.res_out1 m c
      = (truncf .bf16 (Comb.lnOf (zOf (m ((c.tc : Thread nD τ).loc main_arg3))
          (sumOf (gatesOf (m ((c.tc : Thread nD τ).loc main_arg3)) (m ((c.tc : Thread nD τ).loc main_arg4)))
            (wideOf (m ((c.tc : Thread nD τ).loc main_arg0)) (m ((c.tc : Thread nD τ).loc main_arg5)))
            (slimOf (m ((c.tc : Thread nD τ).loc main_arg1)) (m ((c.tc : Thread nD τ).loc main_arg6)))
            (slimOf (m ((c.tc : Thread nD τ).loc main_arg2)) (m ((c.tc : Thread nD τ).loc main_arg7))))
          (m ((c.tc : Thread nD τ).loc main_arg8))) (m ((c.tc : Thread nD τ).loc main_arg9)) (m ((c.tc : Thread nD τ).loc main_arg10))) Gen.bitsLt_bf16_f32 : FVec Ideal S32768x1024 .bf16) := by
  show Cert.Reference4Ideal.Value.res_main_v48 m c = _
  unfold Cert.Reference4Ideal.Value.res_main_v48
  rfl

end Plain

open Cert.Kernel4Ideal Cert.Kernel4Ideal.Gen

/-- A gate's block. -/
def gateBlk (x : FVec Ideal S512x1024 .f32) (w : FVec Ideal S1024x1024 .bf16) : FVec Ideal S512x1024 .f32 :=
  divf (broadcast S512x1024 (Scalar.ofBits .f32 0x3F800000#32 : Ideal .f32))
    (addf (broadcast S512x1024 (Scalar.ofBits .f32 0x3F800000#32 : Ideal .f32))
      (exp (subf (broadcast S512x1024 (Scalar.ofBits .f32 0x00000000#32 : Ideal .f32))
        (matmul dot_S512x1024_S1024x1024_S512x1024_1_0_0_1_n_n none (truncf .bf16 x bitsLt_bf16_f32)
          (shapeCast S1024x1024 w shapeCasts_S1024x1024_S1024x1024) (constant S512x1024 .f32 0x00000000#32)))))

/-- The wide branch's block. -/
def wideBlk (h : FVec Ideal S512x1024 .bf16) (w : FVec Ideal S1024x1024 .bf16) : FVec Ideal S512x1024 .f32 :=
  matmul dot_S512x1024_S1024x1024_S512x1024_1_0_0_1_n_n none h (shapeCast S1024x1024 w shapeCasts_S1024x1024_S1024x1024) (constant S512x1024 .f32 0x00000000#32)

/-- A narrow branch's block. -/
def slimBlk (h : FVec Ideal S512x512 .bf16) (w : FVec Ideal S512x1024 .bf16) : FVec Ideal S512x1024 .f32 :=
  matmul dot_S512x512_S512x1024_S512x1024_1_0_0_1_n_n none h (shapeCast S512x1024 w shapeCasts_S512x1024_S512x1024) (constant S512x1024 .f32 0x00000000#32)

/-- A block of the gated sum. -/
def sumBlk (g0 g1 g2 a b d : FVec Ideal S512x1024 .f32) : FVec Ideal S512x1024 .f32 :=
  addf (addf (mulf g0 a) (mulf g1 b)) (mulf g2 d)

/-- A block of the residual and the projected sum. -/
def zBlk (x s : FVec Ideal S512x1024 .f32) (w : FVec Ideal S1024x1024 .bf16) : FVec Ideal S512x1024 .f32 :=
  addf (mulf (broadcast S512x1024 (Scalar.ofBits .f32 0x3FB504F3#32 : Ideal .f32)) x)
    (matmul dot_S512x1024_S1024x1024_S512x1024_1_0_0_1_n_n none (truncf .bf16 s bitsLt_bf16_f32)
      (shapeCast S1024x1024 w shapeCasts_S1024x1024_S1024x1024) (constant S512x1024 .f32 0x00000000#32))

/-- A block's rows about their means. -/
def cenBlk (z : FVec Ideal S512x1024 .f32) : FVec Ideal S512x1024 .f32 :=
  subf z (broadcastTo S512x1024 (divf (shapeCast S512x1 (multiReduction .add [1] S512 z 0x00000000#32 reduces_S512x1024_S512 (.inl rfl) rfl) shapeCasts_S512_S512x1)
    (broadcast S512x1 (Scalar.ofBits .f32 0x44800000#32 : Ideal .f32))) broadcasts_S512x1_S512x1024)

/-- The layer norm of a block. -/
def lnBlk (z : FVec Ideal S512x1024 .f32) (g b : FVec Ideal S1x1024 .f32) : FVec Ideal S512x1024 .f32 :=
  addf (mulf (mulf (cenBlk z) (broadcastTo S512x1024 (rsqrt (addf (divf (shapeCast S512x1 (multiReduction .add [1] S512 (mulf (cenBlk z) (cenBlk z)) 0x00000000#32 reduces_S512x1024_S512 (.inl rfl) rfl) shapeCasts_S512_S512x1)
      (broadcast S512x1 (Scalar.ofBits .f32 0x44800000#32 : Ideal .f32))) (broadcast S512x1 (Scalar.ofBits .f32 0x3727C5AC#32 : Ideal .f32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- A block's result. -/
def outBlk (x0 : FVec Ideal S512x1024 .bf16) (x1 x2 : FVec Ideal S512x512 .bf16) (x3 : FVec Ideal S512x1024 .f32) (w0 w1 w2 : FVec Ideal S1024x1024 .bf16)
    (x5 : FVec Ideal S1024x1024 .bf16) (x6 x7 : FVec Ideal S512x1024 .bf16) (x8 : FVec Ideal S1024x1024 .bf16) (x9 x10 : FVec Ideal S1x1024 .f32) : FVec Ideal S512x1024 .f32 :=
  lnBlk (zBlk x3 (sumBlk (gateBlk x3 w0) (gateBlk x3 w1) (gateBlk x3 w2) (wideBlk x0 x5) (slimBlk x1 x6) (slimBlk x2 x7)) x8) x9 x10

theorem pay_eq (x0 : FVec Ideal S512x1024 .bf16) (x1 x2 : FVec Ideal S512x512 .bf16) (x3 : FVec Ideal S512x1024 .f32) (w0 w1 w2 : FVec Ideal S1024x1024 .bf16)
    (x5 : FVec Ideal S1024x1024 .bf16) (x6 x7 : FVec Ideal S512x1024 .bf16) (x8 : FVec Ideal S1024x1024 .bf16) (x9 x10 : FVec Ideal S1x1024 .f32) :
    k0_pay50 (F := Ideal) (k0_pay42 (F := Ideal) (k0_pay17 (F := Ideal) (k0_pay5 (F := Ideal) x3) w2) (k0_pay24 (F := Ideal) x1 x6) (k0_pay25 (F := Ideal) x2 x7)
      (k0_pay40 (F := Ideal) (k0_pay8 (F := Ideal) x3 w0) (k0_pay21 (F := Ideal) x0 x5)) (k0_pay41 (F := Ideal) (k0_pay13 (F := Ideal) (k0_pay5 (F := Ideal) x3) w1))
      (Scalar.ofBits .f32 0x3F800000#32) x8) x3 x9 x10 = outBlk x0 x1 x2 x3 w0 w1 w2 x5 x6 x7 x8 x9 x10 := rfl

/-- The layer norm of a block is the reference's over the same rows. -/
theorem norm_eq (z : FVec Ideal S512x1024 .f32) (v28 v30 : FVec Ideal S1x1024 .f32) (Z : FVec Ideal Cert.Reference4Ideal.S32768x1024 .f32)
    (g b : FVec Ideal Cert.Reference4Ideal.S1024 .f32) (r : Fin 512) (p : Fin 32768) (hz : ∀ k : Fin 1024, z (ix2 r k) = Z (ix2 p k))
    (hg : ∀ k : Fin 1024, v28 (ix2 0 k) = g (ix1 k)) (hb : ∀ k : Fin 1024, v30 (ix2 0 k) = b (ix1 k)) (j : Fin 1024) :
    lnBlk z v28 v30 (ix2 r j) = Comb.lnOf Z g b (ix2 p j) := by
  pointwise [lnBlk, cenBlk, Comb.lnOf, Comb.cenOf, Comb.meanOf]
  simp only [hz, hg, hb, zero_add]

theorem wide_eq (h : FVec Ideal S512x1024 .bf16) (w : FVec Ideal S1024x1024 .bf16) (H : FVec Ideal Cert.Reference4Ideal.S32768x1024 .bf16)
    (W : FVec Ideal Cert.Reference4Ideal.S1024x1024 .f32) (r : Fin 512) (p : Fin 32768) (hh : ∀ k : Fin 1024, h (ix2 r k) = H (ix2 p k))
    (hw : ∀ k j : Fin 1024, w (ix2 k j) = W (ix2 k j)) (j : Fin 1024) : wideBlk h w (ix2 r j) = wideOf H W (ix2 p j) := by
  pointwise [wideBlk, wideOf]
  simp only [hh, hw, zero_add]

theorem slim_eq (h : FVec Ideal S512x512 .bf16) (w : FVec Ideal S512x1024 .bf16) (H : FVec Ideal Cert.Reference4Ideal.S32768x512 .bf16)
    (W : FVec Ideal Cert.Reference4Ideal.S512x1024 .f32) (r : Fin 512) (p : Fin 32768) (hh : ∀ k : Fin 512, h (ix2 r k) = H (ix2 p k))
    (hw : ∀ (k : Fin 512) (j : Fin 1024), w (ix2 k j) = W (ix2 k j)) (j : Fin 1024) : slimBlk h w (ix2 r j) = slimOf H W (ix2 p j) := by
  pointwise [slimBlk, slimOf]
  simp only [hh, hw, zero_add]

theorem z_eq (x s : FVec Ideal S512x1024 .f32) (w : FVec Ideal S1024x1024 .bf16) (X S : FVec Ideal Cert.Reference4Ideal.S32768x1024 .f32)
    (W : FVec Ideal Cert.Reference4Ideal.S1024x1024 .f32) (r : Fin 512) (p : Fin 32768) (hx : ∀ k : Fin 1024, x (ix2 r k) = X (ix2 p k))
    (hs : ∀ k : Fin 1024, s (ix2 r k) = S (ix2 p k)) (hw : ∀ k j : Fin 1024, w (ix2 k j) = W (ix2 k j)) (j : Fin 1024) :
    zBlk x s w (ix2 r j) = zOf X S W (ix2 p j) := by
  pointwise [zBlk, zOf]
  simp only [hx, hs, hw, zero_add]

/-- A gate's block is its columns of the gates, where the weights are. -/
theorem gate_eq (o : Nat) (ho : o + 1024 ≤ 3072) (x : FVec Ideal S512x1024 .f32) (w : FVec Ideal S1024x1024 .bf16) (X : FVec Ideal Cert.Reference4Ideal.S32768x1024 .f32)
    (W : FVec Ideal Cert.Reference4Ideal.S1024x8728 .f32) (r : Fin 512) (p : Fin 32768) (hx : ∀ k : Fin 1024, x (ix2 r k) = X (ix2 p k))
    (hw : ∀ k j : Fin 1024, w (ix2 k j) = W (ix2 k ⟨5656 + (o + j.val), by omega⟩)) (j : Fin 1024) :
    gateBlk x w (ix2 r j) = gatesOf X W (ix2 p ⟨o + j.val, by omega⟩) := by
  pointwise [gateBlk, gatesOf]
  simp only [hx, hw, zero_add, zero_sub]

theorem sum_eq (g0 g1 g2 a b d : FVec Ideal S512x1024 .f32) (G : FVec Ideal Cert.Reference4Ideal.S32768x3072 .f32) (A B D : FVec Ideal Cert.Reference4Ideal.S32768x1024 .f32)
    (r : Fin 512) (p : Fin 32768) (j : Fin 1024)
    (h0 : g0 (ix2 r j) = G (ix2 p ⟨j.val, by omega⟩)) (h1 : g1 (ix2 r j) = G (ix2 p ⟨1024 + j.val, by omega⟩)) (h2 : g2 (ix2 r j) = G (ix2 p ⟨2048 + j.val, by omega⟩))
    (ha : a (ix2 r j) = A (ix2 p j)) (hb : b (ix2 r j) = B (ix2 p j)) (hd : d (ix2 r j) = D (ix2 p j)) :
    sumBlk g0 g1 g2 a b d (ix2 r j) = sumOf G A B D (ix2 p j) := by
  pointwise [sumBlk, sumOf]
  simp only [h0, h1, h2, ha, hb, hd]

end Cert.Proof.Merge

end
-- ==== Proof.MergeFinal.lean ====
/-
  The merging call over its grid at the ideal instance: its rows are the reference's.
-/
module

public import proofs.«01_k».proof.Proof.MergeValue
public import proofs.«01_k».proof.Proof.CombFinal

@[expose] public section

set_option maxRecDepth 16384

noncomputable section

namespace Cert.Proof.Merge

open Cert.Kernel4Ideal Cert.Kernel4Ideal.Gen
open Idealize.ShloMosaic Idealize.ShloMosaic.TcCoe

/-! ## The blocks of the arrays -/

theorem crd (t : Fin cfg0.N) : (cfg0.grid.coords t 0).val = t.val := by
  have h : t.val < 65 := t.isLt
  rw [Pipeline.Grid.coords_val t 0 (S := 1) (B := 65) (show grid0.stride 0 = 1 by decide) rfl]
  omega

theorem least_word (n : Fin 65) : (Scalar.minsi (BitVec.ofNat 32 n.val) 63#32).toNat = min n.val 63 := by
  revert n; decide

/-- Which block of rows a point works on: the last is worked on twice. -/
theorem least (t : Fin cfg0.N) : (Scalar.minsi (BitVec.ofNat 32 (cfg0.grid.coords t 0).val) 63#32).toNat = min t.val 63 := by
  rw [crd]; exact least_word ⟨t.val, t.isLt⟩

variable (m : (ℓ : Loc nD τ sig) → Buf (Elt Ideal) ℓ) (c : Dev nD)

theorem index_0 (t : Fin cfg0.N) : (cfg0.win 0).index t = ![min t.val 63, 0] :=
  congrArg (fun n : Nat => (![n, 0] : Fin 2 → Nat)) (least t)
theorem read_0 (t : Fin cfg0.N) (r : Fin 512) (q : Fin 1024) (p : Fin 32768) (hp : p.val = min t.val 63 * 512 + r.val) :
    (iblk m c 0 t : FVec Ideal S512x1024 .bf16) (ix2 r q) = m ((c.tc : Thread nD τ).loc main_arg0) (ix2 p q) := by
  refine Eq.trans (congrArg (V m c main_arg0) (funext fun x => Fin.ext ?_)) (congrFun (V_main_arg0 m c) (ix2 p q))
  refine (Pipeline.Window.rect_emb_val (cfg0.win 0) t _ x).trans ?_
  rw [index_0]
  match x with
  | ⟨0, _⟩ => exact hp.symm
  | ⟨1, _⟩ => exact Comb.zero_row _ _
theorem index_1 (t : Fin cfg0.N) : (cfg0.win 1).index t = ![min t.val 63, 0] :=
  congrArg (fun n : Nat => (![n, 0] : Fin 2 → Nat)) (least t)
theorem read_1 (t : Fin cfg0.N) (r : Fin 512) (q : Fin 512) (p : Fin 32768) (hp : p.val = min t.val 63 * 512 + r.val) :
    (iblk m c 1 t : FVec Ideal S512x512 .bf16) (ix2 r q) = m ((c.tc : Thread nD τ).loc main_arg1) (ix2 p q) := by
  refine Eq.trans (congrArg (V m c main_arg1) (funext fun x => Fin.ext ?_)) (congrFun (V_main_arg1 m c) (ix2 p q))
  refine (Pipeline.Window.rect_emb_val (cfg0.win 1) t _ x).trans ?_
  rw [index_1]
  match x with
  | ⟨0, _⟩ => exact hp.symm
  | ⟨1, _⟩ => exact Comb.zero_row _ _
theorem index_2 (t : Fin cfg0.N) : (cfg0.win 2).index t = ![min t.val 63, 0] :=
  congrArg (fun n : Nat => (![n, 0] : Fin 2 → Nat)) (least t)
theorem read_2 (t : Fin cfg0.N) (r : Fin 512) (q : Fin 512) (p : Fin 32768) (hp : p.val = min t.val 63 * 512 + r.val) :
    (iblk m c 2 t : FVec Ideal S512x512 .bf16) (ix2 r q) = m ((c.tc : Thread nD τ).loc main_arg2) (ix2 p q) := by
  refine Eq.trans (congrArg (V m c main_arg2) (funext fun x => Fin.ext ?_)) (congrFun (V_main_arg2 m c) (ix2 p q))
  refine (Pipeline.Window.rect_emb_val (cfg0.win 2) t _ x).trans ?_
  rw [index_2]
  match x with
  | ⟨0, _⟩ => exact hp.symm
  | ⟨1, _⟩ => exact Comb.zero_row _ _
theorem index_3 (t : Fin cfg0.N) : (cfg0.win 3).index t = ![min t.val 63, 0] :=
  congrArg (fun n : Nat => (![n, 0] : Fin 2 → Nat)) (least t)
theorem read_3 (t : Fin cfg0.N) (r : Fin 512) (q : Fin 1024) (p : Fin 32768) (hp : p.val = min t.val 63 * 512 + r.val) :
    (iblk m c 3 t : FVec Ideal S512x1024 .f32) (ix2 r q) = m ((c.tc : Thread nD τ).loc main_arg3) (ix2 p q) := by
  refine Eq.trans (congrArg (V m c main_arg3) (funext fun x => Fin.ext ?_)) (congrFun (V_main_arg3 m c) (ix2 p q))
  refine (Pipeline.Window.rect_emb_val (cfg0.win 3) t _ x).trans ?_
  rw [index_3]
  match x with
  | ⟨0, _⟩ => exact hp.symm
  | ⟨1, _⟩ => exact Comb.zero_row _ _

theorem gate_weights : V m c main_v1 = (truncf .bf16 (extractStridedSlice S1024x3072 ![0, 5656] (m ((c.tc : Thread nD τ).loc main_arg4)) slices_S1024x8728_S1024x3072_0_5656) bitsLt_bf16_f32 : FVec Ideal S1024x3072 .bf16) := by
  unfold V hostOps0
  after_results_simp
theorem weights_v10 : V m c main_v10 = (truncf .bf16 (m ((c.tc : Thread nD τ).loc main_arg5) : FVec Ideal S1024x1024 .f32) bitsLt_bf16_f32 : FVec Ideal S1024x1024 .bf16) := by
  unfold V hostOps0
  after_results_simp
theorem weights_v11 : V m c main_v11 = (truncf .bf16 (m ((c.tc : Thread nD τ).loc main_arg6) : FVec Ideal S512x1024 .f32) bitsLt_bf16_f32 : FVec Ideal S512x1024 .bf16) := by
  unfold V hostOps0
  after_results_simp
theorem weights_v12 : V m c main_v12 = (truncf .bf16 (m ((c.tc : Thread nD τ).loc main_arg7) : FVec Ideal S512x1024 .f32) bitsLt_bf16_f32 : FVec Ideal S512x1024 .bf16) := by
  unfold V hostOps0
  after_results_simp
theorem weights_v13 : V m c main_v13 = (truncf .bf16 (m ((c.tc : Thread nD τ).loc main_arg8) : FVec Ideal S1024x1024 .f32) bitsLt_bf16_f32 : FVec Ideal S1024x1024 .bf16) := by
  unfold V hostOps0
  after_results_simp
theorem row_v14 : V m c main_v14 = (shapeCast S1x1024 (m ((c.tc : Thread nD τ).loc main_arg9) : FVec Ideal S1024 .f32) shapeCasts_S1024_S1x1024 : FVec Ideal S1x1024 .f32) := by
  unfold V hostOps0
  after_results_simp
  rfl
theorem row_v15 : V m c main_v15 = (shapeCast S1x1024 (m ((c.tc : Thread nD τ).loc main_arg10) : FVec Ideal S1024 .f32) shapeCasts_S1024_S1x1024 : FVec Ideal S1x1024 .f32) := by
  unfold V hostOps0
  after_results_simp
  rfl

theorem read_4 (t : Fin cfg0.N) (k : Fin 1024) (q : Fin 3072) : (iblk m c 4 t : FVec Ideal S1024x3072 .bf16) (ix2 k q) = V m c main_v1 (ix2 k q) := by
  refine congrArg (V m c main_v1) (funext fun x => Fin.ext ?_)
  refine (Pipeline.Window.rect_emb_val (cfg0.win 4) t _ x).trans ?_
  rw [show (cfg0.win 4).index t = ![0, 0] from rfl]
  match x with
  | ⟨0, _⟩ => exact Comb.zero_row _ _
  | ⟨1, _⟩ => exact Comb.zero_row _ _
theorem read_5 (t : Fin cfg0.N) (k : Fin 1024) (q : Fin 1024) : (iblk m c 5 t : FVec Ideal S1024x1024 .bf16) (ix2 k q) = V m c main_v10 (ix2 k q) := by
  refine congrArg (V m c main_v10) (funext fun x => Fin.ext ?_)
  refine (Pipeline.Window.rect_emb_val (cfg0.win 5) t _ x).trans ?_
  rw [show (cfg0.win 5).index t = ![0, 0] from rfl]
  match x with
  | ⟨0, _⟩ => exact Comb.zero_row _ _
  | ⟨1, _⟩ => exact Comb.zero_row _ _
theorem read_6 (t : Fin cfg0.N) (k : Fin 512) (q : Fin 1024) : (iblk m c 6 t : FVec Ideal S512x1024 .bf16) (ix2 k q) = V m c main_v11 (ix2 k q) := by
  refine congrArg (V m c main_v11) (funext fun x => Fin.ext ?_)
  refine (Pipeline.Window.rect_emb_val (cfg0.win 6) t _ x).trans ?_
  rw [show (cfg0.win 6).index t = ![0, 0] from rfl]
  match x with
  | ⟨0, _⟩ => exact Comb.zero_row _ _
  | ⟨1, _⟩ => exact Comb.zero_row _ _
theorem read_7 (t : Fin cfg0.N) (k : Fin 512) (q : Fin 1024) : (iblk m c 7 t : FVec Ideal S512x1024 .bf16) (ix2 k q) = V m c main_v12 (ix2 k q) := by
  refine congrArg (V m c main_v12) (funext fun x => Fin.ext ?_)
  refine (Pipeline.Window.rect_emb_val (cfg0.win 7) t _ x).trans ?_
  rw [show (cfg0.win 7).index t = ![0, 0] from rfl]
  match x with
  | ⟨0, _⟩ => exact Comb.zero_row _ _
  | ⟨1, _⟩ => exact Comb.zero_row _ _
theorem read_8 (t : Fin cfg0.N) (k : Fin 1024) (q : Fin 1024) : (iblk m c 8 t : FVec Ideal S1024x1024 .bf16) (ix2 k q) = V m c main_v13 (ix2 k q) := by
  refine congrArg (V m c main_v13) (funext fun x => Fin.ext ?_)
  refine (Pipeline.Window.rect_emb_val (cfg0.win 8) t _ x).trans ?_
  rw [show (cfg0.win 8).index t = ![0, 0] from rfl]
  match x with
  | ⟨0, _⟩ => exact Comb.zero_row _ _
  | ⟨1, _⟩ => exact Comb.zero_row _ _
theorem read_9 (t : Fin cfg0.N) (k : Fin 1) (q : Fin 1024) : (iblk m c 9 t : FVec Ideal S1x1024 .f32) (ix2 k q) = V m c main_v14 (ix2 k q) := by
  refine congrArg (V m c main_v14) (funext fun x => Fin.ext ?_)
  refine (Pipeline.Window.rect_emb_val (cfg0.win 9) t _ x).trans ?_
  rw [show (cfg0.win 9).index t = ![0, 0] from rfl]
  match x with
  | ⟨0, _⟩ => exact Comb.zero_row _ _
  | ⟨1, _⟩ => exact Comb.zero_row _ _
theorem read_10 (t : Fin cfg0.N) (k : Fin 1) (q : Fin 1024) : (iblk m c 10 t : FVec Ideal S1x1024 .f32) (ix2 k q) = V m c main_v15 (ix2 k q) := by
  refine congrArg (V m c main_v15) (funext fun x => Fin.ext ?_)
  refine (Pipeline.Window.rect_emb_val (cfg0.win 10) t _ x).trans ?_
  rw [show (cfg0.win 10).index t = ![0, 0] from rfl]
  match x with
  | ⟨0, _⟩ => exact Comb.zero_row _ _
  | ⟨1, _⟩ => exact Comb.zero_row _ _

theorem emb_13 (t : Fin cfg0.N) (r : Fin 512) (q : Fin 1024) (p : Fin 32768) (hp : p.val = min t.val 63 * 512 + r.val) :
    ((cfg0.win 13).blk t).view.emb (ix2 r q) = (ix2 p q : S32768x1024.Idx) := by
  refine funext fun x => Fin.ext ?_
  refine (Pipeline.Window.rect_emb_val (cfg0.win 13) t _ x).trans ?_
  rw [show (cfg0.win 13).index t = ![min t.val 63, 0] from congrArg (fun n : Nat => (![n, 0] : Fin 2 → Nat)) (least t)]
  match x with
  | ⟨0, _⟩ => exact hp.symm
  | ⟨1, _⟩ => exact Comb.zero_row _ _

theorem covers : (cfg0.win 13).Covers := by decide +kernel

/-! ## What a point leaves -/

theorem columns (x4 : FVec Ideal S1024x3072 .bf16) (o : Nat) (inb) (k q : Fin 1024) (h : o + q.val < 3072) :
    (View.ld (Val := Elt Ideal) (e' := .bf16) x4 (Rect.unit (s := S1024x3072) ![0, o] ![1024, 1024] inb) : FVec Ideal S1024x1024 .bf16) (ix2 k q) = x4 (ix2 k ⟨o + q.val, h⟩) := by
  refine congrArg x4 (funext fun x => Fin.ext ?_)
  refine (ValueKit.rect_emb_unit_val _ _ _ _ _).trans ?_
  match x with
  | ⟨0, _⟩ => exact Nat.zero_add _
  | ⟨1, _⟩ => rfl

/-- A point's result, of the blocks it reads. -/
abbrev made (x0 : FVec Ideal S512x1024 .bf16) (x1 x2 : FVec Ideal S512x512 .bf16) (x3 : FVec Ideal S512x1024 .f32) (x4 : FVec Ideal S1024x3072 .bf16)
    (x5 : FVec Ideal S1024x1024 .bf16) (x6 x7 : FVec Ideal S512x1024 .bf16) (x8 : FVec Ideal S1024x1024 .bf16) (x9 x10 : FVec Ideal S1x1024 .f32) : FVec Ideal S512x1024 .f32 :=
  outBlk x0 x1 x2 x3 (View.ld (Val := Elt Ideal) (e' := .bf16) x4 (Rect.unit (s := S1024x3072) ![0, 0] ![1024, 1024] inb_S1024x3072_S1024x1024_0_0))
    (View.ld (Val := Elt Ideal) (e' := .bf16) x4 (Rect.unit (s := S1024x3072) ![0, 1024] ![1024, 1024] inb_S1024x3072_S1024x1024_0_1024))
    (View.ld (Val := Elt Ideal) (e' := .bf16) x4 (Rect.unit (s := S1024x3072) ![0, 2048] ![1024, 1024] inb_S1024x3072_S1024x1024_0_2048)) x5 x6 x7 x8 x9 x10

set_option maxHeartbeats 1000000 in
theorem left_A (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x3072 .bf16) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1x128 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x128 .f32) (harg17 : arg17.IsWhole) (arg18 : Memref sig .tc .vmem S512x1024 .f32) (harg18 : arg18.IsWhole) (arg19 : Memref sig .tc .vmem S1x128 .f32) (harg19 : arg19.IsWhole) (hc0 : cond0_0 i)
    (x0 : Vec Ideal S512x1024 .bf16) (x1 : Vec Ideal S512x512 .bf16) (x2 : Vec Ideal S512x512 .bf16) (x3 : Vec Ideal S512x1024 .f32) (x4 : Vec Ideal S1024x3072 .bf16) (x5 : Vec Ideal S1024x1024 .bf16) (x6 : Vec Ideal S512x1024 .bf16) (x7 : Vec Ideal S512x1024 .bf16) (x8 : Vec Ideal S1024x1024 .bf16) (x9 : Vec Ideal S1x1024 .f32) (x10 : Vec Ideal S1x1024 .f32) (x11 : Vec Ideal S1024x128 .f32) (x12 : Vec Ideal S1x128 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = made x0 x1 x2 x3 x4 x5 x6 x7 x8 x9 x10 := by
  unfold made
  rw [← pay_eq]
  frame_out

set_option maxHeartbeats 1000000 in
theorem left_B (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x3072 .bf16) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1x128 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x128 .f32) (harg17 : arg17.IsWhole) (arg18 : Memref sig .tc .vmem S512x1024 .f32) (harg18 : arg18.IsWhole) (arg19 : Memref sig .tc .vmem S1x128 .f32) (harg19 : arg19.IsWhole) (hc0 : ¬cond0_0 i)
    (x0 : Vec Ideal S512x1024 .bf16) (x1 : Vec Ideal S512x512 .bf16) (x2 : Vec Ideal S512x512 .bf16) (x3 : Vec Ideal S512x1024 .f32) (x4 : Vec Ideal S1024x3072 .bf16) (x5 : Vec Ideal S1024x1024 .bf16) (x6 : Vec Ideal S512x1024 .bf16) (x7 : Vec Ideal S512x1024 .bf16) (x8 : Vec Ideal S1024x1024 .bf16) (x9 : Vec Ideal S1x1024 .f32) (x10 : Vec Ideal S1x1024 .f32) (x11 : Vec Ideal S1024x128 .f32) (x12 : Vec Ideal S1x128 .f32) (xs0 : Vec Ideal S512x1024 .f32) (xs1 : Vec Ideal S1x128 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 xs1 = made x0 x1 x2 x3 x4 x5 x6 x7 x8 x9 x10 := by
  unfold made
  rw [← pay_eq]
  frame_out

/-- The block that a point leaves, of the blocks it reads. -/
abbrev madeAt (t : Fin cfg0.N) : FVec Ideal S512x1024 .f32 :=
  made (iblk m c 0 t) (iblk m c 1 t) (iblk m c 2 t) (iblk m c 3 t) (iblk m c 4 t) (iblk m c 5 t) (iblk m c 6 t) (iblk m c 7 t) (iblk m c 8 t) (iblk m c 9 t) (iblk m c 10 t)

set_option maxHeartbeats 1000000 in
theorem left (t : Fin cfg0.N) : (dats m 0 c).after 13 t = madeAt m c t := by
  rw [after0_13]
  by_cases h0 : t.val % 65 = 0
  · rw [outsAt0_A m c t h0]
    dsimp only
    rw [left_A]
  · rw [outsAt0_B m c t h0]
    dsimp only
    rw [left_B]

/-! ## The call's result -/

theorem flat (g : FVec Ideal S1024 .f32) (k : Fin 1024) : shapeCast S1x1024 g shapeCasts_S1024_S1x1024 (ix2 (0 : Fin 1) k) = g (ix1 k) := by
  pointwise

/-- The reference's result of the call's arguments. -/
abbrev want : FVec Ideal S32768x1024 .f32 :=
  Comb.lnOf (zOf (m ((c.tc : Thread nD τ).loc main_arg3))
    (sumOf (gatesOf (m ((c.tc : Thread nD τ).loc main_arg3)) (m ((c.tc : Thread nD τ).loc main_arg4)))
      (wideOf (m ((c.tc : Thread nD τ).loc main_arg0)) (m ((c.tc : Thread nD τ).loc main_arg5)))
      (slimOf (m ((c.tc : Thread nD τ).loc main_arg1)) (m ((c.tc : Thread nD τ).loc main_arg6)))
      (slimOf (m ((c.tc : Thread nD τ).loc main_arg2)) (m ((c.tc : Thread nD τ).loc main_arg7))))
    (m ((c.tc : Thread nD τ).loc main_arg8))) (m ((c.tc : Thread nD τ).loc main_arg9)) (m ((c.tc : Thread nD τ).loc main_arg10))

/-- A gate's weights are the argument's columns. -/
theorem gate_columns (t : Fin cfg0.N) (o : Nat) (inb) (ho : o + 1024 ≤ 3072) (k q : Fin 1024) :
    (View.ld (Val := Elt Ideal) (e' := .bf16) (iblk m c 4 t : FVec Ideal S1024x3072 .bf16) (Rect.unit (s := S1024x3072) ![0, o] ![1024, 1024] inb) : FVec Ideal S1024x1024 .bf16) (ix2 k q)
      = m ((c.tc : Thread nD τ).loc main_arg4) (ix2 k ⟨5656 + (o + q.val), by omega⟩) := by
  refine (columns _ o inb k q (by omega)).trans ((read_4 m c t k _).trans ((congrFun (gate_weights m c) _).trans ?_))
  refine congrArg (m ((c.tc : Thread nD τ).loc main_arg4)) (funext fun x => Fin.ext ?_)
  match x with
  | ⟨0, _⟩ => exact Nat.zero_add _
  | ⟨1, _⟩ => rfl

theorem point (t : Fin cfg0.N) (r : Fin 512) (j : Fin 1024) (p : Fin 32768) (hp : p.val = min t.val 63 * 512 + r.val) :
    madeAt m c t (ix2 r j) = want m c (ix2 p j) := by
  have hx : ∀ k : Fin 1024, (iblk m c 3 t : FVec Ideal S512x1024 .f32) (ix2 r k) = m ((c.tc : Thread nD τ).loc main_arg3) (ix2 p k) := fun k => read_3 m c t r k p hp
  unfold madeAt made outBlk
  refine norm_eq _ _ _ _ _ _ r p (fun k => ?_) (fun k => ?_) (fun k => ?_) j
  · refine z_eq _ _ _ _ _ _ r p hx (fun k => ?_) (fun k q => ?_) k
    · refine sum_eq _ _ _ _ _ _ _ _ _ _ r p k ?_ ?_ ?_ ?_ ?_ ?_
      · refine (gate_eq 0 (by omega) _ _ _ _ r p hx (fun k q => gate_columns m c t 0 _ (by omega) k q) k).trans ?_
        exact congrArg (fun y : Fin 3072 => gatesOf _ _ (ix2 p y)) (Fin.ext (Nat.zero_add _))
      · exact gate_eq 1024 (by omega) _ _ _ _ r p hx (fun k q => gate_columns m c t 1024 _ (by omega) k q) k
      · exact gate_eq 2048 (by omega) _ _ _ _ r p hx (fun k q => gate_columns m c t 2048 _ (by omega) k q) k
      · exact wide_eq _ _ _ _ r p (fun l => read_0 m c t r l p hp) (fun l q => (read_5 m c t l q).trans (congrFun (weights_v10 m c) _)) k
      · exact slim_eq _ _ _ _ r p (fun l => read_1 m c t r l p hp) (fun l q => (read_6 m c t l q).trans (congrFun (weights_v11 m c) _)) k
      · exact slim_eq _ _ _ _ r p (fun l => read_2 m c t r l p hp) (fun l q => (read_7 m c t l q).trans (congrFun (weights_v12 m c) _)) k
    · exact (read_8 m c t k q).trans (congrFun (weights_v13 m c) _)
  · exact (read_9 m c t 0 k).trans ((congrFun (row_v14 m c) _).trans (flat _ k))
  · exact (read_10 m c t 0 k).trans ((congrFun (row_v15 m c) _).trans (flat _ k))

theorem block (t : Fin cfg0.N) (y : S512x1024.Idx) : (dats m 0 c).after 13 t y = want m c (((cfg0.win 13).blk t).view.emb y) := by
  have e : y = ix2 (y 0) (y 1) := funext fun x => match x with
    | ⟨0, _⟩ => rfl
    | ⟨1, _⟩ => rfl
  have hy : (y 0).val < 512 := (y 0).isLt
  refine (congrFun (left m c t) y).trans ?_
  rw [e]
  exact (point m c t (y 0) (y 1) ⟨min t.val 63 * 512 + (y 0).val, by omega⟩ rfl).trans
    (congrArg (want m c) (emb_13 t (y 0) (y 1) ⟨min t.val 63 * 512 + (y 0).val, by omega⟩ rfl).symm)

theorem final : (dats m 0 c).arrAt 13 cfg0.N = want m c :=
  (dats m 0 c).arrAt_eq_of_covers 13 (want m c) covers fun t _ y => block m c t y

/-! ## The cast result -/

/-- What the cast of a point's block is, over the payload that is stored. -/
theorem cast_eq (x0 : FVec Ideal S512x1024 .bf16) (x1 x2 : FVec Ideal S512x512 .bf16) (x3 : FVec Ideal S512x1024 .f32) (w0 w1 w2 : FVec Ideal S1024x1024 .bf16)
    (x5 : FVec Ideal S1024x1024 .bf16) (x6 x7 : FVec Ideal S512x1024 .bf16) (x8 : FVec Ideal S1024x1024 .bf16) (x9 x10 : FVec Ideal S1x1024 .f32) :
    k0_pay51 (F := Ideal) (k0_pay42 (F := Ideal) (k0_pay17 (F := Ideal) (k0_pay5 (F := Ideal) x3) w2) (k0_pay24 (F := Ideal) x1 x6) (k0_pay25 (F := Ideal) x2 x7)
      (k0_pay40 (F := Ideal) (k0_pay8 (F := Ideal) x3 w0) (k0_pay21 (F := Ideal) x0 x5)) (k0_pay41 (F := Ideal) (k0_pay13 (F := Ideal) (k0_pay5 (F := Ideal) x3) w1))
      (Scalar.ofBits .f32 0x3F800000#32) x8) x3 x9 x10 = truncf .bf16 (outBlk x0 x1 x2 x3 w0 w1 w2 x5 x6 x7 x8 x9 x10) bitsLt_bf16_f32 := rfl

set_option maxHeartbeats 1000000 in
theorem cast_A (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x3072 .bf16) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1x128 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x128 .f32) (harg17 : arg17.IsWhole) (arg18 : Memref sig .tc .vmem S512x1024 .f32) (harg18 : arg18.IsWhole) (arg19 : Memref sig .tc .vmem S1x128 .f32) (harg19 : arg19.IsWhole) (hc0 : cond0_0 i)
    (x0 : Vec Ideal S512x1024 .bf16) (x1 : Vec Ideal S512x512 .bf16) (x2 : Vec Ideal S512x512 .bf16) (x3 : Vec Ideal S512x1024 .f32) (x4 : Vec Ideal S1024x3072 .bf16) (x5 : Vec Ideal S1024x1024 .bf16) (x6 : Vec Ideal S512x1024 .bf16) (x7 : Vec Ideal S512x1024 .bf16) (x8 : Vec Ideal S1024x1024 .bf16) (x9 : Vec Ideal S1x1024 .f32) (x10 : Vec Ideal S1x1024 .f32) (x11 : Vec Ideal S1024x128 .f32) (x12 : Vec Ideal S1x128 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = (truncf .bf16 (made x0 x1 x2 x3 x4 x5 x6 x7 x8 x9 x10) bitsLt_bf16_f32 : FVec Ideal S512x1024 .bf16) := by
  unfold made
  rw [← cast_eq]
  frame_out

set_option maxHeartbeats 1000000 in
theorem cast_B (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x3072 .bf16) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1x128 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x128 .f32) (harg17 : arg17.IsWhole) (arg18 : Memref sig .tc .vmem S512x1024 .f32) (harg18 : arg18.IsWhole) (arg19 : Memref sig .tc .vmem S1x128 .f32) (harg19 : arg19.IsWhole) (hc0 : ¬cond0_0 i)
    (x0 : Vec Ideal S512x1024 .bf16) (x1 : Vec Ideal S512x512 .bf16) (x2 : Vec Ideal S512x512 .bf16) (x3 : Vec Ideal S512x1024 .f32) (x4 : Vec Ideal S1024x3072 .bf16) (x5 : Vec Ideal S1024x1024 .bf16) (x6 : Vec Ideal S512x1024 .bf16) (x7 : Vec Ideal S512x1024 .bf16) (x8 : Vec Ideal S1024x1024 .bf16) (x9 : Vec Ideal S1x1024 .f32) (x10 : Vec Ideal S1x1024 .f32) (x11 : Vec Ideal S1024x128 .f32) (x12 : Vec Ideal S1x128 .f32) (xs0 : Vec Ideal S512x1024 .f32) (xs1 : Vec Ideal S1x128 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 xs1 = (truncf .bf16 (made x0 x1 x2 x3 x4 x5 x6 x7 x8 x9 x10) bitsLt_bf16_f32 : FVec Ideal S512x1024 .bf16) := by
  unfold made
  rw [← cast_eq]
  frame_out

set_option maxHeartbeats 1000000 in
theorem cast_left (t : Fin cfg0.N) : (dats m 0 c).after 14 t = (truncf .bf16 (madeAt m c t) bitsLt_bf16_f32 : FVec Ideal S512x1024 .bf16) := by
  rw [after0_14]
  by_cases h0 : t.val % 65 = 0
  · rw [outsAt0_A m c t h0]
    dsimp only
    rw [cast_A]
  · rw [outsAt0_B m c t h0]
    dsimp only
    rw [cast_B]

theorem emb_14 (t : Fin cfg0.N) (r : Fin 512) (q : Fin 1024) (p : Fin 32768) (hp : p.val = min t.val 63 * 512 + r.val) :
    ((cfg0.win 14).blk t).view.emb (ix2 r q) = (ix2 p q : S32768x1024.Idx) := by
  refine funext fun x => Fin.ext ?_
  refine (Pipeline.Window.rect_emb_val (cfg0.win 14) t _ x).trans ?_
  rw [show (cfg0.win 14).index t = ![min t.val 63, 0] from congrArg (fun n : Nat => (![n, 0] : Fin 2 → Nat)) (least t)]
  match x with
  | ⟨0, _⟩ => exact hp.symm
  | ⟨1, _⟩ => exact Comb.zero_row _ _

theorem cast_covers : (cfg0.win 14).Covers := by decide +kernel

/-- The reference's second result. -/
abbrev wantCast : FVec Ideal S32768x1024 .bf16 := truncf .bf16 (want m c) bitsLt_bf16_f32

/-- A cast changes nothing at an index. -/
theorem cast_point (t : Fin cfg0.N) (r : Fin 512) (j : Fin 1024) (p : Fin 32768) (hp : p.val = min t.val 63 * 512 + r.val) :
    (truncf .bf16 (madeAt m c t) bitsLt_bf16_f32 : FVec Ideal S512x1024 .bf16) (ix2 r j) = wantCast m c (ix2 p j) :=
  point m c t r j p hp

theorem cast_block (t : Fin cfg0.N) (y : S512x1024.Idx) : (dats m 0 c).after 14 t y = wantCast m c (((cfg0.win 14).blk t).view.emb y) := by
  have e : y = ix2 (y 0) (y 1) := funext fun x => match x with
    | ⟨0, _⟩ => rfl
    | ⟨1, _⟩ => rfl
  have hy : (y 0).val < 512 := (y 0).isLt
  refine (congrFun (cast_left m c t) y).trans ?_
  rw [e]
  exact (cast_point m c t (y 0) (y 1) ⟨min t.val 63 * 512 + (y 0).val, by omega⟩ rfl).trans
    (congrArg (wantCast m c) (emb_14 t (y 0) (y 1) ⟨min t.val 63 * 512 + (y 0).val, by omega⟩ rfl).symm)

theorem cast_final : (dats m 0 c).arrAt 14 cfg0.N = wantCast m c :=
  (dats m 0 c).arrAt_eq_of_covers 14 (wantCast m c) cast_covers fun t _ y => cast_block m c t y

end Cert.Proof.Merge

end
-- ==== Proof.lean ====
/-
  The certificate of the rows' gather, 65536 rows of 512 words gathered out of a table of 147456 by thirty-two tiles, of
  the experts' blocks of rows, of the rows' weighted combination with its layer norm, and of the mixers' gated merge with
  its own.

  Each kernel's run (Proof/Launch.lean, Proof/ExpLaunch.lean, Proof/CombRun.lean and the printed frame of the merge) and each reference's (Proof/Rows.lean,
  Proof/ExpRun2.lean) is over any float values, so each claim at the ideal instance and at the words is one of them read at
  that instance.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Rows
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.CombRun
public import proofs.«01_k».proof.Proof.CombFinal
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.ExpLaunch
public import proofs.«01_k».proof.Proof.ExpRun2
public import proofs.«01_k».proof.Proof.ExpFinal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.MergeFinal
public import Idealize.ShloMosaic.Lib.Pipeline.Regions

@[expose] public section

noncomputable section

namespace Cert.Proof

open Idealize.ShloMosaic Idealize.SL.Sem

/-! ## The side conditions of the two programs that come without theirs -/

instance factsR : Cert.Reference.Facts where
  bcast_S_S65536 := by decide
  bcast_S65536_S65536x1_0 := by decide
  gather_S147456x512_S65536x1_S65536x512_1_0_n_n_0_1_1512_wf := by decide

instance factsPre : Cert.Pre_idx_in_rows.Facts where
  bcast_S_S65536 := by decide

/-! ## The precondition -/

/-- The precondition at one element, as it is computed, bounds the listed row. -/
theorem lt_of_and (v : BitVec 32) (e : IntOp.andi (IntOp.cmpi .sge v 0#32) (IntOp.cmpi .slt v 147456#32) = 1#1) : v.toNat < 147456 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

theorem rows_lt {F : FTy → Type} [FloatOps F] (t : IVec Cert.Pre_idx_in_rows.S147456x512 32) (i : IVec Cert.Pre_idx_in_rows.S65536 32)
    (h : Cert.Pre_idx_in_rows.fn (F := F) t i = fun _ => 1#1) (j : Cert.Pre_idx_in_rows.S65536.Idx) : (i j).toNat < 147456 := by
  have e := congrFun h j
  simp only [Cert.Pre_idx_in_rows.fn, andi, cmpi, broadcastInDim, constantI] at e
  exact lt_of_and _ e

/-- The reference's result is the gathered array. -/
theorem out_gat {F : FTy → Type} [FloatOps F] (m : (ℓ : Loc Cert.KernelIdeal.nD Cert.KernelIdeal.τ Cert.KernelIdeal.sig) → Buf (Elt F) ℓ) (h : Gather.PreOK m)
    (d : Dev Cert.KernelIdeal.nD) : Rows.out (F := F) (Gather.tbl m d) (Gather.lst m d) = Gather.gat m d := by
  funext y
  refine (Rows.out_at _ _ (h d) y).trans ?_
  exact congrArg (fun w : BitVec 32 => Gather.tbl m d (Gather.tix (Gather.rowOf w) (show Fin 512 from y 1))) (Gather.row_at m d (show Fin 65536 from y 0)).symm

/-! ## The claims -/

theorem frame_kernel : Cert.quiescent_Kernel := fun m ρ hpre =>
  (θ_run Cert.KernelIdeal.defs _ _).mono (fun _ h => ⟨fun c => ⟨(h.1 c).2.1, (h.1 c).2.2⟩, h.2⟩)
    (Gather.run_main (F := Bits) m ρ fun d j => rows_lt (F := Bits) _ _ (hpre d) j)

theorem frame_ideal : Cert.quiescent_KernelIdeal := fun m ρ hpre =>
  (θ_run Cert.KernelIdeal.defs _ _).mono (fun _ h => ⟨fun c => ⟨(h.1 c).2.1, (h.1 c).2.2⟩, h.2⟩)
    (Gather.run_main (F := Ideal) m ρ fun d j => rows_lt (F := Ideal) _ _ (hpre d) j)

theorem frame_reference_ideal : Cert.quiescent_ReferenceIdeal := fun m ρ _ =>
  (θ_run Cert.ReferenceIdeal.defs _ _).mono (fun _ h => ⟨fun c => (h.1 c).2, h.2⟩) (Rows.run_main (F := Ideal) m ρ)

theorem frame_reference_ideal_pre : Cert.quiescent_ReferenceIdeal_pre_idx_in_rows := fun m ρ _ =>
  (θ_run Cert.ReferenceIdeal.defs _ _).mono (fun _ h => ⟨fun c => (h.1 c).2, h.2⟩) (Rows.run_main (F := Ideal) m ρ)

theorem frame_reference : Cert.quiescent_Reference := fun m ρ _ =>
  (θ_run Cert.ReferenceIdeal.defs _ _).mono (fun _ h => ⟨fun c => (h.1 c).2, h.2⟩) (Rows.run_main (F := Bits) m ρ)

theorem algebraic : Cert.algebraic_KernelIdeal_ReferenceIdeal := by
  intro m ρ m' ρ' hpre hagree
  have hp : Gather.PreOK (F := Ideal) m := fun d j => rows_lt (F := Ideal) _ _ (hpre d) j
  refine ⟨fun c => Gather.gat m c, ?_, ?_⟩
  · exact (θ_run Cert.KernelIdeal.defs _ _).mono (fun _ h c => h.1 c) (Gather.run_main (F := Ideal) m ρ hp)
  · refine (θ_run Cert.ReferenceIdeal.defs _ _).mono (fun _ h c => ⟨(h.1 c).1.trans ?_, (h.1 c).2⟩) (Rows.run_main (F := Ideal) m' ρ')
    rw [(hagree c).1, (hagree c).2]
    exact out_gat m hp c

theorem bitexact : Cert.bitexact_Kernel_Reference := by
  intro m ρ m' ρ' hpre hagree
  have hp : Gather.PreOK (F := Bits) m := fun d j => rows_lt (F := Bits) _ _ (hpre d) j
  refine ⟨fun c => Gather.gat (F := Bits) m c, ?_, ?_⟩
  · exact (θ_run Cert.KernelIdeal.defs _ _).mono (fun _ h c => h.1 c) (Gather.run_main (F := Bits) m ρ hp)
  · refine (θ_run Cert.ReferenceIdeal.defs _ _).mono (fun _ h c => ⟨(h.1 c).1.trans ?_, (h.1 c).2⟩) (Rows.run_main (F := Bits) m' ρ')
    refine Eq.trans ?_ (out_gat (F := Bits) m hp c)
    exact congrArg₂ (Rows.out (F := Bits)) (hagree c).1 (hagree c).2

/-- The experts' frame over any float values, as the ideal reading states it. -/
def Framed (F : FTy → Type) [FloatOps F] : Prop :=
  ∀ (m : (ℓ : Loc Cert.Kernel2Ideal.nD Cert.Kernel2Ideal.τ Cert.Kernel2Ideal.sig) → Buf (Elt F) ℓ) (g : Dev Cert.Kernel2Ideal.nD → PrngReg), True →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

theorem framed (F : FTy → Type) [FloatOps F] : Framed F := fun m ρ _ =>
  (θ_run Cert.Kernel2Ideal.defs _ _).mono (fun _ h => ⟨fun c => (h.1 c).2, h.2⟩) (Experts.run_main (F := F) m ρ)

/-- The two texts are one. -/
theorem framed_bits : Cert.quiescent_Kernel2 = Framed Bits := by
  chain_rfl

theorem frame_kernel2 : Cert.quiescent_Kernel2 := framed_bits.mpr (framed Bits)

theorem frame_ideal2 : Cert.quiescent_Kernel2Ideal := fun m ρ _ =>
  (θ_run Cert.Kernel2Ideal.defs _ _).mono (fun _ h => ⟨fun c => (h.1 c).2, h.2⟩) (Experts.run_main (F := Ideal) m ρ)

theorem frame_reference2 : Cert.quiescent_Reference2Ideal := fun m ρ _ =>
  (θ_run Cert.Reference2Ideal.defs _ _).mono (fun _ h => ⟨fun c => (h.1 c).2, h.2⟩) (Plain.run_main (F := Ideal) m ρ)

theorem algebraic2 : Cert.algebraic_Kernel2Ideal_Reference2Ideal := by
  intro m ρ m' ρ' _ hagree
  refine ⟨fun c => (Experts.dats (Experts.aa m) (Experts.VV m) 0 c).arrAt 5 (Experts.cfgA (Experts.aa m)).N, ?_, ?_⟩
  · exact (θ_run Cert.Kernel2Ideal.defs _ _).mono (fun _ h c => h.1 c) (Experts.run_main (F := Ideal) m ρ)
  · refine (θ_run Cert.Reference2Ideal.defs _ _).mono (fun _ h c => ⟨(h.1 c).1.trans ?_, (h.1 c).2⟩) (Plain.run_main (F := Ideal) m' ρ')
    obtain rfl : c = 0 := Experts.dev_eq c
    obtain ⟨e0, e1, e2, e3, e4, e5⟩ := hagree 0
    refine Eq.trans ?_ (Same.final m).symm
    rw [e0, e1, e2, e3, e4, e5]

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem algebraic3 : Cert.algebraic_Kernel3Ideal_Reference3Ideal := by
  intro m ρ m' ρ' _ hagree
  refine ⟨fun c => Comb.want c m, ?_, ?_⟩
  · exact (θ_run Cert.Kernel3Ideal.defs _ _).mono (fun _ h c => ⟨(h.1 c).1.trans (Comb.final c m ρ), (h.1 c).2⟩) (Comb.run_main (F := Ideal) m ρ)
  · refine (θ_run Cert.Reference3Ideal.defs _ _).mono (fun _ h c => ⟨(h c).1.trans ?_, (h c).2⟩) (Cert.Reference3Ideal.Value.run (F := Ideal) m' ρ')
    obtain ⟨e0, e1, e2, e3, e4, e5⟩ := hagree c
    refine (Comb.reference_eq m' c).trans ?_
    rw [e0, e1, e2, e3, e4, e5]

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2.2, sem_eq_zero_of_no_sems (by decide) r.2⟩) (Cert.Reference4Ideal.Value.run (F := Ideal) m ρ)

theorem algebraic4 : Cert.algebraic_Kernel4Ideal_Reference4Ideal := by
  intro m ρ m' ρ' _ hagree
  refine ⟨fun c => Merge.want m c, fun c => Merge.wantCast m c, ?_, ?_⟩
  · exact (θ_run Cert.Kernel4Ideal.defs _ _).mono (fun _ h c => ⟨(h c).1.trans (Merge.final m c), (h c).2.1.trans (Merge.cast_final m c), (h c).2.2.2.2⟩) (Cert.Kernel4Ideal.Value.run_blocks (F := Ideal) m ρ)
  · refine (θ_run Cert.Reference4Ideal.defs _ _).mono (fun _ h c => ⟨(h c).1.trans ?_, (h c).2.1.trans ?_, (h c).2.2⟩) (Cert.Reference4Ideal.Value.run (F := Ideal) m' ρ')
    all_goals obtain ⟨e0, e1, e2, e3, e4, e5, e6, e7, e8, e9, e10, e11, e12⟩ := hagree c
    · refine (Merge.reference_eq m' c).trans ?_
      rw [e0, e1, e2, e3, e4, e5, e6, e7, e8, e9, e10]
    · refine (Merge.reference_cast m' c).trans ?_
      rw [e0, e1, e2, e3, e4, e5, e6, e7, e8, e9, e10]

theorem claim : Cert.Claim :=
  ⟨Cert.Kernel.Gen.facts, Cert.KernelIdeal.Gen.facts, Cert.ReferenceIdeal.Gen.facts, factsR, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, factsPre,
    frame_kernel, frame_ideal, frame_reference_ideal, frame_reference_ideal_pre, frame_reference, frame_kernel2, frame_ideal2, frame_reference2,
    frame_kernel3, frame_ideal3, frame_reference3, frame_kernel4, frame_ideal4, frame_reference4,
    trivial, algebraic, bitexact, trivial, algebraic2, trivial, algebraic3, trivial, algebraic4⟩

end Cert.Proof

end
